-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v14_0)) (v1 : (c : Dev Cert.Kernel9Ideal.nD) → Buf (Elt Ideal) ((c.tc : Thread Cert.Kernel9Ideal.nD Cert.Kernel9Ideal.τ).loc Cert.Kernel9Ideal.main_v14_1)) (v2 : (c : Dev Cert.Kernel9Ideal.nD) → Buf (Elt Ideal) ((c.tc : Thread Cert.Kernel9Ideal.nD Cert.Kernel9Ideal.τ).loc Cert.Kernel9Ideal.main_v14_2)) (v3 : (c : Dev Cert.Kernel9Ideal.nD) → Buf (Elt Ideal) ((c.tc : Thread Cert.Kernel9Ideal.nD Cert.Kernel9Ideal.τ).loc Cert.Kernel9Ideal.main_v14_3)) (v4 : (c : Dev Cert.Kernel9Ideal.nD) → Buf (Elt Ideal) ((c.tc : Thread Cert.Kernel9Ideal.nD Cert.Kernel9Ideal.τ).loc Cert.Kernel9Ideal.main_v14_4)) (v5 : (c : Dev Cert.Kernel9Ideal.nD) → Buf (Elt Ideal) ((c.tc : Thread Cert.Kernel9Ideal.nD Cert.Kernel9Ideal.τ).loc Cert.Kernel9Ideal.main_v14_5)) (v6 : (c : Dev Cert.Kernel9Ideal.nD) → Buf (Elt Ideal) ((c.tc : Thread Cert.Kernel9Ideal.nD Cert.Kernel9Ideal.τ).loc Cert.Kernel9Ideal.main_v14_6)) (v7 : (c : Dev Cert.Kernel9Ideal.nD) → Buf (Elt Ideal) ((c.tc : Thread Cert.Kernel9Ideal.nD Cert.Kernel9Ideal.τ).loc Cert.Kernel9Ideal.main_v14_7)) (v8 : (c : Dev Cert.Kernel9Ideal.nD) → Buf (Elt Ideal) ((c.tc : Thread Cert.Kernel9Ideal.nD Cert.Kernel9Ideal.τ).loc Cert.Kernel9Ideal.main_v14_8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14_0) = v0 c
          ∧ r.2.mem ((c.tc : Thread Cert.Kernel9Ideal.nD Cert.Kernel9Ideal.τ).loc Cert.Kernel9Ideal.main_v14_1) = v1 c
          ∧ r.2.mem ((c.tc : Thread Cert.Kernel9Ideal.nD Cert.Kernel9Ideal.τ).loc Cert.Kernel9Ideal.main_v14_2) = v2 c
          ∧ r.2.mem ((c.tc : Thread Cert.Kernel9Ideal.nD Cert.Kernel9Ideal.τ).loc Cert.Kernel9Ideal.main_v14_3) = v3 c
          ∧ r.2.mem ((c.tc : Thread Cert.Kernel9Ideal.nD Cert.Kernel9Ideal.τ).loc Cert.Kernel9Ideal.main_v14_4) = v4 c
          ∧ r.2.mem ((c.tc : Thread Cert.Kernel9Ideal.nD Cert.Kernel9Ideal.τ).loc Cert.Kernel9Ideal.main_v14_5) = v5 c
          ∧ r.2.mem ((c.tc : Thread Cert.Kernel9Ideal.nD Cert.Kernel9Ideal.τ).loc Cert.Kernel9Ideal.main_v14_6) = v6 c
          ∧ r.2.mem ((c.tc : Thread Cert.Kernel9Ideal.nD Cert.Kernel9Ideal.τ).loc Cert.Kernel9Ideal.main_v14_7) = v7 c
          ∧ r.2.mem ((c.tc : Thread Cert.Kernel9Ideal.nD Cert.Kernel9Ideal.τ).loc Cert.Kernel9Ideal.main_v14_8) = v8 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v85) = v0 c
          ∧ r.2.mem ((c.tc : Thread Cert.Reference9Ideal.nD Cert.Reference9Ideal.τ).loc Cert.Reference9Ideal.main_v86) = v1 c
          ∧ r.2.mem ((c.tc : Thread Cert.Reference9Ideal.nD Cert.Reference9Ideal.τ).loc Cert.Reference9Ideal.main_v87) = v2 c
          ∧ r.2.mem ((c.tc : Thread Cert.Reference9Ideal.nD Cert.Reference9Ideal.τ).loc Cert.Reference9Ideal.main_v88) = v3 c
          ∧ r.2.mem ((c.tc : Thread Cert.Reference9Ideal.nD Cert.Reference9Ideal.τ).loc Cert.Reference9Ideal.main_v90) = v4 c
          ∧ r.2.mem ((c.tc : Thread Cert.Reference9Ideal.nD Cert.Reference9Ideal.τ).loc Cert.Reference9Ideal.main_v94) = v5 c
          ∧ r.2.mem ((c.tc : Thread Cert.Reference9Ideal.nD Cert.Reference9Ideal.τ).loc Cert.Reference9Ideal.main_v98) = v6 c
          ∧ r.2.mem ((c.tc : Thread Cert.Reference9Ideal.nD Cert.Reference9Ideal.τ).loc Cert.Reference9Ideal.main_v99) = v7 c
          ∧ r.2.mem ((c.tc : Thread Cert.Reference9Ideal.nD Cert.Reference9Ideal.τ).loc Cert.Reference9Ideal.main_v100) = v8 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S16384x3072 : Shape := ⟨2, ![16384, 3072]⟩
abbrev S32x8 : Shape := ⟨2, ![32, 8]⟩
abbrev S4x64 : Shape := ⟨2, ![4, 64]⟩
abbrev S128 : Shape := ⟨1, ![128]⟩
abbrev S16384x2048 : Shape := ⟨2, ![16384, 2048]⟩
abbrev S_ : Shape := ⟨0, ![]⟩

class Facts : Prop where
  slices_S16384x3072_S16384x2048_0_0 : S16384x3072.Slices ![0, 0] S16384x2048
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S16384x3072 .bf16) (main_arg1 : FVec F S32x8 .f32) (main_arg2 : FVec F S4x64 .f32) (main_arg3 : FVec F S128 .f32) : IVec S_ 1 :=
  let main_v0 : FVec F S16384x2048 .bf16 := (extractStridedSlice S16384x2048 ![0, 0] · slices_S16384x3072_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  let main_v6 : FVec F S32x8 .f32 := Host.absf main_arg1
  let main_cst_0 : FVec F S_ .f32 := constant S_ .f32 0x7F800000#32
  let main_v7 : FVec F S32x8 .f32 := broadcastInDim S32x8 ![] bcast_S_S32x8 main_cst_0
  let main_v8 : IVec S32x8 1 := cmpf .olt main_v6 main_v7
  let main_c_1 : IVec S_ 1 := constantI S_ 1 1#1
  let main_v9 : IVec S_ 1 := (fun x v => Host.reduce IntOp.andi x v reducesTo_S32x8_S_d0_1 h_S_) main_v8 main_c_1
  let main_v10 : IVec S_ 1 := andi main_v5 main_v9
  main_v10
-- ==== Pre_routed.lean ====
abbrev S73728x512 : Shape := ⟨2, ![73728, 512]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  shapeCasts_S1_S_ : S1.ShapeCasts S_

variable [Facts]

def fn {F : FTy → Type} [FloatOps F] (main_arg0 : IVec S73728x512 32) (main_arg1 : IVec S288 32) (main_arg2 : IVec S1 32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S_ 32 := shapeCast S_ main_arg2 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S16384x3072 : Shape := ⟨2, ![16384, 3072]⟩
abbrev S32x8 : Shape := ⟨2, ![32, 8]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S8x4x256x128 : Shape := ⟨4, ![8, 4, 256, 128]⟩
abbrev S1x4x256x128 : Shape := ⟨4, ![1, 4, 256, 128]⟩
abbrev S256x128 : Shape := ⟨2, ![256, 128]⟩
abbrev S1x1 : Shape := ⟨2, ![1, 1]⟩
abbrev S1x1x256x128 : Shape := ⟨4, ![1, 1, 256, 128]⟩
abbrev S1 : Shape := ⟨1, ![1]⟩
abbrev S1x128 : Shape := ⟨2, ![1, 128]⟩
abbrev S16384x1024 : Shape := ⟨2, ![16384, 1024]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩

abbrev nBuf : Space → Nat
  | .hbm => 27
  | .vmem => 13
  | .smem => 3
  | _ => 0

abbrev bufTy : (tb : Table) → Fin (tcTables nBuf tb) → BufTy
  | .hbm, ⟨0, _⟩ => ⟨S16384x3072, .bf16⟩
  | .hbm, ⟨1, _⟩ => ⟨S32x8, .f32⟩
  | .hbm, ⟨2, _⟩ => ⟨S4x64, .f32⟩
  | .hbm, ⟨3, _⟩ => ⟨S128, .f32⟩
  | .hbm, ⟨4, _⟩ => ⟨S1x64, .f32⟩
  | .hbm, ⟨5, _⟩ => ⟨S64, .f32⟩
  | .hbm, ⟨6, _⟩ => ⟨S1x64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x4x256x128, .f32⟩
  | .hbm, ⟨24, _⟩ => ⟨S1, .f32⟩
  | .hbm, ⟨25, _⟩ => ⟨S1x128, .f32⟩
  | .hbm, ⟨26, _⟩ => ⟨S16384x1024, .bf16⟩
  | .local _ .vmem, ⟨0, _⟩ => ⟨S1x4x256x128, .f32⟩
  | .local _ .vmem, ⟨1, _⟩ => ⟨S1x4x256x128, .f32⟩
  | .local _ .vmem, ⟨2, _⟩ => ⟨S256x128, .bf16⟩
  | .local _ .vmem, ⟨3, _⟩ => ⟨S256x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x4x256x128, .f32⟩
  | .local _ .vmem, ⟨9, _⟩ => ⟨S1x4x256x128, .f32⟩
  | .local _ .vmem, ⟨10, _⟩ => ⟨S1x128, .f32⟩
  | .local _ .vmem, ⟨11, _⟩ => ⟨S256x128, .bf16⟩
  | .local _ .vmem, ⟨12, _⟩ => ⟨S256x128, .bf16⟩
  | .local _ .smem, ⟨0, _⟩ => ⟨S32x8, .f32⟩
  | .local _ .smem, ⟨1, _⟩ => ⟨S32x8, .f32⟩
  | .local _ .smem, ⟨2, _⟩ => ⟨S1, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg1_0 : Ref sig .tc := ⟨.vmem, 0, rfl⟩
abbrev cc0_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg5_0 : Ref sig .tc := ⟨.vmem, 8, rfl⟩
abbrev cc1_stg5_1 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg7_1 : Ref sig .tc := ⟨.vmem, 12, rfl⟩
abbrev cc0_stg0_0 : Ref sig .tc := ⟨.smem, 0, rfl⟩
abbrev cc1_stg0_0 : Ref sig .tc := ⟨.smem, 1, rfl⟩
abbrev cc1_stg1_0 : Ref sig .tc := ⟨.smem, 2, rfl⟩
abbrev cc0_sem0_0 : DmaSem sig := 0
abbrev cc0_sem1_0 : DmaSem sig := 1
abbrev cc0_sem1_1 : DmaSem sig := 2
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c15 : Index := 15#32
  let arg0 : BitVec 32 := BitVec.ofNat 32 (i 0).val
  let v6 : Index := Scalar.indexCast arg0
  ![15, v6.toNat]
def k0_off2 (i : grid0.Coords) : Fin 2 → Nat :=
  let c14 : Index := 14#32
  let arg0 : BitVec 32 := BitVec.ofNat 32 (i 0).val
  let v11 : Index := Scalar.indexCast arg0
  ![14, v11.toNat]
def k0_off3 (i : grid0.Coords) : Fin 2 → Nat :=
  let c13 : Index := 13#32
  let arg0 : BitVec 32 := BitVec.ofNat 32 (i 0).val
  let v17 : Index := Scalar.indexCast arg0
  ![13, v17.toNat]
def k0_off4 (i : grid0.Coords) : Fin 2 → Nat :=
  let c12 : Index := 12#32
  let arg0 : BitVec 32 := BitVec.ofNat 32 (i 0).val
  let v23 : Index := Scalar.indexCast arg0
  ![12, v23.toNat]
def k0_off5 (i : grid0.Coords) : Fin 2 → Nat :=
  let c11 : Index := 11#32
  let arg0 : BitVec 32 := BitVec.ofNat 32 (i 0).val
  let v29 : Index := Scalar.indexCast arg0
  ![11, v29.toNat]
def k0_off6 (i : grid0.Coords) : Fin 2 → Nat :=
  let c10 : Index := 10#32
  let arg0 : BitVec 32 := BitVec.ofNat 32 (i 0).val
  let v35 : Index := Scalar.indexCast arg0
  ![10, v35.toNat]
def k0_off7 (i : grid0.Coords) : Fin 2 → Nat :=
  let c9 : Index := 9#32
  let arg0 : BitVec 32 := BitVec.ofNat 32 (i 0).val
  let v41 : Index := Scalar.indexCast arg0
  ![9, v41.toNat]
def k0_off8 (i : grid0.Coords) : Fin 2 → Nat :=
  let c8 : Index := 8#32
  let arg0 : BitVec 32 := BitVec.ofNat 32 (i 0).val
  let v47 : Index := Scalar.indexCast arg0
  ![8, v47.toNat]
def k0_off9 (i : grid0.Coords) : Fin 2 → Nat :=
  let c7 : Index := 7#32
  let arg0 : BitVec 32 := BitVec.ofNat 32 (i 0).val
  let v53 : Index := Scalar.indexCast arg0
  ![7, v53.toNat]
def k0_off10 (i : grid0.Coords) : Fin 2 → Nat :=
  let c6 : Index := 6#32
  let arg0 : BitVec 32 := BitVec.ofNat 32 (i 0).val
  let v59 : Index := Scalar.indexCast arg0
  ![6, v59.toNat]
def k0_off11 (i : grid0.Coords) : Fin 2 → Nat :=
  let c5 : Index := 5#32
  let arg0 : BitVec 32 := BitVec.ofNat 32 (i 0).val
  let v65 : Index := Scalar.indexCast arg0
  ![5, v65.toNat]
def k0_off12 (i : grid0.Coords) : Fin 2 → Nat :=
  let c4 : Index := 4#32
  let arg0 : BitVec 32 := BitVec.ofNat 32 (i 0).val
  let v71 : Index := Scalar.indexCast arg0
  ![4, v71.toNat]
def k0_off13 (i : grid0.Coords) : Fin 2 → Nat :=
  let c3 : Index := 3#32
  let arg0 : BitVec 32 := BitVec.ofNat 32 (i 0).val
  let v77 : Index := Scalar.indexCast arg0
  ![3, v77.toNat]
def k0_off14 (i : grid0.Coords) : Fin 2 → Nat :=
  let c2 : Index := 2#32
  let arg0 : BitVec 32 := BitVec.ofNat 32 (i 0).val
  let v83 : Index := Scalar.indexCast arg0
  ![2, v83.toNat]
def k0_off15 (i : grid0.Coords) : Fin 2 → Nat :=
  let c1 : Index := 1#32
  let arg0 : BitVec 32 := BitVec.ofNat 32 (i 0).val
  let v89 : Index := Scalar.indexCast arg0
  ![1, v89.toNat]
def k0_off16 (i : grid0.Coords) : Fin 2 → Nat :=
  let c0 : Index := 0#32
  let arg0 : BitVec 32 := BitVec.ofNat 32 (i 0).val
  let v95 : Index := Scalar.indexCast arg0
  ![0, v95.toNat]
def k0_off17 (i : grid0.Coords) : Fin 2 → Nat :=
  let c31 : Index := 31#32
  let arg0 : BitVec 32 := BitVec.ofNat 32 (i 0).val
  let v99 : Index := Scalar.indexCast arg0
  ![31, v99.toNat]
def k0_off18 (i : grid0.Coords) : Fin 2 → Nat :=
  let c30 : Index := 30#32
  let arg0 : BitVec 32 := BitVec.ofNat 32 (i 0).val
  let v104 : Index := Scalar.indexCast arg0
  ![30, v104.toNat]
def k0_off19 (i : grid0.Coords) : Fin 2 → Nat :=
  let c29 : Index := 29#32
  let arg0 : BitVec 32 := BitVec.ofNat 32 (i 0).val
  let v110 : Index := Scalar.indexCast arg0
  ![29, v110.toNat]
def k0_off20 (i : grid0.Coords) : Fin 2 → Nat :=
  let c28 : Index := 28#32
  let arg0 : BitVec 32 := BitVec.ofNat 32 (i 0).val
  let v116 : Index := Scalar.indexCast arg0
  ![28, v116.toNat]
def k0_off21 (i : grid0.Coords) : Fin 2 → Nat :=
  let c27 : Index := 27#32
  let arg0 : BitVec 32 := BitVec.ofNat 32 (i 0).val
  let v122 : Index := Scalar.indexCast arg0
  ![27, v122.toNat]
def k0_off22 (i : grid0.Coords) : Fin 2 → Nat :=
  let c26 : Index := 26#32
  let arg0 : BitVec 32 := BitVec.ofNat 32 (i 0).val
  let v128 : Index := Scalar.indexCast arg0
  ![26, v128.toNat]
def k0_off23 (i : grid0.Coords) : Fin 2 → Nat :=
  let c25 : Index := 25#32
  let arg0 : BitVec 32 := BitVec.ofNat 32 (i 0).val
  let v134 : Index := Scalar.indexCast arg0
  ![25, v134.toNat]
def k0_off24 (i : grid0.Coords) : Fin 2 → Nat :=
  let c24 : Index := 24#32
  let arg0 : BitVec 32 := BitVec.ofNat 32 (i 0).val
  let v140 : Index := Scalar.indexCast arg0
  ![24, v140.toNat]
def k0_off25 (i : grid0.Coords) : Fin 2 → Nat :=
  let c23 : Index := 23#32
  let arg0 : BitVec 32 := BitVec.ofNat 32 (i 0).val
  let v146 : Index := Scalar.indexCast arg0
  ![23, v146.toNat]
def k0_off26 (i : grid0.Coords) : Fin 2 → Nat :=
  let c22 : Index := 22#32
  let arg0 : BitVec 32 := BitVec.ofNat 32 (i 0).val
  let v152 : Index := Scalar.indexCast arg0
  ![22, v152.toNat]
def k0_off27 (i : grid0.Coords) : Fin 2 → Nat :=
  let c21 : Index := 21#32
  let arg0 : BitVec 32 := BitVec.ofNat 32 (i 0).val
  let v158 : Index := Scalar.indexCast arg0
  ![21, v158.toNat]
def k0_off28 (i : grid0.Coords) : Fin 2 → Nat :=
  let c20 : Index := 20#32
  let arg0 : BitVec 32 := BitVec.ofNat 32 (i 0).val
  let v164 : Index := Scalar.indexCast arg0
  ![20, v164.toNat]
def k0_off29 (i : grid0.Coords) : Fin 2 → Nat :=
  let c19 : Index := 19#32
  let arg0 : BitVec 32 := BitVec.ofNat 32 (i 0).val
  let v170 : Index := Scalar.indexCast arg0
  ![19, v170.toNat]
def k0_off30 (i : grid0.Coords) : Fin 2 → Nat :=
  let c18 : Index := 18#32
  let arg0 : BitVec 32 := BitVec.ofNat 32 (i 0).val
  let v176 : Index := Scalar.indexCast arg0
  ![18, v176.toNat]
def k0_off31 (i : grid0.Coords) : Fin 2 → Nat :=
  let c17 : Index := 17#32
  let arg0 : BitVec 32 := BitVec.ofNat 32 (i 0).val
  let v182 : Index := Scalar.indexCast arg0
  ![17, v182.toNat]
def k0_off32 (i : grid0.Coords) : Fin 2 → Nat :=
  let c16 : Index := 16#32
  let arg0 : BitVec 32 := BitVec.ofNat 32 (i 0).val
  let v188 : Index := Scalar.indexCast arg0
  ![16, v188.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 8, 8], ![false, false, false]⟩

def k1_off1 (i : grid1.Coords) : Fin 2 → Nat :=
  let c15 : Index := 15#32
  let arg1 : BitVec 32 := BitVec.ofNat 32 (i 1).val
  let v4 : Index := Scalar.indexCast arg1
  ![15, v4.toNat]
def k1_off2 (i : grid1.Coords) : Fin 2 → Nat :=
  let c31 : Index := 31#32
  let arg1 : BitVec 32 := BitVec.ofNat 32 (i 1).val
  let v6 : Index := Scalar.indexCast arg1
  ![31, v6.toNat]
def k1_off3 (i : grid1.Coords) (c0_i32 : BitVec 32) : Fin 4 → Nat :=
  let c0_4 : Index := 0#32
  let c3_i32 : BitVec 32 := 3#32
  let c0_i32_3 : BitVec 32 := 0#32
  let c2_i32 : BitVec 32 := 2#32
  let arg2 : BitVec 32 := BitVec.ofNat 32 (i 2).val
  let v8 : BitVec 32 := Scalar.muli c2_i32 arg2
  let v9 : BitVec 32 := Scalar.subi c0_i32 v8
  let c1_i32 : BitVec 32 := 1#32
  let v10 : BitVec 32 := Scalar.addi v9 c1_i32
  let v11 : BitVec 32 := Scalar.maxsi c0_i32_3 v10
  let v12 : BitVec 32 := Scalar.minsi c3_i32 v11
  let v13 : Index := Scalar.indexCast v12
  let c0_5 : Index := 0#32
  let c0_6 : Index := 0#32
  ![0, v13.toNat, 0, 0]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage1_0 : Fin 1 → Memref sig .tc .smem S32x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x4x256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S256x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]
-- ==== ReferenceIdeal.lean ====
abbrev S16384x3072 : Shape := ⟨2, ![16384, 3072]⟩
abbrev S32x8 : Shape := ⟨2, ![32, 8]⟩
abbrev S4x64 : Shape := ⟨2, ![4, 64]⟩
abbrev S128 : Shape := ⟨1, ![128]⟩
abbrev S16384x1024 : Shape := ⟨2, ![16384, 1024]⟩
abbrev S8x2048x8x2x64 : Shape := ⟨5, ![8, 2048, 8, 2, 64]⟩
abbrev S8x2048x8x128 : Shape := ⟨4, ![8, 2048, 8, 128]⟩
abbrev S1x64 : Shape := ⟨2, ![1, 64]⟩
abbrev S64 : Shape := ⟨1, ![64]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S8x2x8x2048x2048 : Shape := ⟨5, ![8, 2, 8, 2048, 2048]⟩
abbrev S1x1x8x2048x2048 : Shape := ⟨5, ![1, 1, 8, 2048, 2048]⟩
abbrev S8x2x8x2048 : Shape := ⟨4, ![8, 2, 8, 2048]⟩
abbrev S8x2x8x2048x1 : Shape := ⟨5, ![8, 2, 8, 2048, 1]⟩
abbrev S8x1x8x2048x2048 : Shape := ⟨5, ![8, 1, 8, 2048, 2048]⟩
abbrev S8x8x2048x2048 : Shape := ⟨4, ![8, 8, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩

abbrev nBuf : Space → Nat
  | .hbm => 134
  | .vmem => 0
  | .smem => 0
  | _ => 0

abbrev hbmTy0_0 (i : Nat) : BufTy := match i % 128 with
  | 0 => ⟨S16384x3072, .bf16⟩
  | 1 => ⟨S32x8, .f32⟩
  | 2 => ⟨S4x64, .f32⟩
  | 3 => ⟨S128, .f32⟩
  | 4 => ⟨S16384x3072, .f32⟩
  | 5 => ⟨S16384x1024, .f32⟩
  | 6 => ⟨S8x2048x8x2x64, .f32⟩
  | 7 => ⟨S16384x1024, .f32⟩
  | 8 => ⟨S8x2048x8x2x64, .f32⟩
  | 9 => ⟨S16384x1024, .f32⟩
  | 10 => ⟨S8x2048x8x128, .f32⟩
  | 11 => ⟨S1x64, .f32⟩
  | 12 => ⟨S64, .f32⟩
  | 13 => ⟨S1x64, .f32⟩
  | 14 => ⟨S64, .f32⟩
  | 15 => ⟨S64, .f32⟩
  | 16 => ⟨S_, .f32⟩
  | 17 => ⟨S_, .f32⟩
  | 18 => ⟨S_, .f32⟩
  | 19 => ⟨S1x64, .f32⟩
  | 20 => ⟨S64, .f32⟩
  | 21 => ⟨S1x64, .f32⟩
  | 22 => ⟨S64, .f32⟩
  | 23 => ⟨S64, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S2048, .i32⟩
  | 31 => ⟨S1x2048, .i32⟩
  | 32 => ⟨S2048x1, .i32⟩
  | 33 => ⟨S2048x2048, .i32⟩
  | 34 => ⟨S2048x2048, .i32⟩
  | 35 => ⟨S2048x2048, .i32⟩
  | 36 => ⟨S_, .i32⟩
  | 37 => ⟨S2048x2048, .i32⟩
  | 38 => ⟨S2048x2048, .i1⟩
  | 39 => ⟨S_, .i32⟩
  | 40 => ⟨S_, .i32⟩
  | 41 => ⟨S2048x2048, .i32⟩
  | 42 => ⟨S2048x2048, .i32⟩
  | 43 => ⟨S2048x2048, .i32⟩
  | 44 => ⟨S2048x2048, .i32⟩
  | 45 => ⟨S_, .i32⟩
  | 46 => ⟨S2048x2048, .i32⟩
  | 47 => ⟨S2048x2048, .i32⟩
  | 48 => ⟨S2048x2048, .f32⟩
  | 49 => ⟨S_, .f32⟩
  | 50 => ⟨S2048x2048, .f32⟩
  | 51 => ⟨S2048x2048, .f32⟩
  | 52 => ⟨S2048x2048, .f32⟩
  | 53 => ⟨S_, .f32⟩
  | 54 => ⟨S_, .f32⟩
  | 55 => ⟨S2048x2048, .f32⟩
  | 56 => ⟨S2048x2048, .f32⟩
  | 57 => ⟨S_, .f32⟩
  | 58 => ⟨S2048x2048, .f32⟩
  | 59 => ⟨S2048x2048, .f32⟩
  | 60 => ⟨S2048x2048, .i32⟩
  | 61 => ⟨S_, .i32⟩
  | 62 => ⟨S2048x2048, .i32⟩
  | 63 => ⟨S2048x2048, .i32⟩
  | 64 => ⟨S_, .i32⟩
  | 65 => ⟨S2048x2048, .i32⟩
  | 66 => ⟨S2048x2048, .i32⟩
  | 67 => ⟨S_, .i32⟩
  | 68 => ⟨S2048x2048, .i32⟩
  | 69 => ⟨S2048x2048, .i1⟩
  | 70 => ⟨S2048x2048, .i32⟩
  | 71 => ⟨S2048x2048, .i32⟩
  | 72 => ⟨S2048x2048, .i32⟩
  | 73 => ⟨S_, .i32⟩
  | 74 => ⟨S2048x2048, .i32⟩
  | 75 => ⟨S2048x2048, .i1⟩
  | 76 => ⟨S_, .i32⟩
  | 77 => ⟨S2048x2048, .i32⟩
  | 78 => ⟨S2048x2048, .i32⟩
  | 79 => ⟨S2048x2048, .i32⟩
  | 80 => ⟨S2048x2048x1, .i32⟩
  | 81 => ⟨S2048x2048x8, .f32⟩
  | 82 => ⟨S8x2048x2048, .f32⟩
  | 83 => ⟨S8x2x8x2048x2048, .f32⟩
  | 84 => ⟨S_, .f32⟩
  | 85 => ⟨S8x2x8x2048x2048, .f32⟩
  | 86 => ⟨S8x2x8x2048x2048, .f32⟩
  | 87 => ⟨S1x1x8x2048x2048, .f32⟩
  | 88 => ⟨S8x2x8x2048x2048, .f32⟩
  | 89 => ⟨S8x2x8x2048x2048, .f32⟩
  | 90 => ⟨S_, .f32⟩
  | 91 => ⟨S8x2x8x2048, .f32⟩
  | 92 => ⟨S_, .f32⟩
  | 93 => ⟨S8x2x8x2048, .f32⟩
  | 94 => ⟨S8x2x8x2048, .f32⟩
  | 95 => ⟨S8x2x8x2048x1, .f32⟩
  | 96 => ⟨S8x2x8x2048x2048, .f32⟩
  | 97 => ⟨S8x2x8x2048x2048, .f32⟩
  | 98 => ⟨S8x2x8x2048x2048, .f32⟩
  | 99 => ⟨S_, .f32⟩
  | 100 => ⟨S8x2x8x2048, .f32⟩
  | 101 => ⟨S8x2x8x2048x1, .f32⟩
  | 102 => ⟨S8x2x8x2048x2048, .f32⟩
  | 103 => ⟨S8x2x8x2048x2048, .f32⟩
  | 104 => ⟨S8x1x8x2048x2048, .f32⟩
  | 105 => ⟨S8x8x2048x2048, .f32⟩
  | 106 => ⟨S8x1x8x2048x2048, .f32⟩
  | 107 => ⟨S8x8x2048x2048, .f32⟩
  | 108 => ⟨S8x8x2048x2048, .f32⟩
  | 109 => ⟨S8x8x2048x2048, .f32⟩
  | 110 => ⟨S8x8x2048x2048, .f32⟩
  | 111 => ⟨S8x8x128x2048, .f32⟩
  | 112 => ⟨S8x2048x8x128, .f32⟩
  | 113 => ⟨S8x2048x8x128, .f32⟩
  | 114 => ⟨S_, .f32⟩
  | 115 => ⟨S8x2048x8, .f32⟩
  | 116 => ⟨S8x2048x8x1, .f32⟩
  | 117 => ⟨S_, .f32⟩
  | 118 => ⟨S8x2048x8x1, .f32⟩
  | 119 => ⟨S8x2048x8x1, .f32⟩
  | 120 => ⟨S_, .f32⟩
  | 121 => ⟨S8x2048x8x1, .f32⟩
  | 122 => ⟨S8x2048x8x1, .f32⟩
  | 123 => ⟨S8x2048x8x1, .f32⟩
  | 124 => ⟨S8x2048x8x128, .f32⟩
  | 125 => ⟨S8x2048x8x128, .f32⟩
  | 126 => ⟨S1x1x1x128, .f32⟩
  | 127 => ⟨S8x2048x8x128, .f32⟩
  | _ => ⟨S16384x3072, .bf16⟩

abbrev hbmTy0_1 (i : Nat) : BufTy := match i % 128 with
  | 0 => ⟨S8x2048x8x128, .f32⟩
  | 1 => ⟨S_, .f32⟩
  | 2 => ⟨S8x2048x8x128, .f32⟩
  | 3 => ⟨S8x2048x8x128, .f32⟩
  | 4 => ⟨S16384x1024, .f32⟩
  | 5 => ⟨S16384x1024, .bf16⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_c_3 : Ref sig .tc := ⟨.hbm, 40, rfl⟩
abbrev main_call0_v0 : Ref sig .tc := ⟨.hbm, 41, rfl⟩
abbrev main_call0_v1 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_17 : Ref sig .tc := ⟨.hbm, 114, rfl⟩
abbrev main_v89 : Ref sig .tc := ⟨.hbm, 115, rfl⟩
abbrev main_v90 : Ref sig .tc := ⟨.hbm, 116, rfl⟩
abbrev main_cst_18 : Ref sig .tc := ⟨.hbm, 117, rfl⟩
abbrev main_v91 : Ref sig .tc := ⟨.hbm, 118, rfl⟩
abbrev main_v92 : Ref sig .tc := ⟨.hbm, 119, rfl⟩
abbrev main_cst_19 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_20 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]
-- ==== Kernel2.lean ====
abbrev S73728x512 : Shape := ⟨2, ![73728, 512]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S73728x1024 : Shape := ⟨2, ![73728, 1024]⟩
abbrev S256x512 : Shape := ⟨2, ![256, 512]⟩
abbrev S1x1024x1024 : Shape := ⟨3, ![1, 1024, 1024]⟩
abbrev S1x1x1024 : Shape := ⟨3, ![1, 1, 1024]⟩
abbrev S256x1024 : Shape := ⟨2, ![256, 1024]⟩
abbrev S1024x1024 : Shape := ⟨2, ![1024, 1024]⟩
abbrev S1x1024 : Shape := ⟨2, ![1, 1024]⟩

abbrev nBuf : Space → Nat
  | .hbm => 16
  | .vmem => 16
  | .smem => 2
  | _ => 0

abbrev bufTy : (tb : Table) → Fin (tcTables nBuf tb) → BufTy
  | .hbm, ⟨0, _⟩ => ⟨S73728x512, .i32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024x1024, .bf16⟩
  | .hbm, ⟨7, _⟩ => ⟨S32x1024x1024, .f32⟩
  | .hbm, ⟨8, _⟩ => ⟨S32x1024x1024, .bf16⟩
  | .hbm, ⟨9, _⟩ => ⟨S32x1024, .f32⟩
  | .hbm, ⟨10, _⟩ => ⟨S32x1x1024, .f32⟩
  | .hbm, ⟨11, _⟩ => ⟨S32x1024, .f32⟩
  | .hbm, ⟨12, _⟩ => ⟨S32x1x1024, .f32⟩
  | .hbm, ⟨13, _⟩ => ⟨S32x1024x1024, .bf16⟩
  | .hbm, ⟨14, _⟩ => ⟨S32x1x1024, .f32⟩
  | .hbm, ⟨15, _⟩ => ⟨S73728x1024, .f32⟩
  | .local _ .vmem, ⟨0, _⟩ => ⟨S256x512, .i32⟩
  | .local _ .vmem, ⟨1, _⟩ => ⟨S256x512, .i32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .smem, ⟨0, _⟩ => ⟨S288, .i32⟩
  | .local _ .smem, ⟨1, _⟩ => ⟨S1, .i32⟩
  | _, _ => ⟨S73728x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S73728x512 : Shape := ⟨2, ![73728, 512]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S73728x512x2 : Shape := ⟨3, ![73728, 512, 2]⟩
abbrev S73728x2x512 : Shape := ⟨3, ![73728, 2, 512]⟩
abbrev S73728x1024 : Shape := ⟨2, ![73728, 1024]⟩
abbrev S73728 : Shape := ⟨1, ![73728]⟩
abbrev S_ : Shape := ⟨0, ![]⟩
abbrev S288x256 : Shape := ⟨2, ![288, 256]⟩
abbrev S73728x1 : Shape := ⟨2, ![73728, 1]⟩
abbrev S1x32 : Shape := ⟨2, ![1, 32]⟩
abbrev S73728x32 : Shape := ⟨2, ![73728, 32]⟩
abbrev S32x2048x73728 : Shape := ⟨3, ![32, 2048, 73728]⟩
abbrev S32x73728x2048 : Shape := ⟨3, ![32, 73728, 2048]⟩
abbrev S32x1x2048 : Shape := ⟨3, ![32, 1, 2048]⟩
abbrev S32x73728x1024 : Shape := ⟨3, ![32, 73728, 1024]⟩
abbrev S32x1x1024 : Shape := ⟨3, ![32, 1, 1024]⟩
abbrev S32x73728 : Shape := ⟨2, ![32, 73728]⟩
abbrev S32x73728x1 : Shape := ⟨3, ![32, 73728, 1]⟩

abbrev nBuf : Space → Nat
  | .hbm => 89
  | .vmem => 0
  | .smem => 0
  | _ => 0

abbrev bufTy : (tb : Table) → Fin (tcTables nBuf tb) → BufTy
  | .hbm, ⟨0, _⟩ => ⟨S73728x512, .i32⟩
  | .hbm, ⟨1, _⟩ => ⟨S288, .i32⟩
  | .hbm, ⟨2, _⟩ => ⟨S1, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S73728x512x2, .bf16⟩
  | .hbm, ⟨8, _⟩ => ⟨S73728x2x512, .bf16⟩
  | .hbm, ⟨9, _⟩ => ⟨S73728x1024, .bf16⟩
  | .hbm, ⟨10, _⟩ => ⟨S73728x1024, .f32⟩
  | .hbm, ⟨11, _⟩ => ⟨S73728, .i32⟩
  | .hbm, ⟨12, _⟩ => ⟨S_, .i32⟩
  | .hbm, ⟨13, _⟩ => ⟨S_, .i32⟩
  | .hbm, ⟨14, _⟩ => ⟨S73728, .i32⟩
  | .hbm, ⟨15, _⟩ => ⟨S73728, .i32⟩
  | .hbm, ⟨16, _⟩ => ⟨S73728, .i32⟩
  | .hbm, ⟨17, _⟩ => ⟨S_, .i32⟩
  | .hbm, ⟨18, _⟩ => ⟨S73728, .i32⟩
  | .hbm, ⟨19, _⟩ => ⟨S73728, .i1⟩
  | .hbm, ⟨20, _⟩ => ⟨S73728, .i32⟩
  | .hbm, ⟨21, _⟩ => ⟨S73728, .i32⟩
  | .hbm, ⟨22, _⟩ => ⟨S_, .i32⟩
  | .hbm, ⟨23, _⟩ => ⟨S73728, .i32⟩
  | .hbm, ⟨24, _⟩ => ⟨S73728, .i1⟩
  | .hbm, ⟨25, _⟩ => ⟨S73728, .i1⟩
  | .hbm, ⟨26, _⟩ => ⟨S_, .i32⟩
  | .hbm, ⟨27, _⟩ => ⟨S73728, .i32⟩
  | .hbm, ⟨28, _⟩ => ⟨S73728, .i32⟩
  | .hbm, ⟨29, _⟩ => ⟨S73728, .i32⟩
  | .hbm, ⟨30, _⟩ => ⟨S_, .i32⟩
  | .hbm, ⟨31, _⟩ => ⟨S73728, .i32⟩
  | .hbm, ⟨32, _⟩ => ⟨S73728, .i1⟩
  | .hbm, ⟨33, _⟩ => ⟨S73728, .f32⟩
  | .hbm, ⟨34, _⟩ => ⟨S288x256, .i32⟩
  | .hbm, ⟨35, _⟩ => ⟨S73728, .i32⟩
  | .hbm, ⟨36, _⟩ => ⟨S73728x1, .i32⟩
  | .hbm, ⟨37, _⟩ => ⟨S1x32, .i32⟩
  | .hbm, ⟨38, _⟩ => ⟨S73728x32, .i32⟩
  | .hbm, ⟨39, _⟩ => ⟨S73728x32, .i32⟩
  | .hbm, ⟨40, _⟩ => ⟨S73728x32, .i1⟩
  | .hbm, ⟨41, _⟩ => ⟨S73728x32, .f32⟩
  | .hbm, ⟨42, _⟩ => ⟨S73728x1, .f32⟩
  | .hbm, ⟨43, _⟩ => ⟨S73728x32, .f32⟩
  | .hbm, ⟨44, _⟩ => ⟨S73728x32, .f32⟩
  | .hbm, ⟨45, _⟩ => ⟨S32x2048x73728, .f32⟩
  | .hbm, ⟨46, _⟩ => ⟨S32x73728x2048, .f32⟩
  | .hbm, ⟨47, _⟩ => ⟨S32x1x2048, .f32⟩
  | .hbm, ⟨48, _⟩ => ⟨S32x73728x2048, .f32⟩
  | .hbm, ⟨49, _⟩ => ⟨S32x73728x2048, .f32⟩
  | .hbm, ⟨50, _⟩ => ⟨S32x73728x1024, .f32⟩
  | .hbm, ⟨51, _⟩ => ⟨S_, .f32⟩
  | .hbm, ⟨52, _⟩ => ⟨S32x73728x1024, .f32⟩
  | .hbm, ⟨53, _⟩ => ⟨S32x73728x1024, .f32⟩
  | .hbm, ⟨54, _⟩ => ⟨S32x73728x1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S32x73728x1024, .f32⟩
  | .hbm, ⟨59, _⟩ => ⟨S32x73728x1024, .f32⟩
  | .hbm, ⟨60, _⟩ => ⟨S_, .f32⟩
  | .hbm, ⟨61, _⟩ => ⟨S32x73728x1024, .f32⟩
  | .hbm, ⟨62, _⟩ => ⟨S32x73728x1024, .f32⟩
  | .hbm, ⟨63, _⟩ => ⟨S_, .f32⟩
  | .hbm, ⟨64, _⟩ => ⟨S32x73728x1024, .f32⟩
  | .hbm, ⟨65, _⟩ => ⟨S32x73728x1024, .f32⟩
  | .hbm, ⟨66, _⟩ => ⟨S32x73728x1024, .f32⟩
  | .hbm, ⟨67, _⟩ => ⟨S32x73728x1024, .f32⟩
  | .hbm, ⟨68, _⟩ => ⟨S_, .f32⟩
  | .hbm, ⟨69, _⟩ => ⟨S32x73728x1024, .f32⟩
  | .hbm, ⟨70, _⟩ => ⟨S32x73728x1024, .f32⟩
  | .hbm, ⟨71, _⟩ => ⟨S_, .f32⟩
  | .hbm, ⟨72, _⟩ => ⟨S32x73728x1024, .f32⟩
  | .hbm, ⟨73, _⟩ => ⟨S32x73728x1024, .f32⟩
  | .hbm, ⟨74, _⟩ => ⟨S32x73728x1024, .f32⟩
  | .hbm, ⟨75, _⟩ => ⟨S_, .f32⟩
  | .hbm, ⟨76, _⟩ => ⟨S32x73728x1024, .f32⟩
  | .hbm, ⟨77, _⟩ => ⟨S32x73728x1024, .f32⟩
  | .hbm, ⟨78, _⟩ => ⟨S32x73728x1024, .f32⟩
  | .hbm, ⟨79, _⟩ => ⟨S32x73728x1024, .f32⟩
  | .hbm, ⟨80, _⟩ => ⟨S32x1x1024, .f32⟩
  | .hbm, ⟨81, _⟩ => ⟨S32x73728x1024, .f32⟩
  | .hbm, ⟨82, _⟩ => ⟨S32x73728x1024, .f32⟩
  | .hbm, ⟨83, _⟩ => ⟨S32x73728, .f32⟩
  | .hbm, ⟨84, _⟩ => ⟨S32x73728x1, .f32⟩
  | .hbm, ⟨85, _⟩ => ⟨S32x73728x1024, .f32⟩
  | .hbm, ⟨86, _⟩ => ⟨S32x73728x1024, .f32⟩
  | .hbm, ⟨87, _⟩ => ⟨S_, .f32⟩
  | .hbm, ⟨88, _⟩ => ⟨S73728x1024, .f32⟩
  | _, _ => ⟨S73728x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_0 : Ref sig .tc := ⟨.hbm, 55, rfl⟩
abbrev main_cst_1 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v25 : Ref sig .tc := ⟨.hbm, 62, rfl⟩
abbrev main_cst_2 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_3 : Ref sig .tc := ⟨.hbm, 68, rfl⟩
abbrev main_v30 : Ref sig .tc := ⟨.hbm, 69, rfl⟩
abbrev main_v31 : Ref sig .tc := ⟨.hbm, 70, rfl⟩
abbrev main_cst_4 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_5 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_6 : Ref sig .tc := ⟨.hbm, 87, rfl⟩
abbrev main_v46 : Ref sig .tc := ⟨.hbm, 88, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S8x1x6144 : Shape := ⟨3, ![8, 1, 6144]⟩
abbrev S1024x4416 : Shape := ⟨2, ![1024, 4416]⟩
abbrev S1024x2560 : Shape := ⟨2, ![1024, 2560]⟩
abbrev S1024x1856 : Shape := ⟨2, ![1024, 1856]⟩
abbrev S1x1024 : Shape := ⟨2, ![1, 1024]⟩
abbrev S16384x2560 : Shape := ⟨2, ![16384, 2560]⟩
abbrev S16384x1856 : Shape := ⟨2, ![16384, 1856]⟩
abbrev S256x1024 : Shape := ⟨2, ![256, 1024]⟩
abbrev S1x1x1024 : Shape := ⟨3, ![1, 1, 1024]⟩
abbrev S256x2560 : Shape := ⟨2, ![256, 2560]⟩
abbrev S256x1856 : Shape := ⟨2, ![256, 1856]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x6144, .f32⟩
  | .hbm, ⟨3, _⟩ => ⟨S1024x4416, .f32⟩
  | .hbm, ⟨4, _⟩ => ⟨S1024x4416, .bf16⟩
  | .hbm, ⟨5, _⟩ => ⟨S1024x2560, .bf16⟩
  | .hbm, ⟨6, _⟩ => ⟨S1024x1856, .bf16⟩
  | .hbm, ⟨7, _⟩ => ⟨S1x1024, .f32⟩
  | .hbm, ⟨8, _⟩ => ⟨S16384x2560, .f32⟩
  | .hbm, ⟨9, _⟩ => ⟨S16384x1856, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S1024x1856, .bf16⟩
  | .local _ .vmem, ⟨9, _⟩ => ⟨S256x2560, .f32⟩
  | .local _ .vmem, ⟨10, _⟩ => ⟨S256x2560, .f32⟩
  | .local _ .vmem, ⟨11, _⟩ => ⟨S256x1856, .f32⟩
  | .local _ .vmem, ⟨12, _⟩ => ⟨S256x1856, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1856 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1856 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S1024 : Shape := ⟨1, ![1024]⟩
abbrev S8x1x6144 : Shape := ⟨3, ![8, 1, 6144]⟩
abbrev S1024x4416 : Shape := ⟨2, ![1024, 4416]⟩
abbrev S8x6144 : Shape := ⟨2, ![8, 6144]⟩
abbrev S8x1024 : Shape := ⟨2, ![8, 1024]⟩
abbrev S8x1x1024 : Shape := ⟨3, ![8, 1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4416 : Shape := ⟨3, ![8, 2048, 4416]⟩
abbrev S16384x4416 : Shape := ⟨2, ![16384, 4416]⟩
abbrev S16384x2560 : Shape := ⟨2, ![16384, 2560]⟩
abbrev S16384x1856 : Shape := ⟨2, ![16384, 1856]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x6144, .f32⟩
  | .hbm, ⟨3, _⟩ => ⟨S1024x4416, .f32⟩
  | .hbm, ⟨4, _⟩ => ⟨S8x6144, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x4416, .f32⟩
  | .hbm, ⟨42, _⟩ => ⟨S16384x4416, .f32⟩
  | .hbm, ⟨43, _⟩ => ⟨S16384x2560, .f32⟩
  | .hbm, ⟨44, _⟩ => ⟨S16384x1856, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S8x1x6144 : Shape := ⟨3, ![8, 1, 6144]⟩
abbrev S1024x3072 : Shape := ⟨2, ![1024, 3072]⟩
abbrev S1x1024 : Shape := ⟨2, ![1, 1024]⟩
abbrev S16384x3072 : Shape := ⟨2, ![16384, 3072]⟩
abbrev S256x1024 : Shape := ⟨2, ![256, 1024]⟩
abbrev S1x1x1024 : Shape := ⟨3, ![1, 1, 1024]⟩
abbrev S256x3072 : Shape := ⟨2, ![256, 3072]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x6144, .f32⟩
  | .hbm, ⟨3, _⟩ => ⟨S1024x3072, .f32⟩
  | .hbm, ⟨4, _⟩ => ⟨S1024x3072, .bf16⟩
  | .hbm, ⟨5, _⟩ => ⟨S1x1024, .f32⟩
  | .hbm, ⟨6, _⟩ => ⟨S16384x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S256x3072, .bf16⟩
  | .local _ .vmem, ⟨9, _⟩ => ⟨S256x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x1024 : Shape := ⟨2, ![16384, 1024]⟩
abbrev S1024 : Shape := ⟨1, ![1024]⟩
abbrev S8x1x6144 : Shape := ⟨3, ![8, 1, 6144]⟩
abbrev S1024x3072 : Shape := ⟨2, ![1024, 3072]⟩
abbrev S8x6144 : Shape := ⟨2, ![8, 6144]⟩
abbrev S8x1024 : Shape := ⟨2, ![8, 1024]⟩
abbrev S8x1x1024 : Shape := ⟨3, ![8, 1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S16384x3072 : Shape := ⟨2, ![16384, 3072]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x6144, .f32⟩
  | .hbm, ⟨3, _⟩ => ⟨S1024x3072, .f32⟩
  | .hbm, ⟨4, _⟩ => ⟨S8x6144, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x3072, .f32⟩
  | .hbm, ⟨42, _⟩ => ⟨S16384x3072, .f32⟩
  | .hbm, ⟨43, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Kernel5.lean ====
abbrev S16384x1024 : Shape := ⟨2, ![16384, 1024]⟩
abbrev S8x1x6144 : Shape := ⟨3, ![8, 1, 6144]⟩
abbrev S16384x512 : Shape := ⟨2, ![16384, 512]⟩
abbrev S1024x1024 : Shape := ⟨2, ![1024, 1024]⟩
abbrev S512x1024 : Shape := ⟨2, ![512, 1024]⟩
abbrev S1x1x1024 : Shape := ⟨3, ![1, 1, 1024]⟩
abbrev S512x512 : Shape := ⟨2, ![512, 512]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S16384x512, .bf16⟩
  | .hbm, ⟨3, _⟩ => ⟨S16384x512, .bf16⟩
  | .hbm, ⟨4, _⟩ => ⟨S1024x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x1024 : Shape := ⟨2, ![16384, 1024]⟩
abbrev S8x1x6144 : Shape := ⟨3, ![8, 1, 6144]⟩
abbrev S16384x512 : Shape := ⟨2, ![16384, 512]⟩
abbrev S1024x1024 : Shape := ⟨2, ![1024, 1024]⟩
abbrev S8x2048x1024 : Shape := ⟨3, ![8, 2048, 1024]⟩
abbrev S8x6144 : Shape := ⟨2, ![8, 6144]⟩
abbrev S8x1024 : Shape := ⟨2, ![8, 1024]⟩
abbrev S8x1x1024 : Shape := ⟨3, ![8, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S16384x512, .bf16⟩
  | .hbm, ⟨3, _⟩ => ⟨S16384x512, .bf16⟩
  | .hbm, ⟨4, _⟩ => ⟨S1024x1024, .f32⟩
  | .hbm, ⟨5, _⟩ => ⟨S16384x1024, .bf16⟩
  | .hbm, ⟨6, _⟩ => ⟨S16384x1024, .f32⟩
  | .hbm, ⟨7, _⟩ => ⟨S8x2048x1024, .f32⟩
  | .hbm, ⟨8, _⟩ => ⟨S8x6144, .f32⟩
  | .hbm, ⟨9, _⟩ => ⟨S8x2048x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Kernel6.lean ====
abbrev S16384x1024 : Shape := ⟨2, ![16384, 1024]⟩
abbrev S8x1x6144 : Shape := ⟨3, ![8, 1, 6144]⟩
abbrev S1024x1024 : Shape := ⟨2, ![1024, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S16384x1024, .bf16⟩
  | .hbm, ⟨3, _⟩ => ⟨S1024x1024, .f32⟩
  | .hbm, ⟨4, _⟩ => ⟨S1024x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S16384x1024 : Shape := ⟨2, ![16384, 1024]⟩
abbrev S8x1x6144 : Shape := ⟨3, ![8, 1, 6144]⟩
abbrev S1024x1024 : Shape := ⟨2, ![1024, 1024]⟩
abbrev S8x2048x1024 : Shape := ⟨3, ![8, 2048, 1024]⟩
abbrev S8x6144 : Shape := ⟨2, ![8, 6144]⟩
abbrev S8x1024 : Shape := ⟨2, ![8, 1024]⟩
abbrev S8x1x1024 : Shape := ⟨3, ![8, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S16384x1024, .bf16⟩
  | .hbm, ⟨3, _⟩ => ⟨S1024x1024, .f32⟩
  | .hbm, ⟨4, _⟩ => ⟨S16384x1024, .f32⟩
  | .hbm, ⟨5, _⟩ => ⟨S8x2048x1024, .f32⟩
  | .hbm, ⟨6, _⟩ => ⟨S8x6144, .f32⟩
  | .hbm, ⟨7, _⟩ => ⟨S8x2048x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel7.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel8.lean ====
abbrev S8x8x2048x64 : Shape := ⟨4, ![8, 8, 2048, 64]⟩
abbrev S16384x512 : Shape := ⟨2, ![16384, 512]⟩
abbrev S512 : Shape := ⟨1, ![512]⟩
abbrev S1x512 : Shape := ⟨2, ![1, 512]⟩
abbrev S1x8x256x64 : Shape := ⟨4, ![1, 8, 256, 64]⟩
abbrev S256x512 : Shape := ⟨2, ![256, 512]⟩
abbrev S1x1x256x64 : Shape := ⟨4, ![1, 1, 256, 64]⟩
abbrev S256x64 : Shape := ⟨2, ![256, 64]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S8x8x2048x64, .f32⟩
  | .hbm, ⟨1, _⟩ => ⟨S8x8x2048x64, .f32⟩
  | .hbm, ⟨2, _⟩ => ⟨S16384x512, .f32⟩
  | .hbm, ⟨3, _⟩ => ⟨S16384x512, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S16384x512, .bf16⟩
  | .local _ .vmem, ⟨0, _⟩ => ⟨S1x8x256x64, .f32⟩
  | .local _ .vmem, ⟨1, _⟩ => ⟨S1x8x256x64, .f32⟩
  | .local _ .vmem, ⟨2, _⟩ => ⟨S1x8x256x64, .f32⟩
  | .local _ .vmem, ⟨3, _⟩ => ⟨S1x8x256x64, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | _, _ => ⟨S8x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S8x8x2048x64 : Shape := ⟨4, ![8, 8, 2048, 64]⟩
abbrev S16384x512 : Shape := ⟨2, ![16384, 512]⟩
abbrev S512 : Shape := ⟨1, ![512]⟩
abbrev S8x2048x8x64 : Shape := ⟨4, ![8, 2048, 8, 64]⟩
abbrev S_ : Shape := ⟨0, ![]⟩
abbrev S8x2048x8 : Shape := ⟨3, ![8, 2048, 8]⟩
abbrev S8x2048x8x1 : Shape := ⟨4, ![8, 2048, 8, 1]⟩
abbrev S8x64 : Shape := ⟨2, ![8, 64]⟩
abbrev S1x1x8x64 : Shape := ⟨4, ![1, 1, 8, 64]⟩

abbrev nBuf : Space → Nat
  | .hbm => 44
  | .vmem => 0
  | .smem => 0
  | _ => 0

abbrev bufTy : (tb : Table) → Fin (tcTables nBuf tb) → BufTy
  | .hbm, ⟨0, _⟩ => ⟨S8x8x2048x64, .f32⟩
  | .hbm, ⟨1, _⟩ => ⟨S8x8x2048x64, .f32⟩
  | .hbm, ⟨2, _⟩ => ⟨S16384x512, .f32⟩
  | .hbm, ⟨3, _⟩ => ⟨S16384x512, .f32⟩
  | .hbm, ⟨4, _⟩ => ⟨S512, .f32⟩
  | .hbm, ⟨5, _⟩ => ⟨S512, .f32⟩
  | .hbm, ⟨6, _⟩ => ⟨S8x8x2048x64, .f32⟩
  | .hbm, ⟨7, _⟩ => ⟨S8x2048x8x64, .f32⟩
  | .hbm, ⟨8, _⟩ => ⟨S_, .f32⟩
  | .hbm, ⟨9, _⟩ => ⟨S8x2048x8, .f32⟩
  | .hbm, ⟨10, _⟩ => ⟨S8x2048x8x1, .f32⟩
  | .hbm, ⟨11, _⟩ => ⟨S_, .f32⟩
  | .hbm, ⟨12, _⟩ => ⟨S8x2048x8x1, .f32⟩
  | .hbm, ⟨13, _⟩ => ⟨S8x2048x8x1, .f32⟩
  | .hbm, ⟨14, _⟩ => ⟨S8x2048x8x64, .f32⟩
  | .hbm, ⟨15, _⟩ => ⟨S8x2048x8x64, .f32⟩
  | .hbm, ⟨16, _⟩ => ⟨S8x2048x8x64, .f32⟩
  | .hbm, ⟨17, _⟩ => ⟨S_, .f32⟩
  | .hbm, ⟨18, _⟩ => ⟨S8x2048x8, .f32⟩
  | .hbm, ⟨19, _⟩ => ⟨S8x2048x8x1, .f32⟩
  | .hbm, ⟨20, _⟩ => ⟨S_, .f32⟩
  | .hbm, ⟨21, _⟩ => ⟨S8x2048x8x1, .f32⟩
  | .hbm, ⟨22, _⟩ => ⟨S8x2048x8x1, .f32⟩
  | .hbm, ⟨23, _⟩ => ⟨S8x2048x8x64, .f32⟩
  | .hbm, ⟨24, _⟩ => ⟨S8x2048x8x64, .f32⟩
  | .hbm, ⟨25, _⟩ => ⟨S_, .f32⟩
  | .hbm, ⟨26, _⟩ => ⟨S8x2048x8x1, .f32⟩
  | .hbm, ⟨27, _⟩ => ⟨S8x2048x8x1, .f32⟩
  | .hbm, ⟨28, _⟩ => ⟨S8x2048x8x1, .f32⟩
  | .hbm, ⟨29, _⟩ => ⟨S8x2048x8x64, .f32⟩
  | .hbm, ⟨30, _⟩ => ⟨S8x2048x8x64, .f32⟩
  | .hbm, ⟨31, _⟩ => ⟨S8x64, .f32⟩
  | .hbm, ⟨32, _⟩ => ⟨S1x1x8x64, .f32⟩
  | .hbm, ⟨33, _⟩ => ⟨S8x2048x8x64, .f32⟩
  | .hbm, ⟨34, _⟩ => ⟨S8x2048x8x64, .f32⟩
  | .hbm, ⟨35, _⟩ => ⟨S8x64, .f32⟩
  | .hbm, ⟨36, _⟩ => ⟨S1x1x8x64, .f32⟩
  | .hbm, ⟨37, _⟩ => ⟨S8x2048x8x64, .f32⟩
  | .hbm, ⟨38, _⟩ => ⟨S8x2048x8x64, .f32⟩
  | .hbm, ⟨39, _⟩ => ⟨S8x2048x8x64, .f32⟩
  | .hbm, ⟨40, _⟩ => ⟨S8x2048x8x64, .f32⟩
  | .hbm, ⟨41, _⟩ => ⟨S16384x512, .f32⟩
  | .hbm, ⟨42, _⟩ => ⟨S16384x512, .f32⟩
  | .hbm, ⟨43, _⟩ => ⟨S16384x512, .bf16⟩
  | _, _ => ⟨S8x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel9.lean ====
abbrev S16384x1856 : Shape := ⟨2, ![16384, 1856]⟩
abbrev S1856 : Shape := ⟨1, ![1856]⟩
abbrev S2x512 : Shape := ⟨2, ![2, 512]⟩
abbrev S2x64x512 : Shape := ⟨3, ![2, 64, 512]⟩
abbrev S512 : Shape := ⟨1, ![512]⟩
abbrev S64x512 : Shape := ⟨2, ![64, 512]⟩
abbrev S128x512 : Shape := ⟨2, ![128, 512]⟩
abbrev S512x1 : Shape := ⟨2, ![512, 1]⟩
abbrev S1x512 : Shape := ⟨2, ![1, 512]⟩
abbrev S512x512 : Shape := ⟨2, ![512, 512]⟩
abbrev S1x1856 : Shape := ⟨2, ![1, 1856]⟩
abbrev S8x8x2048x64 : Shape := ⟨4, ![8, 8, 2048, 64]⟩
abbrev S16384x512 : Shape := ⟨2, ![16384, 512]⟩
abbrev S256x1856 : Shape := ⟨2, ![256, 1856]⟩
abbrev S8x1856 : Shape := ⟨2, ![8, 1856]⟩
abbrev S1x8x256x64 : Shape := ⟨4, ![1, 8, 256, 64]⟩
abbrev S256x512 : Shape := ⟨2, ![256, 512]⟩
abbrev S256x1 : Shape := ⟨2, ![256, 1]⟩
abbrev S256x64 : Shape := ⟨2, ![256, 64]⟩
abbrev S256x128 : Shape := ⟨2, ![256, 128]⟩
abbrev S1x64x512 : Shape := ⟨3, ![1, 64, 512]⟩
abbrev S1x1x256x64 : Shape := ⟨4, ![1, 1, 256, 64]⟩

abbrev nBuf : Space → Nat
  | .hbm => 34
  | .vmem => 34
  | .smem => 0
  | _ => 0

abbrev bufTy : (tb : Table) → Fin (tcTables nBuf tb) → BufTy
  | .hbm, ⟨0, _⟩ => ⟨S16384x1856, .f32⟩
  | .hbm, ⟨1, _⟩ => ⟨S1856, .f32⟩
  | .hbm, ⟨2, _⟩ => ⟨S2x512, .f32⟩
  | .hbm, ⟨3, _⟩ => ⟨S2x64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .i32⟩
  | .hbm, ⟨11, _⟩ => ⟨S512x1, .i32⟩
  | .hbm, ⟨12, _⟩ => ⟨S1x512, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .f32⟩
  | .hbm, ⟨17, _⟩ => ⟨S1x1856, .f32⟩
  | .hbm, ⟨18, _⟩ => ⟨S2x64x512, .bf16⟩
  | .hbm, ⟨19, _⟩ => ⟨S1x512, .f32⟩
  | .hbm, ⟨20, _⟩ => ⟨S64x512, .bf16⟩
  | .hbm, ⟨21, _⟩ => ⟨S128x512, .bf16⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S8x8x2048x64, .f32⟩
  | .hbm, ⟨26, _⟩ => ⟨S8x8x2048x64, .f32⟩
  | .hbm, ⟨27, _⟩ => ⟨S8x8x2048x64, .f32⟩
  | .hbm, ⟨28, _⟩ => ⟨S8x8x2048x64, .f32⟩
  | .hbm, ⟨29, _⟩ => ⟨S8x8x2048x64, .f32⟩
  | .hbm, ⟨30, _⟩ => ⟨S8x8x2048x64, .f32⟩
  | .hbm, ⟨31, _⟩ => ⟨S8x8x2048x64, .f32⟩
  | .hbm, ⟨32, _⟩ => ⟨S16384x512, .f32⟩
  | .hbm, ⟨33, _⟩ => ⟨S16384x512, .f32⟩
  | .local _ .vmem, ⟨0, _⟩ => ⟨S256x1856, .f32⟩
  | .local _ .vmem, ⟨1, _⟩ => ⟨S256x1856, .f32⟩
  | .local _ .vmem, ⟨2, _⟩ => ⟨S8x1856, .f32⟩
  | .local _ .vmem, ⟨3, _⟩ => ⟨S8x1856, .f32⟩
  | .local _ .vmem, ⟨4, _⟩ => ⟨S8x1856, .f32⟩
  | .local _ .vmem, ⟨5, _⟩ => ⟨S8x1856, .f32⟩
  | .local _ .vmem, ⟨6, _⟩ => ⟨S1x1856, .f32⟩
  | .local _ .vmem, ⟨7, _⟩ => ⟨S2x512, .f32⟩
  | .local _ .vmem, ⟨8, _⟩ => ⟨S2x64x512, .bf16⟩
  | .local _ .vmem, ⟨9, _⟩ => ⟨S1x512, .f32⟩
  | .local _ .vmem, ⟨10, _⟩ => ⟨S64x512, .bf16⟩
  | .local _ .vmem, ⟨11, _⟩ => ⟨S128x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S1x8x256x64, .f32⟩
  | .local _ .vmem, ⟨17, _⟩ => ⟨S1x8x256x64, .f32⟩
  | .local _ .vmem, ⟨18, _⟩ => ⟨S1x8x256x64, .f32⟩
  | .local _ .vmem, ⟨19, _⟩ => ⟨S1x8x256x64, .f32⟩
  | .local _ .vmem, ⟨20, _⟩ => ⟨S1x8x256x64, .f32⟩
  | .local _ .vmem, ⟨21, _⟩ => ⟨S1x8x256x64, .f32⟩
  | .local _ .vmem, ⟨22, _⟩ => ⟨S1x8x256x64, .f32⟩
  | .local _ .vmem, ⟨23, _⟩ => ⟨S1x8x256x64, .f32⟩
  | .local _ .vmem, ⟨24, _⟩ => ⟨S1x8x256x64, .f32⟩
  | .local _ .vmem, ⟨25, _⟩ => ⟨S1x8x256x64, .f32⟩
  | .local _ .vmem, ⟨26, _⟩ => ⟨S1x8x256x64, .f32⟩
  | .local _ .vmem, ⟨27, _⟩ => ⟨S1x8x256x64, .f32⟩
  | .local _ .vmem, ⟨28, _⟩ => ⟨S1x8x256x64, .f32⟩
  | .local _ .vmem, ⟨29, _⟩ => ⟨S1x8x256x64, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | _, _ => ⟨S16384x1856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev main_v14_6 : Ref sig .tc := ⟨.hbm, 31, rfl⟩
abbrev main_v14_7 : Ref sig .tc := ⟨.hbm, 32, rfl⟩
abbrev main_v14_8 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c32_i32 : BitVec 32 := 32#32
  let v3 : BitVec 32 := Scalar.muli v2 c32_i32
  let c2047_i32 : BitVec 32 := 2047#32
  let v4 : BitVec 32 := Scalar.minsi v3 c2047_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1856 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1856 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1856 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1856 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x8x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x256x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x256x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x256x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x256x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x256x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference9Ideal.lean ====
abbrev S16384x1856 : Shape := ⟨2, ![16384, 1856]⟩
abbrev S1856 : Shape := ⟨1, ![1856]⟩
abbrev S2x512 : Shape := ⟨2, ![2, 512]⟩
abbrev S2x64x512 : Shape := ⟨3, ![2, 64, 512]⟩
abbrev S512 : Shape := ⟨1, ![512]⟩
abbrev S64x512 : Shape := ⟨2, ![64, 512]⟩
abbrev S128x512 : Shape := ⟨2, ![128, 512]⟩
abbrev S8x2048x1856 : Shape := ⟨3, ![8, 2048, 1856]⟩
abbrev S8x2047x1856 : Shape := ⟨3, ![8, 2047, 1856]⟩
abbrev S_ : Shape := ⟨0, ![]⟩
abbrev S1x1x1856 : Shape := ⟨3, ![1, 1, 1856]⟩
abbrev S8x2048x512 : Shape := ⟨3, ![8, 2048, 512]⟩
abbrev S8x2048x64 : Shape := ⟨3, ![8, 2048, 64]⟩
abbrev S8x2048x128 : Shape := ⟨3, ![8, 2048, 128]⟩
abbrev S1x8x2048x64 : Shape := ⟨4, ![1, 8, 2048, 64]⟩
abbrev S2x8x2048x64 : Shape := ⟨4, ![2, 8, 2048, 64]⟩
abbrev S2x1x1x512 : Shape := ⟨4, ![2, 1, 1, 512]⟩
abbrev S2x8x2048x512 : Shape := ⟨4, ![2, 8, 2048, 512]⟩
abbrev S1x1x512 : Shape := ⟨3, ![1, 1, 512]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S8x64 : Shape := ⟨2, ![8, 64]⟩
abbrev S1x1x8x64 : Shape := ⟨4, ![1, 1, 8, 64]⟩
abbrev S8x8x2048x64 : Shape := ⟨4, ![8, 8, 2048, 64]⟩
abbrev S1x8x2048x512 : Shape := ⟨4, ![1, 8, 2048, 512]⟩
abbrev S16384x512 : Shape := ⟨2, ![16384, 512]⟩

abbrev nBuf : Space → Nat
  | .hbm => 139
  | .vmem => 0
  | .smem => 0
  | _ => 0

abbrev hbmTy0_0 (i : Nat) : BufTy := match i % 128 with
  | 0 => ⟨S16384x1856, .f32⟩
  | 1 => ⟨S1856, .f32⟩
  | 2 => ⟨S2x512, .f32⟩
  | 3 => ⟨S2x64x512, .f32⟩
  | 4 => ⟨S512, .f32⟩
  | 5 => ⟨S64x512, .f32⟩
  | 6 => ⟨S128x512, .f32⟩
  | 7 => ⟨S512, .f32⟩
  | 8 => ⟨S512, .f32⟩
  | 9 => ⟨S512, .f32⟩
  | 10 => ⟨S8x2048x1856, .f32⟩
  | 11 => ⟨S8x2047x1856, .f32⟩
  | 12 => ⟨S_, .i32⟩
  | 13 => ⟨S_, .f32⟩
  | 14 => ⟨S8x2048x1856, .f32⟩
  | 15 => ⟨S8x2047x1856, .f32⟩
  | 16 => ⟨S_, .i32⟩
  | 17 => ⟨S_, .f32⟩
  | 18 => ⟨S8x2048x1856, .f32⟩
  | 19 => ⟨S8x2048x1856, .f32⟩
  | 20 => ⟨S_, .f32⟩
  | 21 => ⟨S8x2048x1856, .f32⟩
  | 22 => ⟨S8x2048x1856, .f32⟩
  | 23 => ⟨S8x2048x1856, .f32⟩
  | 24 => ⟨S1x1x1856, .f32⟩
  | 25 => ⟨S8x2048x1856, .f32⟩
  | 26 => ⟨S8x2048x1856, .f32⟩
  | 27 => ⟨S8x2048x1856, .f32⟩
  | 28 => ⟨S8x2048x512, .f32⟩
  | 29 => ⟨S8x2048x512, .f32⟩
  | 30 => ⟨S8x2048x512, .f32⟩
  | 31 => ⟨S8x2048x64, .f32⟩
  | 32 => ⟨S8x2048x64, .f32⟩
  | 33 => ⟨S8x2048x64, .f32⟩
  | 34 => ⟨S8x2048x128, .f32⟩
  | 35 => ⟨S1x8x2048x64, .f32⟩
  | 36 => ⟨S1x8x2048x64, .f32⟩
  | 37 => ⟨S2x8x2048x64, .f32⟩
  | 38 => ⟨S2x1x1x512, .f32⟩
  | 39 => ⟨S2x8x2048x64, .f32⟩
  | 40 => ⟨S2x8x2048x512, .f32⟩
  | 41 => ⟨S2x8x2048x512, .f32⟩
  | 42 => ⟨S2x8x2048x512, .f32⟩
  | 43 => ⟨S2x8x2048x512, .f32⟩
  | 44 => ⟨S_, .f32⟩
  | 45 => ⟨S2x8x2048x512, .f32⟩
  | 46 => ⟨S2x8x2048x512, .f32⟩
  | 47 => ⟨S2x8x2048x512, .f32⟩
  | 48 => ⟨S2x8x2048x512, .f32⟩
  | 49 => ⟨S2x8x2048x512, .i1⟩
  | 50 => ⟨S2x8x2048x512, .f32⟩
  | 51 => ⟨S2x8x2048x512, .f32⟩
  | 52 => ⟨S2x8x2048x512, .f32⟩
  | 53 => ⟨S2x8x2048x512, .f32⟩
  | 54 => ⟨S2x8x2048x512, .f32⟩
  | 55 => ⟨S2x8x2048x512, .f32⟩
  | 56 => ⟨S2x8x2048x512, .f32⟩
  | 57 => ⟨S2x8x2048x512, .f32⟩
  | 58 => ⟨S2x8x2048x512, .f32⟩
  | 59 => ⟨S_, .f32⟩
  | 60 => ⟨S2x8x2048x512, .f32⟩
  | 61 => ⟨S2x8x2048x512, .f32⟩
  | 62 => ⟨S2x8x2048x512, .f32⟩
  | 63 => ⟨S2x8x2048x512, .f32⟩
  | 64 => ⟨S8x2048x512, .f32⟩
  | 65 => ⟨S1x1x512, .f32⟩
  | 66 => ⟨S8x2048x512, .f32⟩
  | 67 => ⟨S8x2048x512, .f32⟩
  | 68 => ⟨S8x2048x512, .f32⟩
  | 69 => ⟨S8x2048x512, .f32⟩
  | 70 => ⟨S_, .f32⟩
  | 71 => ⟨S8x2048x512, .f32⟩
  | 72 => ⟨S8x2048x512, .f32⟩
  | 73 => ⟨S_, .f32⟩
  | 74 => ⟨S8x2048x512, .f32⟩
  | 75 => ⟨S8x2048x512, .f32⟩
  | 76 => ⟨S8x2048x128, .f32⟩
  | 77 => ⟨S8x2048x128, .f32⟩
  | 78 => ⟨S_, .f32⟩
  | 79 => ⟨S8x2048x128, .f32⟩
  | 80 => ⟨S8x2048x128, .f32⟩
  | 81 => ⟨S_, .f32⟩
  | 82 => ⟨S8x2048x128, .f32⟩
  | 83 => ⟨S8x2048x128, .f32⟩
  | 84 => ⟨S8x2048x512, .f32⟩
  | 85 => ⟨S1x1x512, .f32⟩
  | 86 => ⟨S8x2048x512, .f32⟩
  | 87 => ⟨S8x2048x512, .f32⟩
  | 88 => ⟨S8x2048x8x64, .f32⟩
  | 89 => ⟨S8x2048x8x64, .f32⟩
  | 90 => ⟨S_, .f32⟩
  | 91 => ⟨S8x2048x8, .f32⟩
  | 92 => ⟨S8x2048x8x1, .f32⟩
  | 93 => ⟨S8x2048x8x1, .f32⟩
  | 94 => ⟨S_, .f32⟩
  | 95 => ⟨S8x2048x8x1, .f32⟩
  | 96 => ⟨S8x2048x8x1, .f32⟩
  | 97 => ⟨S8x2048x8x64, .f32⟩
  | 98 => ⟨S8x2048x8x64, .f32⟩
  | 99 => ⟨S_, .f32⟩
  | 100 => ⟨S8x2048x512, .f32⟩
  | 101 => ⟨S8x2048x512, .f32⟩
  | 102 => ⟨S1x1x512, .f32⟩
  | 103 => ⟨S8x2048x512, .f32⟩
  | 104 => ⟨S8x2048x512, .f32⟩
  | 105 => ⟨S_, .f32⟩
  | 106 => ⟨S8x2048x512, .f32⟩
  | 107 => ⟨S8x2048x512, .f32⟩
  | 108 => ⟨S8x2048x512, .f32⟩
  | 109 => ⟨S8x2048x8x64, .f32⟩
  | 110 => ⟨S8x2048x8x64, .f32⟩
  | 111 => ⟨S8x2048x8x64, .f32⟩
  | 112 => ⟨S8x2048x8x64, .f32⟩
  | 113 => ⟨S8x2048x8x64, .f32⟩
  | 114 => ⟨S8x64, .f32⟩
  | 115 => ⟨S1x1x8x64, .f32⟩
  | 116 => ⟨S8x2048x8x64, .f32⟩
  | 117 => ⟨S8x2048x8x64, .f32⟩
  | 118 => ⟨S_, .f32⟩
  | 119 => ⟨S8x2048x8, .f32⟩
  | 120 => ⟨S8x2048x8x1, .f32⟩
  | 121 => ⟨S8x2048x8x64, .f32⟩
  | 122 => ⟨S8x2048x8x64, .f32⟩
  | 123 => ⟨S8x8x2048x64, .f32⟩
  | 124 => ⟨S8x8x2048x64, .f32⟩
  | 125 => ⟨S8x8x2048x64, .f32⟩
  | 126 => ⟨S8x8x2048x64, .f32⟩
  | 127 => ⟨S8x2048x8x64, .f32⟩
  | _ => ⟨S16384x1856, .f32⟩

abbrev hbmTy0_1 (i : Nat) : BufTy := match i % 128 with
  | 0 => ⟨S8x8x2048x64, .f32⟩
  | 1 => ⟨S1x8x2048x512, .f32⟩
  | 2 => ⟨S8x2048x512, .f32⟩
  | 3 => ⟨S8x2048x8x64, .f32⟩
  | 4 => ⟨S8x8x2048x64, .f32⟩
  | 5 => ⟨S1x8x2048x512, .f32⟩
  | 6 => ⟨S8x2048x512, .f32⟩
  | 7 => ⟨S8x2048x8x64, .f32⟩
  | 8 => ⟨S8x8x2048x64, .f32⟩
  | 9 => ⟨S16384x512, .f32⟩
  | 10 => ⟨S16384x512, .f32⟩
  | _ => ⟨S16384x1856, .f32⟩

abbrev hbmTy (i : Nat) : BufTy := match i / 128 with
  | 0 => hbmTy0_0 i
  | 1 => hbmTy0_1 i
  | _ => ⟨S16384x1856, .f32⟩

abbrev bufTy : (tb : Table) → Fin (tcTables nBuf tb) → BufTy
  | .hbm, ⟨i, _⟩ => hbmTy i
  | _, _ => ⟨S16384x1856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_v29 : Ref sig .tc := ⟨.hbm, 57, rfl⟩
abbrev main_v30 : Ref sig .tc := ⟨.hbm, 58, rfl⟩
abbrev main_cst_1 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_2 : Ref sig .tc := ⟨.hbm, 70, rfl⟩
abbrev main_v41 : Ref sig .tc := ⟨.hbm, 71, rfl⟩
abbrev main_v42 : Ref sig .tc := ⟨.hbm, 72, rfl⟩
abbrev main_cst_3 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_4 : Ref sig .tc := ⟨.hbm, 78, rfl⟩
abbrev main_v47 : Ref sig .tc := ⟨.hbm, 79, rfl⟩
abbrev main_v48 : Ref sig .tc := ⟨.hbm, 80, rfl⟩
abbrev main_cst_5 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_6 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_7 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_8 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_9 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_10 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]
-- ==== Proof.AttnBucket.lean ====
module

public import Idealize.ShloMosaic.Lib.Pipeline.ValueKit

@[expose] public section

set_option maxRecDepth 16384

/-!
The bucket of a relative position, and the chain of selects by which the band of biases reads
one column of the table at that bucket.
-/

namespace Cert.Attn

open Idealize.ShloMosaic

/-- The bucket of a distance: the distance itself below eight, then the logarithmic steps, at most fifteen. -/
def edge (n : ℤ) : Fin 16 :=
  if n < 1 then 0 else if n < 2 then 1 else if n < 3 then 2 else if n < 4 then 3 else if n < 5 then 4 else if n < 6 then 5 else if n < 7 then 6 else if n < 8 then 7 else if n < 12 then 8 else if n < 16 then 9 else if n < 23 then 10 else if n < 32 then 11 else if n < 46 then 12 else if n < 64 then 13 else if n < 91 then 14 else 15

/-- The bucket of a relative position: the upper sixteen for the keys after the query. -/
def bkt (z : ℤ) : Fin 32 :=
  if 0 < z then ⟨16 + (edge |z|).val, by omega⟩ else ⟨(edge |z|).val, by omega⟩

/-- The selects over the fifteen edges, one chain on each side of the diagonal. -/
def pick {α : Type} (T : Fin 32 → α) (w : BitVec 32) : α :=
  Scalar.select (IntOp.cmpi .sgt w 0#32)
    (Scalar.select (IntOp.cmpi .slt (IntOp.absi w) 1#32) (T 16) (Scalar.select (IntOp.cmpi .slt (IntOp.absi w) 2#32) (T 17) (Scalar.select (IntOp.cmpi .slt (IntOp.absi w) 3#32) (T 18) (Scalar.select (IntOp.cmpi .slt (IntOp.absi w) 4#32) (T 19) (Scalar.select (IntOp.cmpi .slt (IntOp.absi w) 5#32) (T 20) (Scalar.select (IntOp.cmpi .slt (IntOp.absi w) 6#32) (T 21) (Scalar.select (IntOp.cmpi .slt (IntOp.absi w) 7#32) (T 22) (Scalar.select (IntOp.cmpi .slt (IntOp.absi w) 8#32) (T 23) (Scalar.select (IntOp.cmpi .slt (IntOp.absi w) 12#32) (T 24) (Scalar.select (IntOp.cmpi .slt (IntOp.absi w) 16#32) (T 25) (Scalar.select (IntOp.cmpi .slt (IntOp.absi w) 23#32) (T 26) (Scalar.select (IntOp.cmpi .slt (IntOp.absi w) 32#32) (T 27) (Scalar.select (IntOp.cmpi .slt (IntOp.absi w) 46#32) (T 28) (Scalar.select (IntOp.cmpi .slt (IntOp.absi w) 64#32) (T 29) (Scalar.select (IntOp.cmpi .slt (IntOp.absi w) 91#32) (T 30) (T 31))))))))))))))))
    (Scalar.select (IntOp.cmpi .slt (IntOp.absi w) 1#32) (T 0) (Scalar.select (IntOp.cmpi .slt (IntOp.absi w) 2#32) (T 1) (Scalar.select (IntOp.cmpi .slt (IntOp.absi w) 3#32) (T 2) (Scalar.select (IntOp.cmpi .slt (IntOp.absi w) 4#32) (T 3) (Scalar.select (IntOp.cmpi .slt (IntOp.absi w) 5#32) (T 4) (Scalar.select (IntOp.cmpi .slt (IntOp.absi w) 6#32) (T 5) (Scalar.select (IntOp.cmpi .slt (IntOp.absi w) 7#32) (T 6) (Scalar.select (IntOp.cmpi .slt (IntOp.absi w) 8#32) (T 7) (Scalar.select (IntOp.cmpi .slt (IntOp.absi w) 12#32) (T 8) (Scalar.select (IntOp.cmpi .slt (IntOp.absi w) 16#32) (T 9) (Scalar.select (IntOp.cmpi .slt (IntOp.absi w) 23#32) (T 10) (Scalar.select (IntOp.cmpi .slt (IntOp.absi w) 32#32) (T 11) (Scalar.select (IntOp.cmpi .slt (IntOp.absi w) 46#32) (T 12) (Scalar.select (IntOp.cmpi .slt (IntOp.absi w) 64#32) (T 13) (Scalar.select (IntOp.cmpi .slt (IntOp.absi w) 91#32) (T 14) (T 15))))))))))))))))

theorem select_slt {α : Type} (w e : BitVec 32) (a b : α) :
    Scalar.select (IntOp.cmpi .slt w e) a b = if w.toInt < e.toInt then a else b := by
  unfold Scalar.select IntOp.cmpi
  by_cases h : w.toInt < e.toInt <;> simp [BitVec.slt, h]

theorem select_sgt {α : Type} (w e : BitVec 32) (a b : α) :
    Scalar.select (IntOp.cmpi .sgt w e) a b = if e.toInt < w.toInt then a else b := by
  unfold Scalar.select IntOp.cmpi
  by_cases h : e.toInt < w.toInt <;> simp [BitVec.slt, h]

theorem toInt_word (z : ℤ) (h : |z| < 100000) : (BitVec.ofInt 32 z).toInt = z := by
  rw [abs_lt] at h
  rw [BitVec.toInt_ofInt, Int.bmod_def]
  omega

theorem absi_word (z : ℤ) (h : |z| < 100000) :
    IntOp.absi (BitVec.ofInt 32 z) = BitVec.ofInt 32 |z| := by
  unfold IntOp.absi
  rw [BitVec.msb_eq_toInt, toInt_word z h]
  by_cases hz : z < 0
  · rw [if_pos (by simpa using hz), abs_of_neg hz, BitVec.ofInt_neg]
  · rw [if_neg (by simpa using hz), abs_of_nonneg (by omega)]

/-- A function of the bucket, case by case. -/
theorem edge_cases {α : Type} (T : Fin 16 → α) (n : ℤ) :
    (if n < 1 then T 0 else if n < 2 then T 1 else if n < 3 then T 2 else if n < 4 then T 3 else if n < 5 then T 4 else if n < 6 then T 5 else if n < 7 then T 6 else if n < 8 then T 7 else if n < 12 then T 8 else if n < 16 then T 9 else if n < 23 then T 10 else if n < 32 then T 11 else if n < 46 then T 12 else if n < 64 then T 13 else if n < 91 then T 14 else T 15) = T (edge n) := by
  unfold edge
  simp only [apply_ite T]

/-- Reading the chain at a word is reading the column at the bucket of the word's value. -/
theorem pick_word {α : Type} (T : Fin 32 → α) (z : ℤ) (h : |z| < 100000) :
    pick T (BitVec.ofInt 32 z) = T (bkt z) := by
  unfold pick
  simp only [select_slt, select_sgt, absi_word z h, toInt_word z h,
    toInt_word |z| (by rwa [abs_abs]), BitVec.reduceToInt]
  unfold bkt
  by_cases hz : 0 < z
  · rw [if_pos hz, if_pos hz]
    exact edge_cases (fun k => T ⟨16 + k.val, by omega⟩) |z|
  · rw [if_neg hz, if_neg hz]
    exact edge_cases (fun k => T ⟨k.val, by omega⟩) |z|

/-- From ninety-one on the distance's bucket is the last. -/
theorem edge_far (n : ℤ) (h : 91 ≤ n) : edge n = 15 := by
  have := edge_cases (fun k => k) n
  rw [← this]
  repeat rw [if_neg (by omega)]

/-- Two lengths, one added and one taken away, as words. -/
theorem word_sub (C : BitVec 32) (k : ℤ) (hC : C = BitVec.ofInt 32 k) (a b : ℕ) :
    IntOp.subi (IntOp.addi C (BitVec.ofNat 32 a)) (BitVec.ofNat 32 b)
      = BitVec.ofInt 32 (k + a - b) := by
  subst hC
  unfold IntOp.subi IntOp.addi
  rw [sub_eq_add_neg (k + (a : ℤ)), BitVec.ofInt_add, BitVec.ofInt_add, BitVec.ofInt_neg,
    BitVec.ofInt_natCast, BitVec.ofInt_natCast, BitVec.sub_eq_add_neg]

/-- The bucket far after the query is the last of the upper half. -/
theorem bkt_far_pos (z : ℤ) (h : 91 ≤ z) : bkt z = 31 := by
  unfold bkt
  rw [if_pos (by omega)]
  apply Fin.ext
  simp only [edge_far |z| (by rw [abs_of_nonneg (by omega)]; exact h)]
  rfl

/-- The bucket far before the query is the last of the lower half. -/
theorem bkt_far_neg (z : ℤ) (h : z ≤ -91) : bkt z = 15 := by
  unfold bkt
  rw [if_neg (by omega)]
  apply Fin.ext
  simp only [edge_far |z| (by rw [abs_of_neg (by omega)]; omega)]
  rfl

end Cert.Attn
-- ==== Proof.AttnMath.lean ====
module

public import proofs.«01_k».proof.Proof.AttnBucket
public import Idealize.ShloMosaic.Lib.IdealHost

@[expose] public section

set_option maxRecDepth 16384

/-!
One query row of the attention over the extended reals: its scores, their softmax written with a
quotient and written with a reciprocal, the difference of the two maps, the weighted sum of the
values and the normalisation over a head's columns.
-/

noncomputable section

namespace Cert.Attn

open Idealize.ShloMosaic

/-- A query's scores: the scaled products with the keys plus the biases. -/
def lg (Q : Fin 64 → EReal) (K : Fin 2048 → Fin 64 → EReal) (b : Fin 2048 → EReal) (j : Fin 2048) : EReal :=
  (∑ d, Q d * K j d) * Ideal.ofBits .f32 0x3E000000#32 + b j

/-- The greatest score. -/
def mx (L : Fin 2048 → EReal) : EReal :=
  Finset.univ.fold max (Ideal.ofBits .f32 0xFF800000#32) L

/-- The exponential of a score below the greatest. -/
def ex (L : Fin 2048 → EReal) (j : Fin 2048) : EReal := Ideal.exp (L j - mx L)

/-- The exponentials' sum. -/
def sm (L : Fin 2048 → EReal) : EReal := ∑ j, ex L j

/-- A key's weight, written with the reciprocal of the sum. -/
def wMul (L : Fin 2048 → EReal) (j : Fin 2048) : EReal := ex L j * Ideal.div 1 (sm L)

/-- A key's weight, written as a quotient. -/
def wDiv (L : Fin 2048 → EReal) (j : Fin 2048) : EReal := Ideal.div (ex L j) (sm L)

/-- The values summed under the difference of the two maps. -/
def mix (w0 w1 : Fin 2048 → EReal) (lam : EReal) (v : Fin 2048 → Fin 128 → EReal) (x : Fin 128) : EReal :=
  ∑ j, (w0 j - lam * w1 j) * v j x

/-- The normalisation of a row of a head's columns, its gain and the layer's factor. -/
def norm (o g : Fin 128 → EReal) (x : Fin 128) : EReal :=
  o x * Ideal.rsqrt (Ideal.div (∑ y, o y * o y) (Ideal.ofBits .f32 0x43000000#32)
    + Ideal.ofBits .f32 0x358637BD#32) * g x * Ideal.ofBits .f32 0x3F24FD5C#32

/-- A sum over the lanes under the mask of the first half is the sum over the first half. -/
theorem sum_lo (f : Fin 128 → EReal) :
    (∑ x : Fin 128, Scalar.select (IntOp.andi (IntOp.cmpi .sge (BitVec.ofNat 32 x.val) 0#32)
      (IntOp.cmpi .slt (BitVec.ofNat 32 x.val) 64#32)) (f x) 0)
      = ∑ d : Fin 64, f ⟨d.val, by omega⟩ := by
  have hm : ∀ x : Fin 128, IntOp.andi (IntOp.cmpi .sge (BitVec.ofNat 32 x.val) 0#32)
      (IntOp.cmpi .slt (BitVec.ofNat 32 x.val) 64#32) = if x.val < 64 then 1#1 else 0#1 := by decide +kernel
  have he : ∀ x : Fin 128, Scalar.select (IntOp.andi (IntOp.cmpi .sge (BitVec.ofNat 32 x.val) 0#32)
      (IntOp.cmpi .slt (BitVec.ofNat 32 x.val) 64#32)) (f x) 0 = if x.val < 64 then f x else 0 := by
    intro x
    rw [hm x]
    by_cases h : x.val < 64
    · rw [if_pos h, if_pos h]; rfl
    · rw [if_neg h, if_neg h]; rfl
  rw [Finset.sum_congr rfl fun x _ => he x, Fin.sum_univ_two_halves 64 64 rfl]
  have h2 : ∀ d : Fin 64, ¬ (64 + d.val < 64) := fun d => by omega
  simp only [Fin.is_lt, h2, if_true, if_false, Finset.sum_const_zero, zero_add, add_zero]

/-- A sum over the lanes under the mask of the second half is the sum over the second half. -/
theorem sum_hi (f : Fin 128 → EReal) :
    (∑ x : Fin 128, Scalar.select (IntOp.andi (IntOp.cmpi .sge (BitVec.ofNat 32 x.val) 64#32)
      (IntOp.cmpi .slt (BitVec.ofNat 32 x.val) 128#32)) (f x) 0)
      = ∑ d : Fin 64, f ⟨64 + d.val, by omega⟩ := by
  have hm : ∀ x : Fin 128, IntOp.andi (IntOp.cmpi .sge (BitVec.ofNat 32 x.val) 64#32)
      (IntOp.cmpi .slt (BitVec.ofNat 32 x.val) 128#32) = if x.val < 64 then 0#1 else 1#1 := by decide +kernel
  have he : ∀ x : Fin 128, Scalar.select (IntOp.andi (IntOp.cmpi .sge (BitVec.ofNat 32 x.val) 64#32)
      (IntOp.cmpi .slt (BitVec.ofNat 32 x.val) 128#32)) (f x) 0 = if x.val < 64 then 0 else f x := by
    intro x
    rw [hm x]
    by_cases h : x.val < 64
    · rw [if_pos h, if_pos h]; rfl
    · rw [if_neg h, if_neg h]; rfl
  rw [Finset.sum_congr rfl fun x _ => he x, Fin.sum_univ_two_halves 64 64 rfl]
  have h2 : ∀ d : Fin 64, ¬ (64 + d.val < 64) := fun d => by omega
  simp only [Fin.is_lt, h2, if_true, if_false, Finset.sum_const_zero, zero_add, add_zero]

/-- A value that is neither infinity. -/
def Real' (x : EReal) : Prop := ∃ r : ℝ, x = (r : EReal)

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.add {x y : EReal} (hx : Real' x) (hy : Real' y) : Real' (x + y) := by
  obtain ⟨a, rfl⟩ := hx
  obtain ⟨b, rfl⟩ := hy
  exact ⟨a + b, (EReal.coe_add a b).symm⟩

theorem Real'.sum {ι : Type} (s : Finset ι) (f : ι → EReal) (h : ∀ i, Real' (f i)) : Real' (∑ i ∈ s, f i) := by
  classical
  induction s using Finset.induction_on with
  | empty => exact ⟨0, by simp⟩
  | insert a s ha ih => rw [Finset.sum_insert ha]; exact (h a).add ih

theorem ofBits_negInf : Ideal.ofBits .f32 0xFF800000#32 = ⊥ := by
  first | rfl | (simp [Ideal.ofBits]) | decide

theorem exp_nonneg (x : EReal) : 0 ≤ Ideal.exp x := by
  induction x using EReal.rec with
  | bot => exact le_refl _
  | top => exact le_top
  | coe r => exact EReal.coe_nonneg.mpr (Real.exp_pos r).le

/-- Where no score is infinite, the sum of the exponentials is not zero: the greatest score counts one. -/
theorem sm_ne_zero (L : Fin 2048 → EReal) (h : ∀ j, Real' (L j)) : sm L ≠ 0 := by
  obtain ⟨k, -, hk⟩ := Finset.exists_mem_eq_sup (Finset.univ : Finset (Fin 2048)) ⟨0, Finset.mem_univ _⟩ L
  have hm : mx L = L k := by
    unfold mx
    rw [ofBits_negInf]
    exact hk
  have h1 : ex L k = 1 := by
    unfold ex
    rw [hm]
    obtain ⟨r, hr⟩ := h k
    rw [hr, ← EReal.coe_sub, sub_self]
    show ((Real.exp 0 : ℝ) : EReal) = 1
    rw [Real.exp_zero]; rfl
  have h2 : ex L k ≤ sm L :=
    Finset.single_le_sum (f := ex L) (fun j _ => exp_nonneg _) (Finset.mem_univ k)
  rw [h1] at h2
  intro h0
  rw [h0] at h2
  exact absurd h2 (by norm_num)

/-- There the reciprocal and the quotient give the same weight. -/
theorem wMul_eq (L : Fin 2048 → EReal) (h : ∀ j, Real' (L j)) : wMul L = wDiv L := by
  funext j
  exact Ideal.mul_one_div (sm_ne_zero L h)

/-- Scores of finite queries, keys and biases are finite. -/
theorem lg_real (Q : Fin 64 → EReal) (K : Fin 2048 → Fin 64 → EReal) (b : Fin 2048 → EReal)
    (hQ : ∀ d, Real' (Q d)) (hK : ∀ j d, Real' (K j d)) (hb : ∀ j, Real' (b j)) (j : Fin 2048) :
    Real' (lg Q K b j) := by
  refine Real'.add (Real'.mul (Real'.sum _ _ fun d => (hQ d).mul (hK j d)) ?_) (hb j)
  refine ⟨(1 : ℝ) / 8, ?_⟩
  simp [Ideal.ofBits, Ideal.ieee, -EReal.coe_mul]; norm_num

end Cert.Attn

end
-- ==== Proof.AttnPre.lean ====
module

public import proofs.«01_k».proof.Defs
public import proofs.«01_k».proof.Proof.AttnMath
public import Idealize.ShloMosaic.Lib.ReduceAll
public import Idealize.ShloMosaic.Lib.Pipeline.ValueKit

@[expose] public section

set_option maxRecDepth 16384

/-!
The condition on the queries, the keys and the table of biases, as statements about their entries.
-/

noncomputable section

namespace Cert.Attn

open Idealize.ShloMosaic Idealize.ShloMosaic.TcCoe Idealize.SL.Sem

theorem pre_facts : Cert.Pre_finite.Facts where
  slices_S16384x3072_S16384x2048_0_0 := by decide
  bitsLt_bf16_f32 := by decide
  bcast_S_S16384x2048 := by decide
  reducesTo_S16384x2048_S_d0_1 := by decide
  h_S_ := by decide
  bcast_S_S32x8 := by decide
  reducesTo_S32x8_S_d0_1 := by decide

theorem ofBits_inf : Ideal.ofBits .f32 0x7F800000#32 = ⊤ := by
  first | rfl | (simp [Ideal.ofBits]) | decide

/-- A number whose absolute value is below infinity is real. -/
theorem real_of_lt (x : EReal) (h : Ideal.cmp .olt (max x (-x)) (Ideal.ofBits .f32 0x7F800000#32) = 1#1) : Real' x := by
  rw [ofBits_inf] at h
  unfold Ideal.cmp at h
  induction x using EReal.rec with
  | bot => simp at h
  | top => simp at h
  | coe r => exact ⟨r, rfl⟩

/-- Where the condition holds, the queries', the keys' and the table's entries are real. -/
theorem fn_real [Cert.Pre_finite.Facts] (x0 : FVec Ideal Cert.Pre_finite.S16384x3072 .bf16) (x1 : FVec Ideal Cert.Pre_finite.S32x8 .f32)
    (x2 : FVec Ideal Cert.Pre_finite.S4x64 .f32) (x3 : FVec Ideal Cert.Pre_finite.S128 .f32)
    (j : Cert.Pre_finite.S_.Idx) (h : Cert.Pre_finite.fn (F := Ideal) x0 x1 x2 x3 j = 1#1) :
    (∀ (n : Fin 16384) (z : Fin 3072), z.val < 2048 → Real' (x0 (ix2 n z)))
      ∧ ∀ (a : Fin 32) (b : Fin 8), Real' (x1 (ix2 a b)) := by
  haveI : Subsingleton Cert.Pre_finite.S_.Idx := ⟨fun a b => funext fun i => i.elim0⟩
  unfold Cert.Pre_finite.fn at h
  obtain ⟨h1, h2⟩ := IntOp.andi_eq_one.1 h
  constructor
  · intro n z hz
    have e := Host.reduce_andi_all _ _ _ _ _ h1 (ix2 n ⟨z.val, hz⟩)
    have e2 : extractStridedSlice Cert.Pre_finite.S16384x2048 ![0, 0] x0
        Cert.Pre_finite.Facts.slices_S16384x3072_S16384x2048_0_0 (ix2 n ⟨z.val, hz⟩) = x0 (ix2 n z) :=
      extractStridedSlice_apply ![0, 0] x0 _ (ix2 n ⟨z.val, hz⟩) (ix2 n z) (fun a => match a with
      | ⟨0, _⟩ => by show n.val = 0 + n.val; omega
      | ⟨1, _⟩ => by show z.val = 0 + z.val; omega)
    refine real_of_lt _ (Eq.trans ?_ e)
    rw [← e2]
    rfl
  · intro a b
    exact real_of_lt _ (Host.reduce_andi_all _ _ _ _ _ h2 (ix2 a b))

end Cert.Attn

end
-- ==== Proof.AttnRun.lean ====
module

public import proofs.«01_k».proof.Proof.Gen.KernelIdeal.Frame

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

set_option backward.isDefEq.respectTransparency.types false in
/-- The attention's launch: the result array ends at what the second call's write-backs leave in it, and every
    argument ends as it was given. -/
theorem run : θ_run defs (onTc (τ := τ) (main (F := F))) ⟨m, fun _ => 0, ρ⟩ (fun r => (∀ c : Dev nD,
      r.2.mem ((c.tc : Thread nD τ).loc main_v19) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c =>
      ⟨(h c _ (mem_uc main_v19 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩, funext fun g => hz g (.inr (no_unscoped g.2))⟩)

end Cert.KernelIdeal.Own

end
-- ==== Proof.AttnLog.lean ====
module

public import proofs.«01_k».proof.Proof.AttnBucket
public import Idealize.ShloMosaic.Lib.IdealHost

@[expose] public section

set_option maxRecDepth 16384

/-!
The reference's bucket, computed with logarithms over the reals, is the bucket by steps.
-/

noncomputable section

namespace Cert.Attn

open Idealize.ShloMosaic

/-- The whole part of eight times the logarithm of an eighth of `n` to the base sixteen, where the
square of `n` lies between two powers of two. -/
theorem floor_log (n : ℤ) (k : ℕ) (hn : 8 ≤ n) (lo : (2 : ℤ) ^ (6 + k) ≤ n ^ 2) (hi : n ^ 2 < (2 : ℤ) ^ (7 + k)) :
    ⌊Real.log ((n : ℝ) * (1 / 8)) * (1 / Real.log 16) * 8⌋ = (k : ℤ) := by
  have l2 : 0 < Real.log 2 := Real.log_pos (by norm_num)
  have hn0 : (0 : ℝ) < n := by exact_mod_cast (by omega : (0 : ℤ) < n)
  have e16 : Real.log 16 = 4 * Real.log 2 := by
    rw [show (16 : ℝ) = 2 ^ 4 by norm_num, Real.log_pow]; norm_num
  have e8 : Real.log ((n : ℝ) * (1 / 8)) = Real.log n - 3 * Real.log 2 := by
    rw [mul_one_div, Real.log_div hn0.ne' (by norm_num), show (8 : ℝ) = 2 ^ 3 by norm_num, Real.log_pow]; norm_num
  have lo' : ((6 + k : ℕ) : ℝ) * Real.log 2 ≤ 2 * Real.log n := by
    have : Real.log ((2 : ℝ) ^ (6 + k)) ≤ Real.log ((n : ℝ) ^ 2) :=
      Real.log_le_log (by positivity) (by exact_mod_cast lo)
    rw [Real.log_pow, Real.log_pow] at this
    exact_mod_cast this
  have hi' : 2 * Real.log n < ((7 + k : ℕ) : ℝ) * Real.log 2 := by
    have : Real.log ((n : ℝ) ^ 2) < Real.log ((2 : ℝ) ^ (7 + k)) :=
      Real.log_lt_log (by positivity) (by exact_mod_cast hi)
    rw [Real.log_pow, Real.log_pow] at this
    exact_mod_cast this
  push_cast at lo' hi'
  have ex : Real.log ((n : ℝ) * (1 / 8)) * (1 / Real.log 16) * 8 = (2 * Real.log n - 6 * Real.log 2) / Real.log 2 := by
    rw [e8, e16]; field_simp; ring
  rw [ex, Int.floor_eq_iff]
  constructor
  · rw [le_div_iff₀ l2]; push_cast; linarith
  · rw [div_lt_iff₀ l2]; push_cast; linarith

/-- The logarithmic step as the reference computes it: the word of eight plus the whole part, at most fifteen. -/
def large (w : BitVec 32) : BitVec 32 :=
  IntOp.minsi (IntOp.addi 8#32 (FloatOps.fptosi (F := Ideal) (φ := .f32) 32
    (FloatOps.mulf (F := Ideal) (φ := .f32)
      (FloatOps.hostDivf (F := Ideal) (φ := .f32) (FloatOps.hostUnary (F := Ideal) (φ := .f32) .log
        (FloatOps.hostDivf (F := Ideal) (φ := .f32)
          (FloatOps.sitofp (F := Ideal) .f32 (IntOp.maxsi w 1#32))
          (FloatOps.ofBits (F := Ideal) .f32 0x41000000#32)))
        (FloatOps.hostUnary (F := Ideal) (φ := .f32) .log (FloatOps.ofBits (F := Ideal) .f32 0x41800000#32)))
      (FloatOps.ofBits (F := Ideal) .f32 0x41000000#32)))) 15#32

theorem large_eq (n : ℤ) (k : ℕ) (hn : 8 ≤ n) (hk : k ≤ 16) (lo : (2 : ℤ) ^ (6 + k) ≤ n ^ 2)
    (hi : n ^ 2 < (2 : ℤ) ^ (7 + k)) (hn' : n < 100000) :
    large (BitVec.ofInt 32 n) = BitVec.ofInt 32 (if k < 7 then 8 + k else 15) := by
  have w : (BitVec.ofInt 32 n).toInt = n := toInt_word n (by rw [abs_lt]; omega)
  have hm : IntOp.maxsi (BitVec.ofInt 32 n) 1#32 = BitVec.ofInt 32 n := by
    unfold IntOp.maxsi
    rw [if_pos]
    simp only [BitVec.slt, w, decide_eq_true_eq]
    show (1 : ℤ) < n
    omega
  have c8 : Ideal.ofBits .f32 0x41000000#32 = ((8 : ℝ) : EReal) := by
    simp [Ideal.ofBits, Ideal.ieee, -EReal.coe_mul]; norm_num
  have c16 : Ideal.ofBits .f32 0x41800000#32 = ((16 : ℝ) : EReal) := by
    simp [Ideal.ofBits, Ideal.ieee, -EReal.coe_mul]; norm_num
  have hn0 : (0 : ℝ) < n := by exact_mod_cast (by omega : (0 : ℤ) < n)
  unfold large
  rw [hm]
  have hs : FloatOps.sitofp (F := Ideal) .f32 (BitVec.ofInt 32 n) = ((n : ℝ) : EReal) := by
    show (((BitVec.ofInt 32 n).toInt : ℝ) : EReal) = _
    rw [w]
  have hx : FloatOps.mulf (F := Ideal) (φ := .f32)
      (FloatOps.hostDivf (F := Ideal) (φ := .f32) (FloatOps.hostUnary (F := Ideal) (φ := .f32) .log
        (FloatOps.hostDivf (F := Ideal) (φ := .f32) ((n : ℝ) : EReal)
          (FloatOps.ofBits (F := Ideal) .f32 0x41000000#32)))
        (FloatOps.hostUnary (F := Ideal) (φ := .f32) .log (FloatOps.ofBits (F := Ideal) .f32 0x41800000#32)))
      (FloatOps.ofBits (F := Ideal) .f32 0x41000000#32)
      = ((Real.log ((n : ℝ) * (1 / 8)) * (1 / Real.log 16) * 8 : ℝ) : EReal) := by
    show Ideal.div (Ideal.log (Ideal.div ((n : ℝ) : EReal) (Ideal.ofBits .f32 0x41000000#32)))
      (Ideal.log (Ideal.ofBits .f32 0x41800000#32)) * Ideal.ofBits .f32 0x41000000#32 = _
    rw [c8, c16, Ideal.div_coe (by norm_num), ← EReal.coe_mul, Ideal.log_coe, Ideal.log_coe,
      if_neg (not_le.mpr (by positivity)), if_neg (by norm_num), Ideal.div_coe (Real.log_pos (by norm_num)).ne', ← EReal.coe_mul,
      ← EReal.coe_mul]
  rw [hs, hx]
  have hf : FloatOps.fptosi (F := Ideal) (φ := .f32) 32
      (((Real.log ((n : ℝ) * (1 / 8)) * (1 / Real.log 16) * 8 : ℝ) : EReal)) = BitVec.ofInt 32 k := by
    show Ideal.fptosi 32 _ = _
    have h0 := floor_log n k hn lo hi
    have hx0 : 0 ≤ Real.log ((n : ℝ) * (1 / 8)) * (1 / Real.log 16) * 8 := by
      rw [← Int.floor_nonneg, h0]; omega
    rw [Ideal.fptosi, Ideal.toIntClamped_coe, if_pos hx0, h0]
    congr 1
    norm_num
    omega
  rw [hf]
  interval_cases k <;> decide +kernel

/-- The bucket of a distance as the reference computes it. -/
theorem large_word (n : ℤ) (h0 : 0 ≤ n) (h1 : n ≤ 2047) :
    Scalar.select (IntOp.cmpi .slt (BitVec.ofInt 32 n) 8#32) (BitVec.ofInt 32 n) (large (BitVec.ofInt 32 n))
      = BitVec.ofInt 32 ((edge n).val : ℤ) := by
  have w : (BitVec.ofInt 32 n).toInt = n := toInt_word n (by rw [abs_lt]; omega)
  rw [select_slt, w, show (8#32 : BitVec 32).toInt = 8 by rfl]
  by_cases h : n < 8
  · rw [if_pos h]
    interval_cases n <;> rfl
  · rw [if_neg h]
    have key : ∀ k : ℕ, k ≤ 16 → (2 : ℤ) ^ (6 + k) ≤ n ^ 2 → n ^ 2 < (2 : ℤ) ^ (7 + k) →
        large (BitVec.ofInt 32 n) = BitVec.ofInt 32 (if k < 7 then 8 + k else 15) := fun k hk a b =>
      large_eq n k (by omega) hk a b (by omega)
    have ge : ∀ a : ℤ, 0 ≤ a → a ≤ n → a ^ 2 ≤ n ^ 2 := fun a ha hb => by nlinarith
    have lt : ∀ a : ℤ, n ≤ a → n ^ 2 ≤ a ^ 2 := fun a hb => by nlinarith
    have ed : ∀ (a b : ℤ) (k : ℕ), 8 ≤ a → a ≤ n → n ≤ b → k ≤ 16 → (2 : ℤ) ^ (6 + k) ≤ a ^ 2 →
        b ^ 2 < (2 : ℤ) ^ (7 + k) → large (BitVec.ofInt 32 n) = BitVec.ofInt 32 (if k < 7 then 8 + k else 15) :=
      fun a b k h8 ha hb hk hl hh => key k hk (le_trans hl (ge a (by omega) ha)) (lt_of_le_of_lt (lt b hb) hh)
    unfold edge
    rw [if_neg (by omega), if_neg (by omega), if_neg (by omega), if_neg (by omega), if_neg (by omega), if_neg (by omega), if_neg (by omega), if_neg (by omega)]
    by_cases h12 : n < 12
    · rw [if_pos h12]; exact ed 8 11 0 (by norm_num) (by omega) (by omega) (by norm_num) (by norm_num) (by norm_num)
    rw [if_neg h12]
    by_cases h16 : n < 16
    · rw [if_pos h16]; exact ed 12 15 1 (by norm_num) (by omega) (by omega) (by norm_num) (by norm_num) (by norm_num)
    rw [if_neg h16]
    by_cases h23 : n < 23
    · rw [if_pos h23]; exact ed 16 22 2 (by norm_num) (by omega) (by omega) (by norm_num) (by norm_num) (by norm_num)
    rw [if_neg h23]
    by_cases h32 : n < 32
    · rw [if_pos h32]; exact ed 23 31 3 (by norm_num) (by omega) (by omega) (by norm_num) (by norm_num) (by norm_num)
    rw [if_neg h32]
    by_cases h46 : n < 46
    · rw [if_pos h46]; exact ed 32 45 4 (by norm_num) (by omega) (by omega) (by norm_num) (by norm_num) (by norm_num)
    rw [if_neg h46]
    by_cases h64 : n < 64
    · rw [if_pos h64]; exact ed 46 63 5 (by norm_num) (by omega) (by omega) (by norm_num) (by norm_num) (by norm_num)
    rw [if_neg h64]
    by_cases h91 : n < 91
    · rw [if_pos h91]; exact ed 64 90 6 (by norm_num) (by omega) (by omega) (by norm_num) (by norm_num) (by norm_num)
    rw [if_neg h91]
    by_cases a1 : n < 128
    · exact ed 91 127 7 (by norm_num) (by omega) (by omega) (by norm_num) (by norm_num) (by norm_num)
    by_cases a2 : n ≤ 181
    · exact ed 128 181 8 (by norm_num) (by omega) (by omega) (by norm_num) (by norm_num) (by norm_num)
    by_cases a3 : n < 256
    · exact ed 182 255 9 (by norm_num) (by omega) (by omega) (by norm_num) (by norm_num) (by norm_num)
    by_cases a4 : n ≤ 362
    · exact ed 256 362 10 (by norm_num) (by omega) (by omega) (by norm_num) (by norm_num) (by norm_num)
    by_cases a5 : n < 512
    · exact ed 363 511 11 (by norm_num) (by omega) (by omega) (by norm_num) (by norm_num) (by norm_num)
    by_cases a6 : n ≤ 724
    · exact ed 512 724 12 (by norm_num) (by omega) (by omega) (by norm_num) (by norm_num) (by norm_num)
    by_cases a7 : n < 1024
    · exact ed 725 1023 13 (by norm_num) (by omega) (by omega) (by norm_num) (by norm_num) (by norm_num)
    by_cases a8 : n ≤ 1448
    · exact ed 1024 1448 14 (by norm_num) (by omega) (by omega) (by norm_num) (by norm_num) (by norm_num)
    exact ed 1449 2047 15 (by norm_num) (by omega) (by omega) (by norm_num) (by norm_num) (by norm_num)

/-- The bucket's word, the upper half added for the keys after the query. -/
theorem bucket_word (z : ℤ) (h : |z| ≤ 2047) :
    IntOp.addi (Scalar.select (IntOp.cmpi .sgt (BitVec.ofInt 32 z) 0#32) 16#32 0#32)
      (Scalar.select (IntOp.cmpi .slt (IntOp.absi (BitVec.ofInt 32 z)) 8#32) (IntOp.absi (BitVec.ofInt 32 z))
        (large (IntOp.absi (BitVec.ofInt 32 z)))) = BitVec.ofInt 32 ((bkt z).val : ℤ) := by
  rw [absi_word z (by omega), large_word |z| (abs_nonneg z) h, select_sgt, toInt_word z (by omega)]
  unfold bkt
  by_cases hz : (0#32 : BitVec 32).toInt < z
  · rw [if_pos hz, if_pos (by exact hz)]
    have d : ∀ e : Fin 16, IntOp.addi (16#32) (BitVec.ofInt 32 ((e.val : ℕ) : ℤ)) = BitVec.ofInt 32 (((16 + e.val : ℕ)) : ℤ) := by
      decide +kernel
    exact d (edge |z|)
  · rw [if_neg hz, if_neg (by exact hz)]
    have d : ∀ e : Fin 16, IntOp.addi (0#32) (BitVec.ofInt 32 ((e.val : ℕ) : ℤ)) = BitVec.ofInt 32 ((e.val : ℕ) : ℤ) := by
      decide +kernel
    exact d (edge |z|)

/-- The bucket's word is not below zero: the choice of an index counted from the end does not occur. -/
theorem bucket_wrap (b : Fin 32) :
    Scalar.select (IntOp.cmpi .slt (BitVec.ofInt 32 (b.val : ℤ)) 0#32)
      (IntOp.addi (BitVec.ofInt 32 (b.val : ℤ)) 32#32) (BitVec.ofInt 32 (b.val : ℤ)) = BitVec.ofInt 32 (b.val : ℤ) := by
  revert b
  decide +kernel

theorem bucket_nat (b : Fin 32) : min (BitVec.ofInt 32 (b.val : ℤ)).toInt.toNat 31 = b.val := by
  revert b
  decide +kernel

end Cert.Attn

end
-- ==== Proof.AttnPoint.lean ====
module

public import proofs.«01_k».proof.Proof.Gen.KernelIdeal.Frame
public import proofs.«01_k».proof.Proof.AttnMath
public import Idealize.ShloMosaic.Lib.Pipeline.ValueKit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal.Gen
open Cert.Attn

variable (V : (c : Dev nD) → (b : Ref sig .tc) → Buf (Elt Ideal) ((c : Thread nD τ).loc b))

/-- The scores of the first half's queries against the keys, the biases added. -/
def scores0 (q : Vec Ideal S256x128 .bf16) (k : Vec Ideal S2048x128 .bf16) (B : FVec Ideal S256x2048 .f32) :
    FVec Ideal S256x2048 .f32 :=
  addf (mulf (matmul (φ₁ := .bf16) (φ₂ := .bf16) dot_S256x128_S2048x128_S256x2048_1_1_0_0_n_n none
    (select (broadcastTo S256x128 (shapeCast S1x128
        (andi (cmpi .sge (iota Kind.tc S1x128 32 [1] iota_S1x128_d1_w32) (broadcast S1x128 0#32))
          (cmpi .slt (iota Kind.tc S1x128 32 [1] iota_S1x128_d1_w32) (broadcast S1x128 64#32)))
        shapeCasts_S1x128_S1x128) broadcasts_S1x128_S256x128) q (k1_pay2 (F := Ideal)))
    k (constant S256x2048 .f32 0x00000000#32)) (broadcast S256x2048 (Scalar.ofBits .f32 0x3E000000#32))) B

theorem pay21_eq (arg2 : BitVec 32) (v0 : Vec Ideal S256x128 .bf16) (v1 : Vec Ideal S2048x128 .bf16) (v2 : IVec S1x128 32) (v3 : FVec Ideal S256x128 .bf16) (v5 : Elt Ideal .f32) (v7 : Elt Ideal .f32) (v21 : FVec Ideal S256x128 .f32) (v35 : FVec Ideal S256x128 .f32) (v49 : FVec Ideal S256x128 .f32) (v63 : FVec Ideal S256x128 .f32) (v77 : FVec Ideal S256x128 .f32) (v91 : FVec Ideal S256x128 .f32) (v105 : FVec Ideal S256x128 .f32) (v119 : FVec Ideal S256x128 .f32) (v133 : FVec Ideal S256x128 .f32) (v147 : FVec Ideal S256x128 .f32) (v161 : FVec Ideal S256x128 .f32) (v175 : FVec Ideal S256x128 .f32) (v189 : FVec Ideal S256x128 .f32) (v203 : FVec Ideal S256x128 .f32) (v205 : BitVec 32) (v210 : Vec Ideal S1x1x256x128 .f32) (v224 : Vec Ideal S1x1x256x128 .f32) :
    k1_pay21 arg2 v0 v1 v2 v3 v5 v7 v21 v35 v49 v63 v77 v91 v105 v119 v133 v147 v161 v175 v189 v203 v205 v210 v224 = addf (mulf (matmul (φ₁ := .bf16) (φ₂ := .bf16) dot_S256x128_S2048x128_S256x2048_1_1_0_0_n_n none
    (select (broadcastTo S256x128 (shapeCast S1x128
        (andi (cmpi .sge v2 (broadcast S1x128 0#32))
          (cmpi .slt v2 (broadcast S1x128 64#32)))
        shapeCasts_S1x128_S1x128) broadcasts_S1x128_S256x128) v0 v3)
    v1 (constant S256x2048 .f32 0x00000000#32)) (broadcast S256x2048 (Scalar.ofBits .f32 0x3E000000#32)))
      (k1_pay20 arg2 v5 v7 v21 v35 v49 v63 v77 v91 v105 v119 v133 v147 v161 v175 v189 v203 v205 v210 v224) := rfl

/-- One block of the result from its operands: the queries, the keys, the values, the biases, the
weight of the second map and the gain. -/
def core (q : Vec Ideal S256x128 .bf16) (k v : Vec Ideal S2048x128 .bf16) (B : FVec Ideal S256x2048 .f32)
    (lam : Elt Ideal .f32) (g : Vec Ideal S1x128 .f32) : FVec Ideal S256x128 .bf16 :=
  k1_pay1 (k1_pay22 q k (iota Kind.tc S1x128 32 [1] iota_S1x128_d1_w32) (k1_pay2 (F := Ideal)) B (scores0 q k B) lam v)
    (k1_pay23 q k (iota Kind.tc S1x128 32 [1] iota_S1x128_d1_w32) (k1_pay2 (F := Ideal)) B (scores0 q k B) lam v)
    (k1_pay24 (F := Ideal)) g

theorem scores0_at (q : Vec Ideal S256x128 .bf16) (k : Vec Ideal S2048x128 .bf16) (B : FVec Ideal S256x2048 .f32)
    (r : Fin 256) (j : Fin 2048) : scores0 q k B (ix2 r j)
      = lg (fun d => q (ix2 r ⟨d.val, by omega⟩)) (fun j d => k (ix2 j ⟨d.val, by omega⟩)) (fun j => B (ix2 r j)) j := by
  unfold scores0
  pointwise [k1_pay2]
  rw [sum_lo (fun x => q (ix2 r x) * k (ix2 j x))]
  rfl

/-- One entry of a block: the row's two maps, their difference over the values, normalised. -/
theorem core_at (q : Vec Ideal S256x128 .bf16) (k v : Vec Ideal S2048x128 .bf16) (B : FVec Ideal S256x2048 .f32)
    (lam : Elt Ideal .f32) (g : Vec Ideal S1x128 .f32) (r : Fin 256) (x : Fin 128) :
    core q k v B lam g (ix2 r x)
      = norm (mix
          (wMul (lg (fun d => q (ix2 r ⟨d.val, by omega⟩)) (fun j d => k (ix2 j ⟨d.val, by omega⟩)) (fun j => B (ix2 r j))))
          (wMul (lg (fun d => q (ix2 r ⟨64 + d.val, by omega⟩)) (fun j d => k (ix2 j ⟨64 + d.val, by omega⟩)) (fun j => B (ix2 r j))))
          lam (fun j x => v (ix2 j x))) (fun x => g (ix2 0 x)) x := by
  unfold core
  pointwise [k1_pay1, k1_pay22, k1_pay23, k1_pay24, k1_pay2]
  have hi : ∀ j : Fin 2048, (∑ x : Fin 128, Scalar.select (IntOp.andi (IntOp.cmpi .sge (BitVec.ofNat 32 x.val) 64#32)
      (IntOp.cmpi .slt (BitVec.ofNat 32 x.val) 128#32)) (q (ix2 r x) * k (ix2 j x)) 0)
      = ∑ d : Fin 64, q (ix2 r ⟨64 + d.val, by omega⟩) * k (ix2 j ⟨64 + d.val, by omega⟩) := fun j => sum_hi (fun x => q (ix2 r x) * k (ix2 j x))
  simp only [hi, scores0_at]
  rfl

end Cert.KernelIdeal.Own

end
-- ==== Proof.AttnCat.lean ====
module

public import proofs.«01_k».proof.Proof.Gen.KernelIdeal.Frame
public import proofs.«01_k».proof.Proof.AttnMath
public import Idealize.ShloMosaic.Lib.Pipeline.ValueKit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal.Gen
open Cert.Attn

variable (V : (c : Dev nD) → (b : Ref sig .tc) → Buf (Elt Ideal) ((c : Thread nD τ).loc b))

/-- Sixteen tiles side by side, read in one of them. -/
theorem cat_at (a0 a1 a2 a3 a4 a5 a6 a7 a8 a9 a10 a11 a12 a13 a14 a15 : FVec Ideal S256x128 .f32) (r : Fin 256) (k : Fin 16) (l : Fin 128) :
    (concatenate S256x2048 1 [⟨S256x128, a0⟩, ⟨S256x128, a1⟩, ⟨S256x128, a2⟩, ⟨S256x128, a3⟩, ⟨S256x128, a4⟩, ⟨S256x128, a5⟩, ⟨S256x128, a6⟩, ⟨S256x128, a7⟩, ⟨S256x128, a8⟩, ⟨S256x128, a9⟩, ⟨S256x128, a10⟩, ⟨S256x128, a11⟩, ⟨S256x128, a12⟩, ⟨S256x128, a13⟩, ⟨S256x128, a14⟩, ⟨S256x128, a15⟩] concatenates_S256x128_S256x128_S256x128_S256x128_S256x128_S256x128_S256x128_S256x128_S256x128_S256x128_S256x128_S256x128_S256x128_S256x128_S256x128_S256x128_S256x2048_d1 : FVec Ideal S256x2048 .f32) (ix2 r ⟨128 * k.val + l.val, by omega⟩)
      = (![a0, a1, a2, a3, a4, a5, a6, a7, a8, a9, a10, a11, a12, a13, a14, a15] : Fin 16 → FVec Ideal S256x128 .f32) k (ix2 r l) := by
  have h := concatenate_ofFn_apply (t := S256x2048) (s₁ := S256x128) (N := 16) 1
    (![a0, a1, a2, a3, a4, a5, a6, a7, a8, a9, a10, a11, a12, a13, a14, a15] : Fin 16 → FVec Ideal S256x128 .f32)
    concatenates_S256x128_S256x128_S256x128_S256x128_S256x128_S256x128_S256x128_S256x128_S256x128_S256x128_S256x128_S256x128_S256x128_S256x128_S256x128_S256x128_S256x2048_d1 rfl 128 rfl (ix2 r ⟨128 * k.val + l.val, by omega⟩) k
    (by show (128 * k.val + l.val) / 128 = k.val; omega) (ix2 r l)
    (by show l.val = (128 * k.val + l.val) % 128; omega)
    (by
      intro b hb
      fin_cases b
      · rfl
      · exact absurd rfl hb)
  exact h

end Cert.KernelIdeal.Own

end
-- ==== Proof.AttnOut.lean ====
module

public import proofs.«01_k».proof.Proof.Gen.KernelIdeal.Frame
public import proofs.«01_k».proof.Proof.AttnPoint
public import proofs.«01_k».proof.Proof.AttnCat
public import Idealize.ShloMosaic.Lib.Pipeline.ValueKit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal.Gen
open Cert.Attn

variable (V : (c : Dev nD) → (b : Ref sig .tc) → Buf (Elt Ideal) ((c : Thread nD τ).loc b))

theorem coords1 (t : Fin cfg1.N) :
    BitVec.toNat (Scalar.indexCast (BitVec.ofNat 32 ↑(grid1.coords t 1))) = (grid1.coords t 1).val :=
  (by decide +kernel : ∀ t : Fin grid1.N,
    BitVec.toNat (Scalar.indexCast (BitVec.ofNat 32 ↑(grid1.coords t 1))) = (grid1.coords t 1).val) t

/-- The word of a tile's place against the query block, below minus one. -/
theorem off_slt : ∀ (j : Fin 16) (i : Fin 8),
    Scalar.cmpi .slt (Scalar.subi (BitVec.ofNat 32 j.val) (Scalar.muli 2#32 (BitVec.ofNat 32 i.val))) 4294967295#32
      = if j.val + 1 < 2 * i.val then 1#1 else 0#1 := by decide +kernel

/-- The same word above two. -/
theorem off_sgt : ∀ (j : Fin 16) (i : Fin 8),
    Scalar.cmpi .sgt (Scalar.subi (BitVec.ofNat 32 j.val) (Scalar.muli 2#32 (BitVec.ofNat 32 i.val))) 2#32
      = if 2 * i.val + 2 < j.val then 1#1 else 0#1 := by decide +kernel

/-- The clipped word, where the tile lies in the band. -/
theorem off_clip : ∀ (j : Fin 16) (i : Fin 8), ¬ (j.val + 1 < 2 * i.val) → ¬ (2 * i.val + 2 < j.val) →
    BitVec.toNat (Scalar.indexCast (Scalar.minsi 3#32 (Scalar.maxsi 0#32
      (Scalar.addi (Scalar.subi (BitVec.ofNat 32 j.val) (Scalar.muli 2#32 (BitVec.ofNat 32 i.val))) 1#32))))
      = j.val + 1 - 2 * i.val := by decide +kernel

/-- The clipped word names a tile of the band. -/
theorem off_lt : ∀ (j : Fin 16) (i : Fin 8),
    BitVec.toNat (Scalar.indexCast (Scalar.minsi 3#32 (Scalar.maxsi 0#32
      (Scalar.addi (Scalar.subi (BitVec.ofNat 32 j.val) (Scalar.muli 2#32 (BitVec.ofNat 32 i.val))) 1#32)))) < 4 := by
  decide +kernel

/-- A tile of biases: far from the diagonal one entry of the table, near it the band's tile; in
every case the table at the bucket of key less query. -/
theorem tile_sel (T : Fin 32 → EReal) (j : Fin 16) (i : Fin 8) (r : Fin 256) (l : Fin 128) (band : Fin 4 → EReal)
    (hb : ∀ d, band d = T (bkt (128 * (d.val : ℤ) - 128 + (l.val : ℤ) - (r.val : ℤ)))) (p) :
    Scalar.select (Scalar.cmpi .slt (Scalar.subi (BitVec.ofNat 32 j.val) (Scalar.muli 2#32 (BitVec.ofNat 32 i.val))) 4294967295#32)
      (T 15)
      (Scalar.select (Scalar.cmpi .sgt (Scalar.subi (BitVec.ofNat 32 j.val) (Scalar.muli 2#32 (BitVec.ofNat 32 i.val))) 2#32)
        (T 31)
        (band ⟨BitVec.toNat (Scalar.indexCast (Scalar.minsi 3#32 (Scalar.maxsi 0#32
          (Scalar.addi (Scalar.subi (BitVec.ofNat 32 j.val) (Scalar.muli 2#32 (BitVec.ofNat 32 i.val))) 1#32)))), p⟩))
      = T (bkt ((128 * (j.val : ℤ) + (l.val : ℤ)) - (256 * (i.val : ℤ) + (r.val : ℤ)))) := by
  rw [off_slt, off_sgt]
  by_cases h1 : j.val + 1 < 2 * i.val
  · rw [if_pos h1, bkt_far_neg _ (by omega)]; rfl
  · rw [if_neg h1]
    by_cases h2 : 2 * i.val + 2 < j.val
    · rw [if_pos h2, bkt_far_pos _ (by omega)]; rfl
    · rw [if_neg h2]
      show band _ = _
      rw [hb]
      have e := off_clip j i h1 h2
      congr 2
      show 128 * ((BitVec.toNat _ : ℕ) : ℤ) - 128 + _ - _ = _
      rw [e]
      omega

/-- Equal operands give equal blocks. -/
theorem core_congr {q q' : Vec Ideal S256x128 .bf16} {k k' v v' : Vec Ideal S2048x128 .bf16}
    {B : FVec Ideal S256x2048 .f32} {lam lam' : Elt Ideal .f32} {g g' : Vec Ideal S1x128 .f32}
    (hq : q = q') (hk : k = k') (hv : v = v') (hl : lam = lam') (hg : g = g') :
    core q k v B lam g = core q' k' v' B lam' g' := by
  subst hq hk hv hl hg
  rfl

set_option maxHeartbeats 1600000 in
theorem outs1_at (c : Dev nD) (t : Fin cfg1.N) (T : FVec Ideal S32x8 .f32) (hd : Fin 8)
    (hhd : hd.val = (grid1.coords t 1).val) (hT : iblk1 V c 0 t = T)
    (hB : ∀ (d : Fin 4) (r : Fin 256) (k : Fin 128), iblk1 V c 5 t (ix4 0 d r k)
      = T (ix2 (bkt (128 * (d.val : ℤ) - 128 + (k.val : ℤ) - (r.val : ℤ))) hd))
    (r : Fin 256) (x : Fin 128) :
    outsAt1 V c t (ix2 r x) = norm (mix
          (wMul (lg (fun d => iblk1 V c 2 t (ix2 r ⟨d.val, by omega⟩)) (fun j d => iblk1 V c 3 t (ix2 j ⟨d.val, by omega⟩))
            (fun j => T (ix2 (bkt ((j.val : ℤ) - (256 * (grid1.coords t 2).val + r.val))) hd))))
          (wMul (lg (fun d => iblk1 V c 2 t (ix2 r ⟨64 + d.val, by omega⟩)) (fun j d => iblk1 V c 3 t (ix2 j ⟨64 + d.val, by omega⟩))
            (fun j => T (ix2 (bkt ((j.val : ℤ) - (256 * (grid1.coords t 2).val + r.val))) hd))))
          (iblk1 V c 1 t (ix1 0)) (fun j x => iblk1 V c 4 t (ix2 j x))) (fun x => iblk1 V c 6 t (ix2 0 x)) x := by
  unfold outsAt1 out1_A_7
  rw [View.read_writes_eq_canon _ _ _ (cover1_A_7 c (grid1.coords t) _ (hs1_0 t) _ (hs1_1 t) _ (hs1_2 t) _ (hs1_3 t) _ (hs1_4 t) _ (hs1_5 t) _ (hs1_6 t) _ (hs1_7 t) _ _ _ _ _ _ _)]
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread]
  rw [hT]
  simp only [pay21_eq]
  generalize hBias : k1_pay20 (F := Ideal) _ _ _ _ _ _ _ _ _ _ _ _ _ _ _ _ _ _ _ _ = B
  have key : ∀ (r : Fin 256) (j : Fin 2048), B (ix2 r j) = T (ix2 (bkt ((j.val : ℤ) - (256 * (grid1.coords t 2).val + r.val))) hd) := by
    clear r x
    have hT15 : ∀ k : Fin 32, T (ix2 k ⟨BitVec.toNat (Scalar.indexCast (BitVec.ofNat 32 ↑(grid1.coords t 1))),
        by rw [coords1 t]; exact (grid1.coords t 1).isLt⟩) = T (ix2 k hd) := by
      intro k
      congr 2
      apply Fin.ext
      rw [hhd]; exact coords1 t
    have hj : ∀ (r : Fin 256) (k : Fin 16) (l : Fin 128), B (ix2 r ⟨128 * k.val + l.val, by omega⟩)
        = T (ix2 (bkt ((128 * (k.val : ℤ) + (l.val : ℤ)) - (256 * (grid1.coords t 2).val + r.val))) hd) := by
      intro r k l
      refine Eq.trans ?_ (tile_sel (fun k => T (ix2 k hd)) k ⟨(grid1.coords t 2).val, (grid1.coords t 2).isLt⟩ r l
        (fun d => iblk1 V c 5 t (ix4 0 d r l)) (fun d => hB d r l)
        (off_lt k ⟨(grid1.coords t 2).val, (grid1.coords t 2).isLt⟩))
      rw [← hBias, k1_pay20]
      refine (cat_at _ _ _ _ _ _ _ _ _ _ _ _ _ _ _ _ r k l).trans ?_
      clear hBias
      fin_cases k
      all_goals simp only [Fin.mk_zero, Fin.reduceFinMk, Matrix.cons_val]
      all_goals pointwise [k1_pay3, k1_pay4, k1_pay5, k1_pay6, k1_pay7, k1_pay8, k1_pay9, k1_pay10, k1_pay11, k1_pay12,
        k1_pay13, k1_pay14, k1_pay15, k1_pay16, k1_pay17, k1_pay18, k1_pay19]
      all_goals simp only [hT15]
    intro r j
    have h := hj r ⟨j.val / 128, by omega⟩ ⟨j.val % 128, by omega⟩
    have e : (⟨128 * (j.val / 128) + j.val % 128, by omega⟩ : Fin 2048) = j := Fin.ext (by
      show 128 * (j.val / 128) + j.val % 128 = j.val
      omega)
    have e' : (128 * ((j.val / 128 : ℕ) : ℤ) + ((j.val % 128 : ℕ) : ℤ)) = (j.val : ℤ) := by omega
    simp only [e, e'] at h
    exact h
  clear hBias
  have hBr : (fun j => B (ix2 r j)) = fun j : Fin 2048 =>
      T (ix2 (bkt ((j.val : ℤ) - (256 * (grid1.coords t 2).val + r.val))) hd) := funext fun j => key r j
  rw [← hBr]
  generalize hR : Cert.Attn.norm _ _ x = R
  canon_tiles y h
  refine Eq.trans ?_ hR
  have e0 : y 0 = r := Fin.ext h0.symm
  have e1 : y 1 = x := Fin.ext h1.symm
  have ey : y = ix2 r x := by
    idx_ext
  have l2 : View.ld (iblk1 V c 2 t) (Rect.unit ![0, 0] ![256, 128] inb_S256x128_S256x128_0_0) = iblk1 V c 2 t :=
    View.ld_unit_lit (S := S256x128) _ _ (by decide)
  have l3 : View.ld (iblk1 V c 3 t) (Rect.unit ![0, 0] ![2048, 128] inb_S2048x128_S2048x128_0_0) = iblk1 V c 3 t :=
    View.ld_unit_lit (S := S2048x128) _ _ (by decide)
  have l4 : View.ld (iblk1 V c 4 t) (Rect.unit ![0, 0] ![2048, 128] inb_S2048x128_S2048x128_0_0) = iblk1 V c 4 t :=
    View.ld_unit_lit (S := S2048x128) _ _ (by decide)
  have l6 : View.ld (iblk1 V c 6 t) (Rect.unit ![0, 0] ![1, 128] inb_S1x128_S1x128_0_0) = iblk1 V c 6 t :=
    View.ld_unit_lit (S := S1x128) _ _ (by decide)
  have l1 : View.ld (iblk1 V c 1 t) (Rect.unit ![0] ![1] inb_S1_S1_0) = iblk1 V c 1 t :=
    View.ld_unit_lit (S := S1) _ _ (by decide)
  have hf : ∀ a b : S1.Idx, a = b := fun a b => by
    funext i
    match i with
    | 0 => exact Subsingleton.elim (α := Fin 1) _ _
  have e := core_congr (B := B) l2 l3 l4 ((congrFun l1 (Shape.Idx.first (s := S1) (by decide))).trans (congrArg (iblk1 V c 1 t) (hf _ (ix1 0)))) l6
  refine Eq.trans ?_ (core_at _ _ _ B _ _ r x)
  refine Eq.trans ?_ (congrArg (core _ _ _ B _ _) ey)
  exact congrFun e y

end Cert.KernelIdeal.Own

end
-- ==== Proof.AttnBand.lean ====
module

public import proofs.«01_k».proof.Proof.Gen.KernelIdeal.Frame
public import proofs.«01_k».proof.Proof.AttnBucket
public import Idealize.ShloMosaic.Lib.Pipeline.ValueKit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal.Gen
open Cert.Attn

variable (V : (c : Dev nD) → (b : Ref sig .tc) → Buf (Elt Ideal) ((c : Thread nD τ).loc b))

/-- What the band holds: tile `d` of head `h`, read at row `r` and column `k`, is the table's entry
for the relative position `128 (d - 1) + k - r`. -/
def Band (T : FVec Ideal S32x8 .f32) : FVec Ideal S8x4x256x128 .f32 := fun j =>
  T (ix2 (bkt (128 * ((j 1 : ℕ) : ℤ) - 128 + ((j 3 : ℕ) : ℤ) - ((j 2 : ℕ) : ℤ))) (j 0))

theorem coords0 (t : Fin cfg0.N) :
    BitVec.toNat (Scalar.indexCast (BitVec.ofNat 32 ↑(grid0.coords t 0))) = (grid0.coords t 0).val :=
  (by decide +kernel : ∀ t : Fin grid0.N,
    BitVec.toNat (Scalar.indexCast (BitVec.ofNat 32 ↑(grid0.coords t 0))) = (grid0.coords t 0).val) t

set_option maxHeartbeats 1600000 in
/-- One block of the band: the four tiles of a head, each the table read at the bucket of the
relative position. -/
theorem outs0_at (c : Dev nD) (t : Fin cfg0.N) (y : S1x4x256x128.Idx) :
    outsAt0 V c t y
      = iblk0 V c 0 t (ix2 (bkt (128 * ((y 1 : ℕ) : ℤ) - 128 + ((y 3 : ℕ) : ℤ) - ((y 2 : ℕ) : ℤ)))
          ⟨(grid0.coords t 0).val, (grid0.coords t 0).isLt⟩) := by
  unfold outsAt0 out0_A_1
  rw [View.read_writes_eq_canon _ _ _ (cover0_A_1 c (grid0.coords t) _ (hs0_0 t) _ (hs0_1 t) _)]
  unfold kernelRun0_A
  dsimp only
  sl_unfold_words
  simp only [View.readAt_eq_ld, (hs0_0 t).read_unread]
  idx_vars y
  generalize hR : iblk0 V c 0 t (ix2 (bkt _) _) = R
  canon_tiles x h
  all_goals pointwise [k0_pay46]
  all_goals simp only [coords0 t]
  all_goals rw [← hR]
  · have e1 : (y1 : ℕ) = 3 + (x 1 : ℕ) := h1
    have e2 : (y2 : ℕ) = (x 2 : ℕ) := h2
    have e3 : (y3 : ℕ) = (x 3 : ℕ) := h3
    have hz : (256 + ((x 3 : ℕ) : ℤ) - ((x 2 : ℕ) : ℤ)) = 128 * (y1 : ℤ) - 128 + (y3 : ℤ) - (y2 : ℤ) := by
      omega
    refine Eq.trans (Eq.trans ?_ (pick_word (fun k => iblk0 V c 0 t
      (ix2 k ⟨(grid0.coords t 0).val, (grid0.coords t 0).isLt⟩)) _ ?_))
      (congrArg (fun z => iblk0 V c 0 t (ix2 (bkt z) ⟨(grid0.coords t 0).val, (grid0.coords t 0).isLt⟩)) hz)
    · rw [← word_sub 256#32 256 rfl]
      unfold pick
      rfl
    · rw [abs_lt]; omega
  · have e1 : (y1 : ℕ) = 2 + (x 1 : ℕ) := h1
    have e2 : (y2 : ℕ) = (x 2 : ℕ) := h2
    have e3 : (y3 : ℕ) = (x 3 : ℕ) := h3
    have hz : (128 + ((x 3 : ℕ) : ℤ) - ((x 2 : ℕ) : ℤ)) = 128 * (y1 : ℤ) - 128 + (y3 : ℤ) - (y2 : ℤ) := by
      omega
    refine Eq.trans (Eq.trans ?_ (pick_word (fun k => iblk0 V c 0 t
      (ix2 k ⟨(grid0.coords t 0).val, (grid0.coords t 0).isLt⟩)) _ ?_))
      (congrArg (fun z => iblk0 V c 0 t (ix2 (bkt z) ⟨(grid0.coords t 0).val, (grid0.coords t 0).isLt⟩)) hz)
    · rw [← word_sub 128#32 128 rfl]
      unfold pick
      rfl
    · rw [abs_lt]; omega
  · have e1 : (y1 : ℕ) = 1 + (x 1 : ℕ) := h1
    have e2 : (y2 : ℕ) = (x 2 : ℕ) := h2
    have e3 : (y3 : ℕ) = (x 3 : ℕ) := h3
    have hz : (0 + ((x 3 : ℕ) : ℤ) - ((x 2 : ℕ) : ℤ)) = 128 * (y1 : ℤ) - 128 + (y3 : ℤ) - (y2 : ℤ) := by
      omega
    refine Eq.trans (Eq.trans ?_ (pick_word (fun k => iblk0 V c 0 t
      (ix2 k ⟨(grid0.coords t 0).val, (grid0.coords t 0).isLt⟩)) _ ?_))
      (congrArg (fun z => iblk0 V c 0 t (ix2 (bkt z) ⟨(grid0.coords t 0).val, (grid0.coords t 0).isLt⟩)) hz)
    · rw [← word_sub 0#32 0 rfl]
      unfold pick
      rfl
    · rw [abs_lt]; omega
  · have e1 : (y1 : ℕ) = (x 1 : ℕ) := h1
    have e2 : (y2 : ℕ) = (x 2 : ℕ) := h2
    have e3 : (y3 : ℕ) = (x 3 : ℕ) := h3
    have hz : ((-128) + ((x 3 : ℕ) : ℤ) - ((x 2 : ℕ) : ℤ)) = 128 * (y1 : ℤ) - 128 + (y3 : ℤ) - (y2 : ℤ) := by
      omega
    refine Eq.trans (Eq.trans ?_ (pick_word (fun k => iblk0 V c 0 t
      (ix2 k ⟨(grid0.coords t 0).val, (grid0.coords t 0).isLt⟩)) _ ?_))
      (congrArg (fun z => iblk0 V c 0 t (ix2 (bkt z) ⟨(grid0.coords t 0).val, (grid0.coords t 0).isLt⟩)) hz)
    · rw [← word_sub 4294967168#32 (-128) rfl]
      unfold pick
      rfl
    · rw [abs_lt]; omega

theorem idx0 : ∀ t : Fin cfg0.N,
    win0_0.index t = ![0, 0] ∧ win0_1.index t = ![(grid0.coords t 0).val, 0, 0, 0] :=
  (by decide +kernel : ∀ t : Fin grid0.N, _)

/-- The whole band after the first region. -/
theorem band_at (c : Dev nD) : (dat0 V c).arrAt 1 cfg0.N = Band (V c main_arg1) := by
  refine Dat.arrAt_eq_of_covers (dat0 V c) 1 _ (by decide +kernel) (fun t _ y => ?_)
  blk_simp
  rw [after0_1, outs0_at]
  unfold Band
  blk_simp [iblk0, idx0 t]
  blk_ext [idx0 t]

end Cert.KernelIdeal.Own

end
-- ==== Proof.AttnFinal.lean ====
module

public import proofs.«01_k».proof.Proof.AttnOut
public import proofs.«01_k».proof.Proof.AttnBand

@[expose] public section

set_option maxRecDepth 16384

noncomputable section

namespace Cert.Attn

open Idealize.ShloMosaic Idealize.ShloMosaic.TcCoe

/-- The scores of query row `n` in head `h`, in the half that starts at column `o`. -/
def sc (Q : FVec Ideal ⟨2, ![16384, 3072]⟩ .bf16) (T : FVec Ideal ⟨2, ![32, 8]⟩ .f32) (o : Fin 65)
    (n : Fin 16384) (h : Fin 8) : Fin 2048 → EReal :=
  lg (fun d => Q (ix2 n ⟨128 * h.val + (o.val + d.val), by omega⟩))
    (fun j d => Q (ix2 ⟨2048 * (n.val / 2048) + j.val, by omega⟩ ⟨1024 + 128 * h.val + (o.val + d.val), by omega⟩))
    (fun j => T (ix2 (bkt (((j : ℕ) : ℤ) - ((n.val % 2048 : ℕ) : ℤ))) h))

/-- The whole result, the weights of a row of scores given by `w`. -/
def OUT (w : (Fin 2048 → EReal) → Fin 2048 → EReal) (Q : FVec Ideal ⟨2, ![16384, 3072]⟩ .bf16)
    (T : FVec Ideal ⟨2, ![32, 8]⟩ .f32) (lam : EReal) (g : FVec Ideal ⟨1, ![128]⟩ .f32)
    (n : Fin 16384) (h : Fin 8) (x : Fin 128) : EReal :=
  norm (mix (w (sc Q T 0 n h)) (w (sc Q T 64 n h)) lam
    (fun j y => Q (ix2 ⟨2048 * (n.val / 2048) + j.val, by omega⟩ ⟨2048 + 128 * h.val + y.val, by omega⟩)))
    (fun y => g (ix1 y)) x

end Cert.Attn

namespace Cert.KernelIdeal.Own

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal.Gen
open Cert.Attn

variable (V : (c : Dev nD) → (b : Ref sig .tc) → Buf (Elt Ideal) ((c : Thread nD τ).loc b))

theorem idx1 : ∀ t : Fin cfg1.N,
    win1_0.index t = ![0, 0] ∧ win1_1.index t = ![0]
      ∧ win1_2.index t = ![(grid1.coords t 0).val * 8 + (grid1.coords t 2).val, (grid1.coords t 1).val]
      ∧ win1_3.index t = ![(grid1.coords t 0).val, 8 + (grid1.coords t 1).val]
      ∧ win1_4.index t = ![(grid1.coords t 0).val, 16 + (grid1.coords t 1).val]
      ∧ win1_5.index t = ![(grid1.coords t 1).val, 0, 0, 0]
      ∧ win1_6.index t = ![0, 0]
      ∧ win1_7.index t = ![(grid1.coords t 0).val * 8 + (grid1.coords t 2).val, (grid1.coords t 1).val]
      ∧ (grid1.coords t 0).val < 8 ∧ (grid1.coords t 1).val < 8 ∧ (grid1.coords t 2).val < 8 :=
  (by decide +kernel : ∀ t : Fin grid1.N, _)

theorem b0 (c : Dev nD) (t : Fin cfg1.N) : iblk1 V c 0 t = V c main_arg1 := by
  funext y
  blk_simp [iblk1, idx1 t]
  blk_ext [idx1 t]

theorem b1 (c : Dev nD) (t : Fin cfg1.N) (y : S1.Idx) : iblk1 V c 1 t y = V c main_v17 y := by
  blk_simp [iblk1, idx1 t]
  blk_ext [idx1 t]

theorem b6 (c : Dev nD) (t : Fin cfg1.N) (y : S1x128.Idx) : iblk1 V c 6 t y = V c main_v18 y := by
  blk_simp [iblk1, idx1 t]
  blk_ext [idx1 t]

theorem b2 (c : Dev nD) (t : Fin cfg1.N) (r : Fin 256) (x : Fin 128) (n : Fin 16384) (z : Fin 3072)
    (hn : n.val = ((grid1.coords t 0).val * 8 + (grid1.coords t 2).val) * 256 + r.val)
    (hz : z.val = (grid1.coords t 1).val * 128 + x.val) :
    iblk1 V c 2 t (ix2 r x) = V c main_arg0 (ix2 n z) := by
  blk_simp [iblk1, idx1 t]
  blk_ext [idx1 t]

theorem b3 (c : Dev nD) (t : Fin cfg1.N) (r : Fin 2048) (x : Fin 128) (n : Fin 16384) (z : Fin 3072)
    (hn : n.val = (grid1.coords t 0).val * 2048 + r.val)
    (hz : z.val = (8 + (grid1.coords t 1).val) * 128 + x.val) :
    iblk1 V c 3 t (ix2 r x) = V c main_arg0 (ix2 n z) := by
  blk_simp [iblk1, idx1 t]
  blk_ext [idx1 t]

theorem b4 (c : Dev nD) (t : Fin cfg1.N) (r : Fin 2048) (x : Fin 128) (n : Fin 16384) (z : Fin 3072)
    (hn : n.val = (grid1.coords t 0).val * 2048 + r.val)
    (hz : z.val = (16 + (grid1.coords t 1).val) * 128 + x.val) :
    iblk1 V c 4 t (ix2 r x) = V c main_arg0 (ix2 n z) := by
  blk_simp [iblk1, idx1 t]
  blk_ext [idx1 t]

theorem b5 (c : Dev nD) (t : Fin cfg1.N) (d : Fin 4) (r : Fin 256) (k : Fin 128) (h : Fin 8)
    (hh : h.val = (grid1.coords t 1).val) :
    iblk1 V c 5 t (ix4 0 d r k) = V c main_v16 (ix4 h d r k) := by
  blk_simp [iblk1, idx1 t]
  blk_ext [idx1 t]

/-- The result array after the second region, from the operands' contents at its entry, the bands being
those of the table. -/
theorem final_at (c : Dev nD) (hband : V c main_v16 = Band (V c main_arg1))
    (g : FVec Ideal S128 .f32) (hg : ∀ y : Fin 128, V c main_v18 (ix2 0 y) = g (ix1 y)) :
    (dat1 V c).arrAt 7 cfg1.N = fun i : S16384x1024.Idx =>
      OUT wMul (V c main_arg0) (V c main_arg1) (V c main_v17 (ix1 0)) g (i 0)
        ⟨(i 1).val / 128, by have := (i 1).isLt; change (i 1).val < 1024 at this; omega⟩ ⟨(i 1).val % 128, by omega⟩ := by
  refine Dat.arrAt_eq_of_covers (dat1 V c) 7 _ (by decide +kernel) (fun t _ y => ?_)
  blk_simp
  rw [after1_7]
  obtain ⟨r, x, rfl⟩ : ∃ (r : Fin 256) (x : Fin 128), y = ix2 r x := ⟨y 0, y 1, by idx_ext⟩
  have i := idx1 t
  have hB : ∀ (d : Fin 4) (r : Fin 256) (k : Fin 128), iblk1 V c 5 t (ix4 0 d r k)
      = V c main_arg1 (ix2 (bkt (128 * ((d : ℕ) : ℤ) - 128 + ((k : ℕ) : ℤ) - ((r : ℕ) : ℤ))) ⟨(grid1.coords t 1).val, i.2.2.2.2.2.2.2.2.2.1⟩) := fun d r k => by
    rw [b5 V c t d r k ⟨(grid1.coords t 1).val, i.2.2.2.2.2.2.2.2.2.1⟩ rfl, hband]
    rfl
  rw [outs1_at V c t (V c main_arg1) ⟨(grid1.coords t 1).val, i.2.2.2.2.2.2.2.2.2.1⟩ rfl (b0 V c t) hB r x]
  blk_simp [idx1 t]
  have i2 : (grid1.coords t 2).val < 8 := i.2.2.2.2.2.2.2.2.2.2
  have i1 : (grid1.coords t 1).val < 8 := i.2.2.2.2.2.2.2.2.2.1
  have i0 : (grid1.coords t 0).val < 8 := i.2.2.2.2.2.2.2.2.1
  generalize hL : norm (mix _ _ _ _) _ x = L
  have key : ∀ (n : Fin 16384) (h : Fin 8) (x' : Fin 128),
      n.val = ((grid1.coords t 0).val * 8 + (grid1.coords t 2).val) * 256 + r.val →
      h.val = (grid1.coords t 1).val → x'.val = x.val →
      L = OUT wMul (V c main_arg0) (V c main_arg1) (V c main_v17 (ix1 0)) g n h x' := by
    intro n h x' hn hh hx
    obtain rfl : x' = x := Fin.ext hx
    obtain rfl : h = ⟨(grid1.coords t 1).val, i1⟩ := Fin.ext hh
    rw [← hL]
    unfold OUT sc
    have eb : n.val / 2048 = (grid1.coords t 0).val := by omega
    have es : n.val % 2048 = 256 * (grid1.coords t 2).val + r.val := by omega
    have q1 : ∀ d : Fin 64, iblk1 V c 2 t (ix2 r ⟨d.val, by omega⟩) = V c main_arg0 (ix2 n ⟨128 * (grid1.coords t 1).val + ((0 : Fin 65).val + d.val), by show _ + (0 + d.val) < _; omega⟩) := fun d =>
      b2 V c t _ _ _ _ hn (by show _ + (0 + d.val) = _ + d.val; omega)
    have q2 : ∀ d : Fin 64, iblk1 V c 2 t (ix2 r ⟨64 + d.val, by omega⟩) = V c main_arg0 (ix2 n ⟨128 * (grid1.coords t 1).val + ((64 : Fin 65).val + d.val), by show _ + (64 + d.val) < _; omega⟩) := fun d =>
      b2 V c t _ _ _ _ hn (by show _ + (64 + d.val) = _ + (64 + d.val); omega)
    have k1 : ∀ (j : Fin 2048) (d : Fin 64), iblk1 V c 3 t (ix2 j ⟨d.val, by omega⟩) = V c main_arg0 (ix2 ⟨2048 * (n.val / 2048) + j.val, by omega⟩ ⟨1024 + 128 * (grid1.coords t 1).val + ((0 : Fin 65).val + d.val), by show _ + (0 + d.val) < _; omega⟩) := fun j d =>
      b3 V c t _ _ _ _ (by show 2048 * (n.val / 2048) + j.val = _; omega) (by show _ + (0 + d.val) = _ + d.val; omega)
    have k2 : ∀ (j : Fin 2048) (d : Fin 64), iblk1 V c 3 t (ix2 j ⟨64 + d.val, by omega⟩) = V c main_arg0 (ix2 ⟨2048 * (n.val / 2048) + j.val, by omega⟩ ⟨1024 + 128 * (grid1.coords t 1).val + ((64 : Fin 65).val + d.val), by show _ + (64 + d.val) < _; omega⟩) := fun j d =>
      b3 V c t _ _ _ _ (by show 2048 * (n.val / 2048) + j.val = _; omega) (by show _ + (64 + d.val) = _ + (64 + d.val); omega)
    have v1 : ∀ (j : Fin 2048) (y : Fin 128), iblk1 V c 4 t (ix2 j y) = V c main_arg0 (ix2 ⟨2048 * (n.val / 2048) + j.val, by omega⟩ ⟨2048 + 128 * (grid1.coords t 1).val + y.val, by omega⟩) := fun j y =>
      b4 V c t _ _ _ _ (by show 2048 * (n.val / 2048) + j.val = _; omega) (by show 2048 + 128 * _ + y.val = _ + y.val; omega)
    have g1 : ∀ y : Fin 128, iblk1 V c 6 t (ix2 0 y) = g (ix1 y) := fun y => (b6 V c t _).trans (hg y)
    simp only [q1, q2, k1, k2, v1, g1, b1]
    have ez : ((n.val % 2048 : ℕ) : ℤ) = 256 * (((grid1.coords t 2).val : ℕ) : ℤ) + ((r : ℕ) : ℤ) := by omega
    simp only [ez]
  refine key _ _ _ ?_ ?_ ?_
  · have i7 := i.2.2.2.2.2.2.2.1
    simp [i7]
  · simp
    omega
  · simp

end Cert.KernelIdeal.Own

end
-- ==== Proof.AttnRef.lean ====
module

public import proofs.«01_k».proof.Proof.Gen.ReferenceIdeal.Read
public import proofs.«01_k».proof.Proof.AttnLog
public import proofs.«01_k».proof.Proof.AttnFinal
public import Idealize.ShloMosaic.Lib.Pointwise

@[expose] public section

set_option maxRecDepth 16384

/-!
The reference's result, one operation after the other: the bucket of a key and a query, the table
read there, the scores, their softmax, the weighted sum of the values and the normalisation.
-/

noncomputable section

namespace Cert.ReferenceIdeal.Own

open Idealize.ShloMosaic Idealize.ShloMosaic.TcCoe Cert.Attn Cert.ReferenceIdeal Cert.ReferenceIdeal.Facts₀ Cert.ReferenceIdeal.Facts Cert.ReferenceIdeal.Read

variable [Cert.ReferenceIdeal.Facts₀] [Cert.ReferenceIdeal.Facts]

/-- A position's word, read as an integer. -/
theorem toInt_ofNat_lt (k : Fin 2048) : (BitVec.ofNat 32 k.val).toInt = (k.val : ℤ) := by
  have := k.isLt
  rw [BitVec.toInt_ofNat']
  exact Int.bmod_eq_of_le (by omega) (by omega)

/-- The distance of a key from a query, as a word. -/
theorem v28_at (q k : Fin 2048) : val_main_v28 (F := Ideal) (ix2 q k) = BitVec.ofInt 32 ((k.val : ℤ) - (q.val : ℤ)) := by
  rw [val_main_v28_apply, val_main_v26_apply, val_main_v27_apply, val_main_v24_apply, val_main_v25_apply,
    val_main_v23_apply, val_main_v23_apply]
  show BitVec.ofNat 32 k.val - BitVec.ofNat 32 q.val = _
  apply BitVec.eq_of_toInt_eq
  rw [BitVec.toInt_sub, BitVec.toInt_ofInt, toInt_ofNat_lt k, toInt_ofNat_lt q]

/-- The bucket of a key and a query, before the wrap of a negative one. -/
theorem v53_at (q k : Fin 2048) : val_main_v53 (F := Ideal) (ix2 q k)
    = BitVec.ofInt 32 ((bkt ((k.val : ℤ) - (q.val : ℤ))).val : ℤ) := by
  rw [← bucket_word _ (by rw [abs_le]; omega)]
  rw [val_main_v53_apply]
  unfold large
  have h := v28_at q k
  rw [← h]
  rfl

/-- The bucket the table is read at. -/
theorem v59_at (q k : Fin 2048) : val_main_v59 (F := Ideal) (ix3 q k (0 : Fin 1))
    = BitVec.ofInt 32 ((bkt ((k.val : ℤ) - (q.val : ℤ))).val : ℤ) := by
  rw [val_main_v59_apply]
  have e : idx_main_v59 (ix3 q k (0 : Fin 1)) = ix2 q k := by
    funext a
    match a with
    | ⟨0, _⟩ => rfl
    | ⟨1, _⟩ => rfl
  rw [e, val_main_v58_apply, val_main_v55_apply, val_main_v57_apply, v53_at]
  exact bucket_wrap _

/-- The table's row of a key's and a query's bucket. -/
theorem v60_at (x1 : FVec Ideal S32x8 .f32) (q k : Fin 2048) (h : Fin 8) :
    val_main_v60 (F := Ideal) x1 (ix3 q k h) = x1 (ix2 (bkt ((k.val : ℤ) - (q.val : ℤ))) h) := by
  unfold val_main_v60 Host.gather
  refine congrArg x1 (funext fun a => Fin.ext ?_)
  set d := gather_S32x8_S2048x2048x1_S2048x2048x8_2_0_n_n_0_2_18 with hd
  have hbN : ∀ a', a' ∉ d.operandBatchingDims := fun a' => by show a' ∉ []; exact List.not_mem_nil
  match a with
  | ⟨0, _⟩ =>
    have hk : (0 : Fin 2) ∉ d.sKept := fun h => ((d.mem_sKept 0).1 h).1 (by show (0 : Fin 2) ∈ [0]; exact List.mem_singleton.2 rfl)
    have hm : (0 : Fin 2) ∈ d.startIndexMap := by show (0 : Fin 2) ∈ [0]; exact List.mem_singleton.2 rfl
    show d.start (ix3 q k h) (val_main_v59 (F := Ideal)) 0 + d.batchCoord (ix3 q k h) 0 + d.offCoord (ix3 q k h) 0 = _
    rw [d.batchCoord_eq_zero _ _ (hbN 0), d.offCoord_eq_zero _ _ hk]
    simp only [Nat.add_zero]
    unfold GatherDims.start
    rw [dif_pos hm]
    have hsi : d.siIdx (ix3 q k h) ⟨d.startIndexMap.idxOf 0, List.idxOf_lt_length_iff.2 hm⟩ = ix3 q k (0 : Fin 1) := by
      funext b'
      apply Fin.ext
      match b' with
      | ⟨0, _⟩ => rfl
      | ⟨1, _⟩ => rfl
      | ⟨2, _⟩ => rfl
    rw [hsi, v59_at]
    exact bucket_nat _
  | ⟨1, _⟩ =>
    have hm : (1 : Fin 2) ∉ d.startIndexMap := by show (1 : Fin 2) ∉ [0]; decide
    show d.start (ix3 q k h) (val_main_v59 (F := Ideal)) 1 + d.batchCoord (ix3 q k h) 1 + d.offCoord (ix3 q k h) 1 = h.val
    rw [d.batchCoord_eq_zero _ _ (hbN 1)]
    unfold GatherDims.start
    rw [dif_neg hm]
    simp only [Nat.zero_add]
    rfl

variable (x0 : FVec Ideal S16384x3072 .bf16) (x1 : FVec Ideal S32x8 .f32) (x2 : FVec Ideal S4x64 .f32) (x3 : FVec Ideal S128 .f32)

/-- A row of the batch, in the queries', keys' and values' matrix. -/
abbrev row (b : Fin 8) (q : Fin 2048) : Fin 16384 := ⟨2048 * b.val + q.val, by omega⟩

/-- The first column of a half. -/
abbrev half (m : Fin 2) : Fin 65 := ⟨64 * m.val, by omega⟩

/-- The scores. -/
theorem v67_at (b : Fin 8) (m : Fin 2) (h : Fin 8) (q k : Fin 2048) :
    val_main_v67 (F := Ideal) x0 x1 (ix5 b m h q k) = sc x0 x1 (half m) (row b q) h k := by
  rw [val_main_v67_apply, val_main_v64_apply, val_main_v66_apply, val_main_v65_apply, val_main_v61_apply, val_main_v62_apply]
  have e : idx_main_v61 (idx_main_v65 (idx_main_v66 (ix5 b m h q k))) = ix3 q k h := by
    funext a
    match a with
    | ⟨0, _⟩ => rfl
    | ⟨1, _⟩ => rfl
    | ⟨2, _⟩ => rfl
  rw [e, v60_at]
  have hd : (row b q).val / 2048 = b.val := by show (2048 * b.val + q.val) / 2048 = b.val; omega
  have hm' : (row b q).val % 2048 = q.val := by show (2048 * b.val + q.val) % 2048 = q.val; omega
  unfold sc lg
  refine congrArg₂ (· + ·) (congrArg₂ (· * ·) (Finset.sum_congr rfl fun d _ => congrArg₂ (· * ·) ?_ ?_) rfl) ?_
  · rw [val_main_v2_apply, val_main_v1_apply]
    refine congrArg x0 (funext fun a => Fin.ext ?_)
    match a with
    | ⟨0, _⟩ => show ((((b.val * 2048 + q.val) * 8 + h.val) * 2 + m.val) * 64 + d.val) / 1024 = 2048 * b.val + q.val; omega
    | ⟨1, _⟩ => show ((((b.val * 2048 + q.val) * 8 + h.val) * 2 + m.val) * 64 + d.val) % 1024 = 128 * h.val + (64 * m.val + d.val); omega
  · rw [val_main_v4_apply, val_main_v3_apply]
    refine congrArg x0 (funext fun a => Fin.ext ?_)
    match a with
    | ⟨0, _⟩ => show ((((b.val * 2048 + k.val) * 8 + h.val) * 2 + m.val) * 64 + d.val) / 1024 = 2048 * ((row b q).val / 2048) + k.val; omega
    | ⟨1, _⟩ => show 1024 + ((((b.val * 2048 + k.val) * 8 + h.val) * 2 + m.val) * 64 + d.val) % 1024 = 1024 + 128 * h.val + (64 * m.val + d.val); omega
  · show x1 _ = x1 _
    rw [hm']

/-- The greatest score of a query. -/
theorem v68_at (b : Fin 8) (m : Fin 2) (h : Fin 8) (q : Fin 2048) :
    val_main_v68 (F := Ideal) x0 x1 (ix4 b m h q) = mx (sc x0 x1 (half m) (row b q) h) := by
  have e : val_main_v68 (F := Ideal) x0 x1 (ix4 b m h q)
      = Finset.univ.fold max (val_main_cst_14 (F := Ideal) (Shape.Idx.first h_S_)) fun k : Fin 2048 => val_main_v67 (F := Ideal) x0 x1 (ix5 b m h q k) := by
    unfold val_main_v68
    generalize val_main_v67 (F := Ideal) x0 x1 = y
    simp only [pointwise]
  rw [e]
  unfold mx
  refine congrArg (fun f => Finset.univ.fold max (Ideal.ofBits .f32 0xFF800000#32) f) ?_
  exact funext fun k => v67_at x0 x1 b m h q k

/-- The greatest score, once more against minus infinity. -/
theorem v70_at (b : Fin 8) (m : Fin 2) (h : Fin 8) (q : Fin 2048) :
    val_main_v70 (F := Ideal) x0 x1 (ix4 b m h q) = mx (sc x0 x1 (half m) (row b q) h) := by
  rw [val_main_v70_apply, v68_at, val_main_v69_apply]
  show max (Ideal.ofBits .f32 0xFF800000#32) _ = _
  rw [ofBits_negInf]
  exact bot_sup_eq _

/-- A score's exponential. -/
theorem v74_at (b : Fin 8) (m : Fin 2) (h : Fin 8) (q k : Fin 2048) :
    val_main_v74 (F := Ideal) x0 x1 (ix5 b m h q k) = ex (sc x0 x1 (half m) (row b q) h) k := by
  rw [val_main_v74_apply, val_main_v73_apply, val_main_v72_apply, val_main_v71_apply, v67_at]
  have e : idx_main_v71 (idx_main_v72 (ix5 b m h q k)) = ix4 b m h q := by
    funext a
    match a with
    | ⟨0, _⟩ => rfl
    | ⟨1, _⟩ => rfl
    | ⟨2, _⟩ => rfl
    | ⟨3, _⟩ => rfl
  rw [e, v70_at]
  rfl

/-- The exponentials' sum. -/
theorem v75_at (b : Fin 8) (m : Fin 2) (h : Fin 8) (q : Fin 2048) :
    val_main_v75 (F := Ideal) x0 x1 (ix4 b m h q) = sm (sc x0 x1 (half m) (row b q) h) := by
  rw [val_main_v75_apply]
  have z : val_main_cst_16 (F := Ideal) (Shape.Idx.first h_S_) = 0 := by
    show Ideal.ofBits .f32 0x0#32 = 0
    exact Ideal.ofBits_zero _
  rw [z, zero_add]
  unfold sm
  refine Finset.sum_congr rfl fun k _ => ?_
  have e : idx_main_v75 (ix4 b m h q) k = ix5 b m h q k := by
    funext a
    match a with
    | ⟨0, _⟩ => rfl
    | ⟨1, _⟩ => rfl
    | ⟨2, _⟩ => rfl
    | ⟨3, _⟩ => rfl
    | ⟨4, _⟩ => rfl
  rw [e, v74_at]

/-- The weights. -/
theorem v78_at (b : Fin 8) (m : Fin 2) (h : Fin 8) (q k : Fin 2048) :
    val_main_v78 (F := Ideal) x0 x1 (ix5 b m h q k) = wDiv (sc x0 x1 (half m) (row b q) h) k := by
  rw [val_main_v78_apply, val_main_v77_apply, val_main_v76_apply, v74_at]
  have e : idx_main_v76 (idx_main_v77 (ix5 b m h q k)) = ix4 b m h q := by
    funext a
    match a with
    | ⟨0, _⟩ => rfl
    | ⟨1, _⟩ => rfl
    | ⟨2, _⟩ => rfl
    | ⟨3, _⟩ => rfl
  rw [e, v75_at]
  rfl

/-- The difference of the two maps. -/
theorem v85_at (b h : Fin 8) (q k : Fin 2048) :
    val_main_v85 (F := Ideal) x0 x1 x2 (ix4 b h q k) = wDiv (sc x0 x1 0 (row b q) h) k
      - val_main_v22 (F := Ideal) x2 ix0 * wDiv (sc x0 x1 64 (row b q) h) k := by
  rw [val_main_v85_apply, val_main_v84_apply, val_main_v83_apply, val_main_v80_apply, val_main_v79_apply,
    val_main_v82_apply, val_main_v81_apply]
  have e0 : idx_main_v79 (idx_main_v80 (ix4 b h q k)) = ix5 b 0 h q k := by
    funext a
    apply Fin.ext
    match a with
    | ⟨0, _⟩ => show (((b.val * 8 + h.val) * 2048 + q.val) * 2048 + k.val) / 33554432 = b.val; omega
    | ⟨1, _⟩ => rfl
    | ⟨2, _⟩ => show (((b.val * 8 + h.val) * 2048 + q.val) * 2048 + k.val) / 4194304 % 8 = h.val; omega
    | ⟨3, _⟩ => show (((b.val * 8 + h.val) * 2048 + q.val) * 2048 + k.val) / 2048 % 2048 = q.val; omega
    | ⟨4, _⟩ => show (((b.val * 8 + h.val) * 2048 + q.val) * 2048 + k.val) % 2048 = k.val; omega
  have e1 : idx_main_v81 (idx_main_v82 (ix4 b h q k)) = ix5 b 1 h q k := by
    funext a
    apply Fin.ext
    match a with
    | ⟨0, _⟩ => show (((b.val * 8 + h.val) * 2048 + q.val) * 2048 + k.val) / 33554432 = b.val; omega
    | ⟨1, _⟩ => rfl
    | ⟨2, _⟩ => show (((b.val * 8 + h.val) * 2048 + q.val) * 2048 + k.val) / 4194304 % 8 = h.val; omega
    | ⟨3, _⟩ => show (((b.val * 8 + h.val) * 2048 + q.val) * 2048 + k.val) / 2048 % 2048 = q.val; omega
    | ⟨4, _⟩ => show (((b.val * 8 + h.val) * 2048 + q.val) * 2048 + k.val) % 2048 = k.val; omega
  rw [e0, e1, v78_at, v78_at]
  have e2 : idx_main_v83 (ix4 b h q k) = ix0 := funext fun a => a.elim0
  rw [e2]
  rfl

/-- The values summed under the difference of the two maps. -/
theorem v87_at (b h : Fin 8) (q : Fin 2048) (x : Fin 128) :
    val_main_v87 (F := Ideal) x0 x1 x2 (ix4 b q h x)
      = mix (wDiv (sc x0 x1 0 (row b q) h)) (wDiv (sc x0 x1 64 (row b q) h)) (val_main_v22 (F := Ideal) x2 ix0)
          (fun j y => x0 (ix2 ⟨2048 * ((row b q).val / 2048) + j.val, by have := b.isLt; have := q.isLt; show 2048 * ((2048 * b.val + q.val) / 2048) + j.val < 16384; omega⟩ ⟨2048 + 128 * h.val + y.val, by omega⟩)) x := by
  rw [val_main_v87_apply, val_main_v86_apply]
  unfold mix
  refine Finset.sum_congr rfl fun k _ => ?_
  have er : ridx_main_v86 (idx_main_v87 (ix4 b q h x)) k = ix4 b h q k := by
    funext a
    match a with
    | ⟨0, _⟩ => rfl
    | ⟨1, _⟩ => rfl
    | ⟨2, _⟩ => rfl
    | ⟨3, _⟩ => rfl
  rw [er, v85_at, mul_comm]
  refine congrArg₂ (· * ·) rfl ?_
  rw [val_main_v6_apply, val_main_v5_apply]
  refine congrArg x0 (funext fun a => Fin.ext ?_)
  match a with
  | ⟨0, _⟩ => show (((b.val * 2048 + k.val) * 8 + h.val) * 128 + x.val) / 1024 = 2048 * ((2048 * b.val + q.val) / 2048) + k.val; omega
  | ⟨1, _⟩ => show 2048 + (((b.val * 2048 + k.val) * 8 + h.val) * 128 + x.val) % 1024 = 2048 + 128 * h.val + x.val; omega

/-- The result, before it is laid out as a matrix. -/
theorem v102_at (b h : Fin 8) (q : Fin 2048) (x : Fin 128) :
    val_main_v102 (F := Ideal) x0 x1 x2 x3 (ix4 b q h x)
      = OUT wDiv x0 x1 (val_main_v22 (F := Ideal) x2 ix0) x3 (row b q) h x := by
  rw [val_main_v102_apply, val_main_v100_apply, val_main_v97_apply, val_main_v96_apply, val_main_v95_apply, val_main_v94_apply,
    val_main_v92_apply, val_main_v90_apply, val_main_v89_apply, val_main_v99_apply, val_main_v98_apply, v87_at]
  have z : val_main_cst_17 (F := Ideal) (Shape.Idx.first h_S_) = 0 := by
    show Ideal.ofBits .f32 0x0#32 = 0
    exact Ideal.ofBits_zero _
  have e : ∀ k : Fin 128, idx_main_v89 (idx_main_v90 (idx_main_v96 (ix4 b q h x))) k = ix4 b q h k := by
    intro k
    funext a
    match a with
    | ⟨0, _⟩ => rfl
    | ⟨1, _⟩ => rfl
    | ⟨2, _⟩ => rfl
    | ⟨3, _⟩ => rfl
  have e2 : idx_main_v98 (idx_main_v99 (ix4 b q h x)) = ix1 x := by
    funext a
    match a with
    | ⟨0, _⟩ => rfl
  rw [z, zero_add, e2]
  simp only [e, val_main_v88_apply, v87_at]
  rfl

/-- The reference's result. -/
theorem value : val_main_v104 (F := Ideal) x0 x1 x2 x3 = fun i : S16384x1024.Idx =>
    OUT wDiv x0 x1 (val_main_v22 (F := Ideal) x2 ix0) x3 (i 0) ⟨(i 1).val / 128, by have := (i 1).isLt; show (i 1).val / 128 < 8; change (i 1).val < 1024 at this; omega⟩
      ⟨(i 1).val % 128, Nat.mod_lt _ (by decide)⟩ := by
  funext i
  have h0 : (i 0).val < 16384 := (i 0).isLt
  have h1 : (i 1).val < 1024 := (i 1).isLt
  rw [val_main_v104_apply, val_main_v103_apply]
  have e : idx_main_v103 i = ix4 ⟨(i 0).val / 2048, by omega⟩ ⟨(i 0).val % 2048, by omega⟩ ⟨(i 1).val / 128, by omega⟩ ⟨(i 1).val % 128, by omega⟩ := by
    funext a
    apply Fin.ext
    match a with
    | ⟨0, _⟩ => show ((i 0).val * 1024 + (i 1).val) / 2097152 = (i 0).val / 2048; omega
    | ⟨1, _⟩ => show ((i 0).val * 1024 + (i 1).val) / 1024 % 2048 = (i 0).val % 2048; omega
    | ⟨2, _⟩ => show ((i 0).val * 1024 + (i 1).val) / 128 % 8 = (i 1).val / 128; omega
    | ⟨3, _⟩ => show ((i 0).val * 1024 + (i 1).val) % 128 = (i 1).val % 128; omega
  rw [e, v102_at]
  have er : row ⟨(i 0).val / 2048, by omega⟩ ⟨(i 0).val % 2048, by omega⟩ = i 0 := Fin.ext (by
    show 2048 * ((i 0).val / 2048) + (i 0).val % 2048 = (i 0).val; omega)
  rw [er]
  rfl

end Cert.ReferenceIdeal.Own

end
-- ==== Proof.AttnHost.lean ====
module

public import proofs.«01_k».proof.Proof.AttnRun
public import proofs.«01_k».proof.Proof.AttnRef
public import Idealize.ShloMosaic.Lib.StableHlo.Run

@[expose] public section

set_option maxRecDepth 16384

/-!
What the second region finds in its arrays: the arguments, the band the first region wrote, the
factor of the second map and the gains; and so the program's result.
-/

noncomputable section

namespace Cert.KernelIdeal.Own

open Idealize.ShloMosaic Idealize.ShloMosaic.TcCoe Idealize.ShloMosaic.StableHlo Cert.Attn Cert.KernelIdeal Cert.KernelIdeal.Gen

variable (m : (ℓ : Loc nD τ sig) → Buf (Elt Ideal) ℓ) (ρ : Dev nD → PrngReg) (c : Dev nD)

/-- The band's array at the second region's entry. -/
theorem band_in : V3 m ρ c main_v16 = Band (m ((c.tc : Thread nD τ).loc main_arg1)) := by
  refine (W3_of m ρ c main_v16 (by decide)).trans ((W2_arr m ρ c 1).trans ?_)
  refine (band_at (V1 m ρ) c).trans (congrArg Band ?_)
  exact W1_args m ρ c main_arg1 (by decide)

set_option maxHeartbeats 2000000 in
/-- The factor of the second map, after the first stretch of host operations. -/
theorem lam_host (V0 : Valuation τ sig (Elt Ideal)) : StableHlo.after hostOps0 V0 (Proc.devRef .tc main_v15)
    = Cert.ReferenceIdeal.Read.val_main_v22 (F := Ideal) (V0 (Proc.devRef .tc main_arg2)) := by
  simp only [hostOps0]
  after_results_simp
  rfl

set_option maxHeartbeats 2000000 in
/-- The factor of the second map as an array of one word, after the second stretch. -/
theorem lam_host1 (V0 : Valuation τ sig (Elt Ideal)) : StableHlo.after hostOps1 V0 (Proc.devRef .tc main_v17)
    = (shapeCast S1 (V0 (Proc.devRef .tc main_v15) : FVec Ideal S_ .f32) shapeCasts_S_S1 : FVec Ideal S1 .f32) := by
  simp only [hostOps1]
  after_results_simp
  rfl

set_option maxHeartbeats 2000000 in
/-- The gains as an array of one row, after the second stretch. -/
theorem gain_host1 (V0 : Valuation τ sig (Elt Ideal)) : StableHlo.after hostOps1 V0 (Proc.devRef .tc main_v18)
    = (shapeCast S1x128 (V0 (Proc.devRef .tc main_arg3) : FVec Ideal S128 .f32) shapeCasts_S128_S1x128 : FVec Ideal S1x128 .f32) := by
  simp only [hostOps1]
  after_results_simp
  rfl

/-- The factor of the second map at the second region's entry. -/
theorem lam_in : V3 m ρ c main_v17 (ix1 0)
    = Cert.ReferenceIdeal.Read.val_main_v22 (F := Ideal) (m ((c.tc : Thread nD τ).loc main_arg2)) ix0 := by
  have e : W2 m ρ c (Proc.devRef .tc main_v15)
      = Cert.ReferenceIdeal.Read.val_main_v22 (F := Ideal) (m ((c.tc : Thread nD τ).loc main_arg2)) :=
    (W2_of m ρ c main_v15 (by decide)).trans (lam_host (W0 m ρ c))
  refine (congrFun (lam_host1 (W2 m ρ c)) (ix1 0)).trans ?_
  rw [e]
  generalize Cert.ReferenceIdeal.Read.val_main_v22 (F := Ideal) (m ((c.tc : Thread nD τ).loc main_arg2)) = y
  exact congrArg y (funext fun a => a.elim0)

/-- The gains at the second region's entry. -/
theorem gain_in (y : Fin 128) : V3 m ρ c main_v18 (ix2 0 y) = m ((c.tc : Thread nD τ).loc main_arg3) (ix1 y) := by
  have e : W2 m ρ c (Proc.devRef .tc main_arg3) = m ((c.tc : Thread nD τ).loc main_arg3) := W2_args m ρ c main_arg3 (by decide)
  refine (congrFun (gain_host1 (W2 m ρ c)) (ix2 0 y)).trans ?_
  rw [e]
  have hg : ∀ g : FVec Ideal S128 .f32, shapeCast S1x128 g shapeCasts_S128_S1x128 (ix2 0 y) = g (ix1 y) := fun g => by
    refine shapeCast_apply g shapeCasts_S128_S1x128 (ix2 0 y) (ix1 y) ?_
    rw [Shape.rowMajor_val_two, Shape.rowMajor_val_one]
    show y.val = 0 * 128 + y.val
    omega
  exact hg _

/-- The program's result. -/
theorem result : (dat1 (V3 m ρ) c).arrAt 7 cfg1.N = fun i : S16384x1024.Idx =>
    OUT wMul (m ((c.tc : Thread nD τ).loc main_arg0)) (m ((c.tc : Thread nD τ).loc main_arg1))
      (Cert.ReferenceIdeal.Read.val_main_v22 (F := Ideal) (m ((c.tc : Thread nD τ).loc main_arg2)) ix0)
      (m ((c.tc : Thread nD τ).loc main_arg3)) (i 0)
      ⟨(i 1).val / 128, by have := (i 1).isLt; show (i 1).val / 128 < 8; change (i 1).val < 1024 at this; omega⟩
      ⟨(i 1).val % 128, Nat.mod_lt _ (by decide)⟩ := by
  have a0 : V3 m ρ c main_arg0 = m ((c.tc : Thread nD τ).loc main_arg0) := W3_args m ρ c main_arg0 (by decide)
  have a1 : V3 m ρ c main_arg1 = m ((c.tc : Thread nD τ).loc main_arg1) := W3_args m ρ c main_arg1 (by decide)
  have e := final_at (V := V3 m ρ) c ((band_in m ρ c).trans (congrArg Band a1.symm)) (m ((c.tc : Thread nD τ).loc main_arg3)) (gain_in m ρ c)
  rw [e, lam_in m ρ c, a0, a1]

end Cert.KernelIdeal.Own

namespace Cert.Attn

open Idealize.ShloMosaic Idealize.ShloMosaic.TcCoe

/-- With real queries, keys and table the two ways to write the weights give one result. -/
theorem OUT_eq (Q : FVec Ideal ⟨2, ![16384, 3072]⟩ .bf16) (T : FVec Ideal ⟨2, ![32, 8]⟩ .f32)
    (hQ : ∀ n (z : Fin 3072), z.val < 2048 → Real' (Q (ix2 n z))) (hT : ∀ a b, Real' (T (ix2 a b)))
    (lam : EReal) (g : FVec Ideal ⟨1, ![128]⟩ .f32) (n : Fin 16384) (h : Fin 8) (x : Fin 128) :
    OUT wMul Q T lam g n h x = OUT wDiv Q T lam g n h x := by
  have e : ∀ o : Fin 65, wMul (sc Q T o n h) = wDiv (sc Q T o n h) := by
    intro o
    refine wMul_eq _ fun j => lg_real _ _ _ (fun d => hQ _ _ ?_) (fun j d => hQ _ _ ?_) (fun j => hT _ _) j
    · show 128 * h.val + (o.val + d.val) < 2048
      omega
    · show 1024 + 128 * h.val + (o.val + d.val) < 2048
      omega
  unfold OUT
  rw [e 0, e 64]

end Cert.Attn

end
-- ==== Proof.ExpPre.lean ====
/-
  The condition on the two tables, as statements about their words: every tile's expert is one of the thirty-two,
  and at least one tile is in use.
-/
module

public import proofs.«01_k».proof.Defs
public import proofs.«01_k».proof.Proof.Gen.Pre_routed
public import Idealize.ShloMosaic.Lib.ReduceAll
public import Idealize.ShloMosaic.Lib.Pipeline.ValueKit

@[expose] public section

set_option maxRecDepth 16384

noncomputable section

namespace Cert.Routed

open Idealize.ShloMosaic Idealize.SL.Sem

/-- A word that is at least 0 and below 32, signed, is below 32 unsigned. -/
theorem toNat_of_signed {w : BitVec 32} (h0 : Scalar.cmpi .sge w 0#32 = 1#1) (h1 : Scalar.cmpi .slt w 32#32 = 1#1) : w.toNat < 32 := by
  have e0 : (0#32).sle w = true := by
    have : BitVec.ofBool ((0#32).sle w) = 1#1 := h0
    cases hb : (0#32).sle w <;> simp_all
  have e1 : w.slt 32#32 = true := by
    have : BitVec.ofBool (w.slt 32#32) = 1#1 := h1
    cases hb : w.slt 32#32 <;> simp_all
  simp only [BitVec.sle, BitVec.slt, decide_eq_true_eq, BitVec.toInt_eq_toNat_cond, BitVec.toNat_ofNat] at e0 e1
  omega

/-- A word that is at least 1, signed. -/
theorem one_le_of_signed {w : BitVec 32} (h : Scalar.cmpi .sge w 1#32 = 1#1) : 1 ≤ w.toInt := by
  have e : (1#32).sle w = true := by
    have : BitVec.ofBool ((1#32).sle w) = 1#1 := h
    cases hb : (1#32).sle w <;> simp_all
  simpa [BitVec.sle] using e

/-- Where the condition holds, the table's words name experts and the count is at least one. -/
theorem fn_words {F : FTy → Type} [FloatOps F] (x0 : IVec Cert.Pre_routed.S73728x512 32) (x1 : IVec Cert.Pre_routed.S288 32)
    (x2 : IVec Cert.Pre_routed.S1 32) (x3 : FVec F Cert.Pre_routed.S32x1024x2048 .f32) (x4 : FVec F Cert.Pre_routed.S32x2048 .f32)
    (x5 : FVec F Cert.Pre_routed.S32x1024x1024 .f32) (x6 : FVec F Cert.Pre_routed.S32x1024 .f32)
    (j : Cert.Pre_routed.S_.Idx) (h : Cert.Pre_routed.fn (F := F) x0 x1 x2 x3 x4 x5 x6 j = 1#1) :
    (∀ n : Fin 288, (x1 (ix1 n)).toNat < 32) ∧ 1 ≤ (x2 (ix1 (0 : Fin 1))).toInt := by
  haveI : Subsingleton Cert.Pre_routed.S_.Idx := ⟨fun a b => funext fun i => i.elim0⟩
  unfold Cert.Pre_routed.fn at h
  obtain ⟨h1, h2⟩ := IntOp.andi_eq_one.1 h
  constructor
  · intro n
    obtain ⟨e0, e1⟩ := IntOp.andi_eq_one.1 (Host.reduce_andi_all _ _ _ _ _ h1 (ix1 n))
    exact toNat_of_signed e0 e1
  · refine one_le_of_signed (Eq.trans ?_ h2)
    have e : shapeCast Cert.Pre_routed.S_ x2 Cert.Pre_routed.Facts.shapeCasts_S1_S_ j = x2 (ix1 (0 : Fin 1)) := by
      unfold shapeCast
      refine congrArg x2 (funext fun a => ?_)
      match a with
      | ⟨0, _⟩ => exact Subsingleton.elim (α := Fin 1) _ _
    rw [← e]
    rfl

/-- The tile a point's block of rows is taken from is one of the 288: the point's own, or an earlier one. -/
theorem tile_lt (n : Fin 288) {w : BitVec 32} (h : 1 ≤ w.toInt) : (Scalar.minsi (BitVec.ofNat 32 n.val) (Scalar.subi w 1#32)).toNat < 288 := by
  have hn := n.isLt
  have e : Scalar.minsi (BitVec.ofNat 32 n.val) (Scalar.subi w 1#32)
      = if (BitVec.ofNat 32 n.val).slt (w - 1#32) then BitVec.ofNat 32 n.val else w - 1#32 := rfl
  rw [e]
  split
  · rw [BitVec.toNat_ofNat]; omega
  · rename_i hs
    simp only [BitVec.slt, decide_eq_true_eq, BitVec.toInt_eq_toNat_cond, BitVec.toNat_ofNat, BitVec.toNat_sub] at hs h ⊢
    have := w.isLt
    omega

/-- A tile in use takes its own rows. -/
theorem tile_own (n : Fin 288) {w : BitVec 32} (h : 1 ≤ w.toInt) (hs : (BitVec.ofNat 32 n.val).slt w = true) :
    (Scalar.minsi (BitVec.ofNat 32 n.val) (Scalar.subi w 1#32)).toNat = n.val := by
  have hn := n.isLt
  have e : Scalar.minsi (BitVec.ofNat 32 n.val) (Scalar.subi w 1#32)
      = if (BitVec.ofNat 32 n.val).slt (w - 1#32) then BitVec.ofNat 32 n.val else w - 1#32 := rfl
  rw [e]
  split
  · rw [BitVec.toNat_ofNat]; omega
  · rename_i ho
    simp only [BitVec.slt, decide_eq_true_eq, BitVec.toInt_eq_toNat_cond, BitVec.toNat_ofNat, BitVec.toNat_sub] at hs ho h ⊢
    have := w.isLt
    omega

end Cert.Routed

end
-- ==== Proof.ExpIdealRun.lean ====
/-
  The expert call's body on any staging buffers, at the ideal instance's printing of the program.

  The body reads the number of tiles in use from the second table, twice.  Where the point's tile is one of
  them it stores the expert's output over the whole output block, and otherwise it stores zeros over it: one of
  the two stores always happens (`unused_iff`), so no point leaves the block as it was found.  The two runs
  (`run_used`, `run_unused`) say what the block holds afterwards.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.VecWindow
public import Idealize.ShloMosaic.Lib.Tactic

@[expose] public section

set_option maxRecDepth 16384

noncomputable section

namespace Cert.ExpIdeal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The two conditions -/

/-- The first condition holds when the tile's number is below the word, as signed integers. -/
theorem used_iff (i : grid0.Coords) (w : BitVec 32) : k0_cond1 i w = 1#1 ↔ (BitVec.ofNat 32 (i 0).val).slt w = true := by
  have e : k0_cond1 i w = Scalar.cmpi .ne (Scalar.extui (BitVec.ofBool ((BitVec.ofNat 32 (i 0).val).slt w))) 0#32 := rfl
  rw [e]; cases (BitVec.ofNat 32 (i 0).val).slt w <;> decide

/-- The second condition is the first one's opposite. -/
theorem unused_iff (i : grid0.Coords) (w : BitVec 32) : k0_cond2 i w = 1#1 ↔ ¬ k0_cond1 i w = 1#1 := by
  have e : k0_cond2 i w = Scalar.cmpi .ne (Scalar.extui (BitVec.ofBool (w.sle (BitVec.ofNat 32 (i 0).val)))) 0#32 := rfl
  have hs : w.sle (BitVec.ofNat 32 (i 0).val) = !(BitVec.ofNat 32 (i 0).val).slt w := by
    rw [BitVec.sle_eq_not_slt]
  rw [used_iff, e, hs]; cases (BitVec.ofNat 32 (i 0).val).slt w <;> decide

/-- So no point is idle for any window, whatever the tables hold. -/
theorem never_idle (pf : pre0.Contents (Elt F)) (i : grid0.Coords) : idle0 pf 7 i = false := by
  have h := unused_iff i (pf.atD 1 ![0])
  show (!(k0_cond1 i (pf.atD 1 ![0]) == 1#1) && !(k0_cond2 i (pf.atD 1 ![0]) == 1#1)) = false
  by_cases h1 : k0_cond1 i (pf.atD 1 ![0]) = 1#1
  · rw [h1]; rfl
  · rw [h.mpr h1]; simp

/-! ## The tables as the body holds them -/

/-- The table of the tiles' experts and the table of the number of tiles in use. -/
abbrev experts : Memref sig .tc .smem S288 .i32 := Memref.whole main_arg1
abbrev count : Memref sig .tc .smem S1 .i32 := Memref.whole main_arg2

/-- What a table's buffer holds on a core. -/
abbrev Held (c : Dev nD) {S : Shape} {e : EltTy} (M : Memref sig .tc .smem S e) : Type := Buf (Elt F) (M.view.loc (c : Thread nD τ))

/-- A table held at half the full share: the pipeline keeps the other half. -/
abbrev half (c : Dev nD) {S : Shape} {e : EltTy} (M : Memref sig .tc .smem S e) (f : Held (F := F) c M) : sProp 𝕄 :=
  M.view.loc (c : Thread nD τ) ↦{fullShare.right} f

/-- The word the body reads from the second table. -/
abbrev countWord (c : Dev nD) (f : Held (F := F) c count) : BitVec 32 :=
  count.view.readAt (Elt F) (Rect.unit (s := S1) ![0] S1.size inb_S1_S1_0).toLoadRect f (Shape.Idx.first (numel1_S1.symm ▸ Nat.one_pos))

/-- The expert's output for a block of rows, over the blocks the body loads. -/
def expertTile (x0 : Vec F S256x512 .i32) (x1 x2 : Vec F S1x1024x1024 .bf16) (x3 x4 : Vec F S1x1x1024 .f32)
    (x5 : Vec F S1x1024x1024 .bf16) (x6 : Vec F S1x1x1024 .f32) : Vec F S256x1024 .f32 :=
  k0_pay1 (k0_pay4 x0 x1 x3) (k0_pay5 x0 x2 x4) (k0_pay6 x0 x1 x3) (k0_pay7 (F := F)) x5 x6

theorem expertTile_of_eq {x0 y0 : Vec F S256x512 .i32} {x1 y1 x2 y2 : Vec F S1x1024x1024 .bf16} {x3 y3 x4 y4 : Vec F S1x1x1024 .f32}
    {x5 y5 : Vec F S1x1024x1024 .bf16} {x6 y6 : Vec F S1x1x1024 .f32} (h0 : y0 = x0) (h1 : y1 = x1) (h2 : y2 = x2) (h3 : y3 = x3)
    (h4 : y4 = x4) (h5 : y5 = x5) (h6 : y6 = x6) :
    k0_pay1 (k0_pay4 y0 y1 y3) (k0_pay5 y0 y2 y4) (k0_pay6 y0 y1 y3) (k0_pay7 (F := F)) y5 y6 = expertTile x0 x1 x2 x3 x4 x5 x6 := by
  subst h0 h1 h2 h3 h4 h5 h6; rfl

/-- A load of a whole staging buffer at contents that read `x` gives `x`. -/
theorem load_whole {sp : Space} {s : Shape} {e : EltTy} {M : Memref sig .tc sp s e} (h : M.IsWhole) (x : Vec F s e)
    {off : Fin s.rank → ℕ} (inb : ∀ a, off a + s.size a ≤ s.size a) :
    M.view.readAt (Elt F) (Rect.unit off s.size inb).toLoadRect (h.unread x) = x := by
  rw [View.readAt_full, h.read_unread]

section Runs

variable (c : Dev nD) (i : grid0.Coords)
  (a3 : Memref sig .tc .vmem S256x512 .i32) (w3 : a3.IsWhole) (a4 : Memref sig .tc .vmem S1x1024x1024 .bf16) (w4 : a4.IsWhole)
  (a5 : Memref sig .tc .vmem S1x1024x1024 .bf16) (w5 : a5.IsWhole) (a6 : Memref sig .tc .vmem S1x1x1024 .f32) (w6 : a6.IsWhole)
  (a7 : Memref sig .tc .vmem S1x1x1024 .f32) (w7 : a7.IsWhole) (a8 : Memref sig .tc .vmem S1x1024x1024 .bf16) (w8 : a8.IsWhole)
  (a9 : Memref sig .tc .vmem S1x1x1024 .f32) (w9 : a9.IsWhole) (a10 : Memref sig .tc .vmem S256x1024 .f32) (w10 : a10.IsWhole)
  (x0 : Vec F S256x512 .i32) (x1 x2 : Vec F S1x1024x1024 .bf16) (x3 x4 : Vec F S1x1x1024 .f32)
  (x5 : Vec F S1x1024x1024 .bf16) (x6 : Vec F S1x1x1024 .f32) (t0 : Held (F := F) c experts) (t1 : Held (F := F) c count)

/-- What the body is handed besides the output block, and hands back as it was: the input blocks and the tables. -/
abbrev inputs : sProp 𝕄 :=
  iprop(owns (c : Thread nD τ) a3 fullShare x0 ∗ owns (c : Thread nD τ) a4 fullShare x1 ∗ owns (c : Thread nD τ) a5 fullShare x2
    ∗ owns (c : Thread nD τ) a6 fullShare x3 ∗ owns (c : Thread nD τ) a7 fullShare x4 ∗ owns (c : Thread nD τ) a8 fullShare x5
    ∗ owns (c : Thread nD τ) a9 fullShare x6 ∗ half c experts t0 ∗ half c count t1)

set_option maxHeartbeats 4000000 in
/-- A tile in use: the body leaves the expert's output. -/
theorem run_used (h1 : k0_cond1 i (countWord c t1) = 1#1) (h2 : ¬ k0_cond2 i (countWord c t1) = 1#1) (E : Set ℕ) (K : PUnit → sProp 𝕄) :
    iprop(inputs c a3 a4 a5 a6 a7 a8 a9 x0 x1 x2 x3 x4 x5 x6 t0 t1 ∗ (∃ d, owns (c : Thread nD τ) a10 fullShare d)
        ∗ (iprop(inputs c a3 a4 a5 a6 a7 a8 a9 x0 x1 x2 x3 x4 x5 x6 t0 t1
            ∗ owns (c : Thread nD τ) a10 fullShare (expertTile x0 x1 x2 x3 x4 x5 x6)) -∗ K ⟨⟩))
      ⊢ wp frame (wpE (defs₀ (F := F)) Variants.none c none) E
          (cc0_moe_experts i experts (Memref.isWhole_whole _) count (Memref.isWhole_whole _) a3 w3 a4 w4 a5 w5 a6 w6 a7 w7 a8 w8 a9 w9 a10 w10) K := by
  simp only [cc0_moe_experts_eq_skeleton]; unfold cc0_moe_experts_skel
  simp only [k0_part1_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1⟩, ⟨%d7, %f7, -, H7⟩, Hk⟩
  obtain rfl := w3.eq_unread hf0; obtain rfl := w4.eq_unread hf1; obtain rfl := w5.eq_unread hf2; obtain rfl := w6.eq_unread hf3
  obtain rfl := w7.eq_unread hf4; obtain rfl := w8.eq_unread hf5; obtain rfl := w9.eq_unread hf6
  sl_exec (disch := first | sl_exact h1 | sl_exact h2)
  sl_step
  iapply Hk
  isplitr [H7]
  · isplitl [H0]
    · iexists _; isplitr; · ipureintro; exact w3.read_unread _
      iexact H0
    isplitl [H1]
    · iexists _; isplitr; · ipureintro; exact w4.read_unread _
      iexact H1
    isplitl [H2]
    · iexists _; isplitr; · ipureintro; exact w5.read_unread _
      iexact H2
    isplitl [H3]
    · iexists _; isplitr; · ipureintro; exact w6.read_unread _
      iexact H3
    isplitl [H4]
    · iexists _; isplitr; · ipureintro; exact w7.read_unread _
      iexact H4
    isplitl [H5]
    · iexists _; isplitr; · ipureintro; exact w8.read_unread _
      iexact H5
    isplitl [H6]
    · iexists _; isplitr; · ipureintro; exact w9.read_unread _
      iexact H6
    isplitl [HT0]; · iexact HT0
    iexact HT1
  · iexists _; isplitr
    swap; · iexact H7
    ipureintro
    refine (View.read_writes_full _ _ _ _ _).trans ?_
    exact expertTile_of_eq (load_whole w3 x0 _) (load_whole w4 x1 _) (load_whole w5 x2 _) (load_whole w6 x3 _)
      (load_whole w7 x4 _) (load_whole w8 x5 _) (load_whole w9 x6 _)

set_option maxHeartbeats 4000000 in
/-- A tile not in use: the body leaves zeros. -/
theorem run_unused (h1 : ¬ k0_cond1 i (countWord c t1) = 1#1) (h2 : k0_cond2 i (countWord c t1) = 1#1) (E : Set ℕ) (K : PUnit → sProp 𝕄) :
    iprop(inputs c a3 a4 a5 a6 a7 a8 a9 x0 x1 x2 x3 x4 x5 x6 t0 t1 ∗ (∃ d, owns (c : Thread nD τ) a10 fullShare d)
        ∗ (iprop(inputs c a3 a4 a5 a6 a7 a8 a9 x0 x1 x2 x3 x4 x5 x6 t0 t1
            ∗ owns (c : Thread nD τ) a10 fullShare (k0_pay2 (F := F))) -∗ K ⟨⟩))
      ⊢ wp frame (wpE (defs₀ (F := F)) Variants.none c none) E
          (cc0_moe_experts i experts (Memref.isWhole_whole _) count (Memref.isWhole_whole _) a3 w3 a4 w4 a5 w5 a6 w6 a7 w7 a8 w8 a9 w9 a10 w10) K := by
  simp only [cc0_moe_experts_eq_skeleton]; unfold cc0_moe_experts_skel
  unfold inputs owns
  iintro ⟨⟨H0, H1, H2, H3, H4, H5, H6, HT0, HT1⟩, ⟨%d7, %f7, -, H7⟩, Hk⟩
  sl_exec (disch := first | sl_exact h1 | sl_exact h2)
  sl_step
  iapply Hk
  isplitr [H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    iexact HT1
  · iexists _; isplitr
    swap; · iexact H7
    ipureintro
    exact View.read_writes_full _ _ _ _ _

end Runs

end Cert.ExpIdeal

end
-- ==== Proof.ExpIdealFrame.lean ====
/-
  The expert call run to its end, at the ideal instance's printing of the program.

  The launch is read at the tables the memory holds: `Ok m` says that every block the windows name with those
  tables lies inside its array.  Under it the run terminates with the arguments as they were (`frame`), and the
  output array is the fold of the blocks the points leave (`run_main`, at the proof data `dats`).
-/
module

public import proofs.«01_k».proof.Proof.ExpIdealRun

@[expose] public section

set_option maxRecDepth 16384

noncomputable section

namespace Cert.ExpIdeal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory when the call is entered -/

/-- A core's buffers after the host operations before the call. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the call: the host operations leave `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The buffers the host operations write: the two halves of the weights and the casts. -/
abbrev written : List (Ref sig .tc) := [main_v0, main_v1, main_v2, main_v3, main_v4, main_v5, main_v6, main_v7, main_v8, main_v9]

/-- Any other buffer is found as launched. -/
theorem V_of_not_written (c : Dev nD) (b : Ref sig .tc) (h : b ∉ written) : V m c b = m ((c : Thread nD τ).loc b) :=
  StableHlo.after_of_writes_sub (W := written) hostOps0 _ (StableHlo.forall_writes_sub_of_map rfl) h

/-! ## The tables -/

/-- The two tables' contents; there is one device. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the tables name lies inside its array. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

/-- The tables' halves as the body takes them. -/
theorem tables_eq (c : Dev nD) : (Pipeline.ΦT pre0 (tbl m) c : sProp 𝕄) = iprop(half c experts (tbl m 0) ∗ half c count (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The proof data -/

/-- Window `w`'s block at point `t` of the array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the output block holds after point `t`. -/
def tileAt (hO : Ok m) (c : Dev nD) (t : Fin (cfgM m hO).N) : Vec F S256x1024 .f32 :=
  if k0_cond1 (grid0.coords t) (countWord c (tbl m 1)) = 1#1 then
    expertTile (iblk m hO c 0 t) (iblk m hO c 1 t) (iblk m hO c 2 t) (iblk m hO c 3 t) (iblk m hO c 4 t) (iblk m hO c 5 t) (iblk m hO c 6 t)
  else k0_pay2 (F := F)

/-- The arrays as found; each input's buffer at its block and the output's at `tileAt` after every point; the
    tables' halves and the class's invariant kept throughout. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => tileAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; rfl
theorem after_1 (hO : Ok m) (c : Dev nD) (t : Fin (cfgM m hO).N) : (dats m hO 0 c).after 1 t = iblk m hO c 1 t := by dsimp only [dats]; rfl
theorem after_2 (hO : Ok m) (c : Dev nD) (t : Fin (cfgM m hO).N) : (dats m hO 0 c).after 2 t = iblk m hO c 2 t := by dsimp only [dats]; rfl
theorem after_3 (hO : Ok m) (c : Dev nD) (t : Fin (cfgM m hO).N) : (dats m hO 0 c).after 3 t = iblk m hO c 3 t := by dsimp only [dats]; rfl
theorem after_4 (hO : Ok m) (c : Dev nD) (t : Fin (cfgM m hO).N) : (dats m hO 0 c).after 4 t = iblk m hO c 4 t := by dsimp only [dats]; rfl
theorem after_5 (hO : Ok m) (c : Dev nD) (t : Fin (cfgM m hO).N) : (dats m hO 0 c).after 5 t = iblk m hO c 5 t := by dsimp only [dats]; rfl
theorem after_6 (hO : Ok m) (c : Dev nD) (t : Fin (cfgM m hO).N) : (dats m hO 0 c).after 6 t = iblk m hO c 6 t := by dsimp only [dats]; rfl
theorem after_out (hO : Ok m) (c : Dev nD) (t : Fin (cfgM m hO).N) : (dats m hO 0 c).after 7 t = tileAt m hO c t := by
  dsimp only [dats]; rfl

/-- An input's current buffer holds its block at every point, whether fetched there or found there. -/
theorem before_block (hO : Ok m) (c : Dev nD) (w : Fin (cfgM m hO).W) (hw : ((cfgM m hO).win w).isOut = false)
    (hlive : ∀ i, (cfgM m hO).idle w i = false)
    (hclip : ∀ t t' : Fin (cfgM m hO).N, ((cfgM m hO).win w).index t = ((cfgM m hO).win w).index t' →
      ((cfgM m hO).win w).clip ((cfgM m hO).grid.coords t) = ((cfgM m hO).win w).clip ((cfgM m hO).grid.coords t'))
    (hkeep : ∀ t, ((cfgM m hO).win w).cut ((cfgM m hO).grid.coords t) ((dats m hO 0 c).after w t) = iblk m hO c w t)
    (t : Fin (cfgM m hO).N) (d) :
    (dats m hO 0 c).before w t d = ((cfgM m hO).win w).fill ((cfgM m hO).grid.coords t) d (iblk m hO c w t) :=
  (dats m hO 0 c).before_in_eq_fetched w hw hlive hclip
    (fun t => (hkeep t).trans (by unfold Dat.blockOf iblk; rw [A_eq])) t d |>.trans
    (by unfold Dat.fetched Dat.blockOf iblk; rw [A_eq])

/-! ## The body at a point -/

abbrev m0 (hO : Ok m) (t : Fin (cfgM m hO).N) : Memref sig .tc .vmem S256x512 .i32 := spec0_0.stage ((cfgM m hO).slots t 0)
abbrev m1 (hO : Ok m) (t : Fin (cfgM m hO).N) : Memref sig .tc .vmem S1x1024x1024 .bf16 := spec0_1.stage ((cfgM m hO).slots t 1)
abbrev m2 (hO : Ok m) (t : Fin (cfgM m hO).N) : Memref sig .tc .vmem S1x1024x1024 .bf16 := spec0_2.stage ((cfgM m hO).slots t 2)
abbrev m3 (hO : Ok m) (t : Fin (cfgM m hO).N) : Memref sig .tc .vmem S1x1x1024 .f32 := spec0_3.stage ((cfgM m hO).slots t 3)
abbrev m4 (hO : Ok m) (t : Fin (cfgM m hO).N) : Memref sig .tc .vmem S1x1x1024 .f32 := spec0_4.stage ((cfgM m hO).slots t 4)
abbrev m5 (hO : Ok m) (t : Fin (cfgM m hO).N) : Memref sig .tc .vmem S1x1024x1024 .bf16 := spec0_5.stage ((cfgM m hO).slots t 5)
abbrev m6 (hO : Ok m) (t : Fin (cfgM m hO).N) : Memref sig .tc .vmem S1x1x1024 .f32 := spec0_6.stage ((cfgM m hO).slots t 6)
abbrev m7 (hO : Ok m) (t : Fin (cfgM m hO).N) : Memref sig .tc .vmem S256x1024 .f32 := spec0_7.stage ((cfgM m hO).slots t 7)

/-- The body as the pipeline calls it at point `t`. -/
abbrev bodyAt (hO : Ok m) (t : Fin (cfgM m hO).N) : Prog (TpuEff nD τ sig (Elt F) Λ₀ .tc) PUnit :=
  cc0_moe_experts (grid0.coords t) experts (Memref.isWhole_whole _) count (Memref.isWhole_whole _)
    (m0 m hO t) (hstage0_0 (((cfgM m hO).slots t 0).cast nbuf0_0)) (m1 m hO t) (hstage0_1 (((cfgM m hO).slots t 1).cast nbuf0_1))
    (m2 m hO t) (hstage0_2 (((cfgM m hO).slots t 2).cast nbuf0_2)) (m3 m hO t) (hstage0_3 (((cfgM m hO).slots t 3).cast nbuf0_3))
    (m4 m hO t) (hstage0_4 (((cfgM m hO).slots t 4).cast nbuf0_4)) (m5 m hO t) (hstage0_5 (((cfgM m hO).slots t 5).cast nbuf0_5))
    (m6 m hO t) (hstage0_6 (((cfgM m hO).slots t 6).cast nbuf0_6)) (m7 m hO t) (hstage0_7 (((cfgM m hO).slots t 7).cast nbuf0_7))

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (m0 m hO t) fullShare ((dats m hO 0 c).before 0 t d))
    ∗ (∃ d, owns (c : Thread nD τ) (m1 m hO t) fullShare ((dats m hO 0 c).before 1 t d))
    ∗ (∃ d, owns (c : Thread nD τ) (m2 m hO t) fullShare ((dats m hO 0 c).before 2 t d))
    ∗ (∃ d, owns (c : Thread nD τ) (m3 m hO t) fullShare ((dats m hO 0 c).before 3 t d))
    ∗ (∃ d, owns (c : Thread nD τ) (m4 m hO t) fullShare ((dats m hO 0 c).before 4 t d))
    ∗ (∃ d, owns (c : Thread nD τ) (m5 m hO t) fullShare ((dats m hO 0 c).before 5 t d))
    ∗ (∃ d, owns (c : Thread nD τ) (m6 m hO t) fullShare ((dats m hO 0 c).before 6 t d))
    ∗ (∃ d, owns (c : Thread nD τ) (m7 m hO t) fullShare ((dats m hO 0 c).before 7 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (m0 m hO t) fullShare ((dats m hO 0 c).after 0 t)
    ∗ owns (c : Thread nD τ) (m1 m hO t) fullShare ((dats m hO 0 c).after 1 t)
    ∗ owns (c : Thread nD τ) (m2 m hO t) fullShare ((dats m hO 0 c).after 2 t)
    ∗ owns (c : Thread nD τ) (m3 m hO t) fullShare ((dats m hO 0 c).after 3 t)
    ∗ owns (c : Thread nD τ) (m4 m hO t) fullShare ((dats m hO 0 c).after 4 t)
    ∗ owns (c : Thread nD τ) (m5 m hO t) fullShare ((dats m hO 0 c).after 5 t)
    ∗ owns (c : Thread nD τ) (m6 m hO t) fullShare ((dats m hO 0 c).after 6 t)
    ∗ owns (c : Thread nD τ) (m7 m hO t) fullShare ((dats m hO 0 c).after 7 t))

/-- The body's run at a point, whichever store it makes. -/
theorem run_at (hO : Ok m) (c : Dev nD) (t : Fin (cfgM m hO).N) (K : PUnit → sProp 𝕄) :
    iprop(inputs c (m0 m hO t) (m1 m hO t) (m2 m hO t) (m3 m hO t) (m4 m hO t) (m5 m hO t) (m6 m hO t)
          (iblk m hO c 0 t) (iblk m hO c 1 t) (iblk m hO c 2 t) (iblk m hO c 3 t) (iblk m hO c 4 t) (iblk m hO c 5 t) (iblk m hO c 6 t) (tbl m 0) (tbl m 1)
        ∗ (∃ d, owns (c : Thread nD τ) (m7 m hO t) fullShare d)
        ∗ (iprop(inputs c (m0 m hO t) (m1 m hO t) (m2 m hO t) (m3 m hO t) (m4 m hO t) (m5 m hO t) (m6 m hO t)
            (iblk m hO c 0 t) (iblk m hO c 1 t) (iblk m hO c 2 t) (iblk m hO c 3 t) (iblk m hO c 4 t) (iblk m hO c 5 t) (iblk m hO c 6 t) (tbl m 0) (tbl m 1)
            ∗ owns (c : Thread nD τ) (m7 m hO t) fullShare (tileAt m hO c t)) -∗ K ⟨⟩))
      ⊢ wp frame (wpE (defs₀ (F := F)) Variants.none c none) Set.univ (bodyAt m hO t) K := by
  unfold tileAt
  by_cases h : k0_cond1 (grid0.coords t) (countWord c (tbl m 1)) = 1#1
  · rw [if_pos h]
    exact run_used c (grid0.coords t) _ _ _ _ _ _ _ _ _ _ _ _ _ _ _ _ _ _ _ _ _ _ _ _ _ h (fun h2 => (unused_iff _ _).mp h2 h) Set.univ K
  · rw [if_neg h]
    exact run_unused c (grid0.coords t) _ _ _ _ _ _ _ _ _ _ _ _ _ _ _ _ _ _ _ _ _ _ _ _ _ h ((unused_iff _ _).mpr h) Set.univ K

theorem before_0 (hO : Ok m) (c : Dev nD) (t) (d) : (dats m hO 0 c).before 0 t d = iblk m hO c 0 t :=
  before_block m hO c 0 rfl (fun _ => rfl) (fun _ _ _ => rfl) (fun _ => rfl) t d
theorem before_1 (hO : Ok m) (c : Dev nD) (t) (d) : (dats m hO 0 c).before 1 t d = iblk m hO c 1 t :=
  before_block m hO c 1 rfl (fun _ => rfl) (fun _ _ _ => rfl) (fun _ => rfl) t d
theorem before_2 (hO : Ok m) (c : Dev nD) (t) (d) : (dats m hO 0 c).before 2 t d = iblk m hO c 2 t :=
  before_block m hO c 2 rfl (fun _ => rfl) (fun _ _ _ => rfl) (fun _ => rfl) t d
theorem before_3 (hO : Ok m) (c : Dev nD) (t) (d) : (dats m hO 0 c).before 3 t d = iblk m hO c 3 t :=
  before_block m hO c 3 rfl (fun _ => rfl) (fun _ _ _ => rfl) (fun _ => rfl) t d
theorem before_4 (hO : Ok m) (c : Dev nD) (t) (d) : (dats m hO 0 c).before 4 t d = iblk m hO c 4 t :=
  before_block m hO c 4 rfl (fun _ => rfl) (fun _ _ _ => rfl) (fun _ => rfl) t d
theorem before_5 (hO : Ok m) (c : Dev nD) (t) (d) : (dats m hO 0 c).before 5 t d = iblk m hO c 5 t :=
  before_block m hO c 5 rfl (fun _ => rfl) (fun _ _ _ => rfl) (fun _ => rfl) t d
theorem before_6 (hO : Ok m) (c : Dev nD) (t) (d) : (dats m hO 0 c).before 6 t d = iblk m hO c 6 t :=
  before_block m hO c 6 rfl (fun _ => rfl) (fun _ _ _ => rfl) (fun _ => rfl) t d

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1, before_2, before_3, before_4, before_5, before_6]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6, after_out]
  rw [show (dats m hO 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_at m hO c t _)
  unfold inputs
  isplitl [H0 H1 H2 H3 H4 H5 H6 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    iexact HT1
  isplitl [H7]; · iexists _; iexact H7
  iintro ⟨⟨H0, H1, H2, H3, H4, H5, H6, HT0, HT1⟩, H7⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem idle_eq (a : (pcfg0 (F := F)).Adm) : (cfg0 a).idle = idle0 a.1 := rfl

/-- No point is idle for the output window, whatever admissible contents the tables have. -/
theorem out_live (a : (pcfg0 (F := F)).Adm) (i : (cfg0 a).grid.Coords) : (cfg0 a).idle 7 i = false :=
  (congrFun (congrFun (idle_eq a) 7) i).trans (never_idle a.1 i)

theorem body_obligation (hO : Ok m) (c : Dev nD) : BodyObligation (dats (F := F) m hO 0 c) (defs₀ (F := F)) Variants.none () Set.univ := fun t => by
  rw [bigSep_W0, bigSep_W0, defs₀_row m hO, out_live (adm m hO)]
  exact triple_restated (sound_body m hO c t) rfl .rfl fun _ => .rfl

/-! ## The run -/

set_option backward.isDefEq.respectTransparency.types false in
/-- The whole run, every semaphore at zero at the end. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- A buffer the host operations and the pipeline leave alone ends as launched. -/
theorem rest_unchanged {b : Ref sig .tc} (hb : b ∉ written) {x : Buf (Elt F) (((0 : Dev nD) : Thread nD τ).loc b)}
    (h : x = V m 0 b) : x = m (((0 : Dev nD) : Thread nD τ).loc b) := h.trans (V_of_not_written m 0 b hb)

/-- The run ends with the arguments unchanged, the output array at what the points leave in it, and every
    semaphore at zero. -/
theorem run_out (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v10) = (dats m hO 0 c).arrAt 7 (cfgM m hO).N)
      ∧ r.2.sem = fun _ => 0) :=
  (θ_run defs _ _).mono (fun r h => ⟨fun c => by
    obtain rfl : c = 0 := Subsingleton.elim _ _
    have hrest := (h.1 0).2
    exact ⟨rest_unchanged m (by decide) (((h.1 0).1 0).trans (((dats m hO 0 0).arrAt_in 0 rfl _).trans (A_eq m hO 0 0))),
      rest_unchanged m (by decide) (hrest main_arg1 (by decide : main_arg1 ∈ Pipeline.restRefs sig spec0)),
      rest_unchanged m (by decide) (hrest main_arg2 (by decide : main_arg2 ∈ Pipeline.restRefs sig spec0)),
      rest_unchanged m (by decide) (hrest main_arg3 (by decide : main_arg3 ∈ Pipeline.restRefs sig spec0)),
      rest_unchanged m (by decide) (hrest main_arg4 (by decide : main_arg4 ∈ Pipeline.restRefs sig spec0)),
      rest_unchanged m (by decide) (hrest main_arg5 (by decide : main_arg5 ∈ Pipeline.restRefs sig spec0)),
      rest_unchanged m (by decide) (hrest main_arg6 (by decide : main_arg6 ∈ Pipeline.restRefs sig spec0)),
      (h.1 0).1 7⟩, h.2⟩) (run_main_quiescent m ρ hO)

/-- The frame: the run ends with the arguments unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1, (h.1 c).2.1, (h.1 c).2.2.1, (h.1 c).2.2.2.1, (h.1 c).2.2.2.2.1,
    (h.1 c).2.2.2.2.2.1, (h.1 c).2.2.2.2.2.2.1⟩, h.2⟩) (run_out m ρ hO)

end Cert.ExpIdeal

end
-- ==== Proof.ExpIdealOk.lean ====
/-
  Where the tables are routed, every block the expert call names lies inside its array, at the ideal instance's
  printing of the program.
-/
module

public import proofs.«01_k».proof.Proof.ExpIdealFrame
public import proofs.«01_k».proof.Proof.ExpPre
public import Idealize.ShloMosaic.Lib.PairWhole

@[expose] public section

set_option maxRecDepth 16384

noncomputable section

namespace Cert.ExpIdeal

open Cert.Kernel2Ideal Cert.Kernel2Ideal.Gen
open Idealize.ShloMosaic Idealize.ShloMosaic.TcCoe Idealize.SL.Sem

variable {F : FTy → Type} [FloatOps F]

/-- The expert of a point's tile and the tile its rows are taken from, as the index maps compute them. -/
abbrev expertNat (pf : pre0.Contents (Elt F)) (i : grid0.Coords) : ℕ := (pf 0 (ix1 (i 0)) : BitVec 32).toNat
abbrev rowsNat (pf : pre0.Contents (Elt F)) (i : grid0.Coords) : ℕ :=
  (Scalar.minsi (BitVec.ofNat 32 (i 0).val) (Scalar.subi (pf 1 (ix1 (0 : Fin 1)) : BitVec 32) 1#32)).toNat

theorem count_at (pf : pre0.Contents (Elt F)) : pf.at 1 (Rect.unit (s := S1) ![0] S1.size inb_S1_S1_0) numel1_S1 = pf 1 (ix1 (0 : Fin 1)) := by
  refine congrArg (pf 1) (funext fun a => ?_)
  match a with
  | ⟨0, _⟩ => exact Subsingleton.elim (α := Fin 1) _ _

theorem coord_lt (i : grid0.Coords) : (i 0).val < 288 := (i 0).isLt

theorem expert_at (pf : pre0.Contents (Elt F)) (i : grid0.Coords) :
    pf.at 0 (Rect.unit (s := S288) (k0_off1 i) S1.size (k0_off1_inb i)) numel1_S1 = pf 0 (ix1 (i 0)) := by
  have hi := coord_lt i
  refine congrArg (pf 0) (funext fun a => ?_)
  match a with
  | ⟨0, _⟩ =>
    apply Fin.ext
    have hk : ∀ k : Fin 1, k.val = 0 := fun k => by omega
    refine Eq.trans (b := (BitVec.ofNat 32 (i 0).val).toNat + 1 * ((0 : Fin 1) : ℕ)) ?_ (by
      show _ + 1 * 0 = (i 0).val
      rw [BitVec.toNat_ofNat]; omega)
    exact congrArg (fun k => (BitVec.ofNat 32 (i 0).val).toNat + 1 * k) ((hk _).trans rfl)

theorem map_0 (pf : pre0.Contents (Elt F)) (i : grid0.Coords) : cc0_transform_0 inb_S1_S1_0 numel1_S1 pf i = ![rowsNat pf i, 0] := by
  unfold cc0_transform_0; rw [count_at]; rfl
theorem map_1 (pf : pre0.Contents (Elt F)) (i : grid0.Coords) : cc0_transform_1 k0_off1_inb numel1_S1 pf i = ![expertNat pf i, 0, 0] := by
  exact congrArg (fun w : BitVec 32 => (![w.toNat, 0, 0] : Fin 3 → ℕ)) (expert_at pf i)
theorem map_2 (pf : pre0.Contents (Elt F)) (i : grid0.Coords) : cc0_transform_2 k0_off1_inb numel1_S1 pf i = ![expertNat pf i, 0, 0] := map_1 pf i
theorem map_3 (pf : pre0.Contents (Elt F)) (i : grid0.Coords) : cc0_transform_3 k0_off1_inb numel1_S1 pf i = ![expertNat pf i, 0, 0] := map_1 pf i
theorem map_4 (pf : pre0.Contents (Elt F)) (i : grid0.Coords) : cc0_transform_4 k0_off1_inb numel1_S1 pf i = ![expertNat pf i, 0, 0] := map_1 pf i
theorem map_5 (pf : pre0.Contents (Elt F)) (i : grid0.Coords) : cc0_transform_5 k0_off1_inb numel1_S1 pf i = ![expertNat pf i, 0, 0] := map_1 pf i
theorem map_6 (pf : pre0.Contents (Elt F)) (i : grid0.Coords) : cc0_transform_6 k0_off1_inb numel1_S1 pf i = ![expertNat pf i, 0, 0] := map_1 pf i

/-- An expert's block of the weights lies inside them, and is whole rows. -/
theorem weights_in {e : ℕ} (h : e < 32) : ∀ a, ((![e, 0, 0] : Fin 3 → ℕ) a + 1) * S1x1024x1024.size a ≤ S32x1024x1024.size a := fun a => match a with
  | ⟨0, _⟩ => by show (e + 1) * 1 ≤ 32; omega
  | ⟨1, _⟩ => by show (0 + 1) * 1024 ≤ 1024; omega
  | ⟨2, _⟩ => by show (0 + 1) * 1024 ≤ 1024; omega

theorem weights_block {T : grid0.Coords → Fin 3 → ℕ} {i : grid0.Coords} {e : ℕ} (hT : T i = ![e, 0, 0]) (h : e < 32) :
    ∃ h : (∀ a, (T i a + 1) * S1x1024x1024.size a ≤ S32x1024x1024.size a),
      EltTy.bits .bf16 = 32 ∨ (Rect.block (s := S32x1024x1024) S1x1024x1024.size (T i) h).WholeWords (EltTy.packing .bf16) := by
  rw [hT]
  refine ⟨weights_in h, .inr (Rect.WholeRows.wholeWords ?_ _)⟩
  exact Rect.WholeRows.intro (by decide) rfl rfl rfl

theorem bias_block {T : grid0.Coords → Fin 3 → ℕ} {i : grid0.Coords} {e : ℕ} (hT : T i = ![e, 0, 0]) (h : e < 32) :
    ∃ h : (∀ a, (T i a + 1) * S1x1x1024.size a ≤ S32x1x1024.size a),
      EltTy.bits .f32 = 32 ∨ (Rect.block (s := S32x1x1024) S1x1x1024.size (T i) h).WholeWords (EltTy.packing .f32) := by
  rw [hT]
  exact ⟨fun a => match a with
    | ⟨0, _⟩ => by show (e + 1) * 1 ≤ 32; omega
    | ⟨1, _⟩ => by show (0 + 1) * 1 ≤ 1; omega
    | ⟨2, _⟩ => by show (0 + 1) * 1024 ≤ 1024; omega, .inl rfl⟩

theorem rows_block {T : grid0.Coords → Fin 2 → ℕ} {i : grid0.Coords} {r : ℕ} (hT : T i = ![r, 0]) (h : r < 288) :
    ∃ h : (∀ a, (T i a + 1) * S256x512.size a ≤ S73728x512.size a),
      EltTy.bits .i32 = 32 ∨ (Rect.block (s := S73728x512) S256x512.size (T i) h).WholeWords (EltTy.packing .i32) := by
  rw [hT]
  exact ⟨fun a => match a with
    | ⟨0, _⟩ => by show (r + 1) * 256 ≤ 73728; omega
    | ⟨1, _⟩ => by show (0 + 1) * 512 ≤ 512; omega, .inl rfl⟩

/-- The tables' words being experts and the count at least one, every block lies inside its array. -/
theorem ok_of_words (pf : pre0.Contents (Elt F)) (h0 : ∀ n : Fin 288, (pf 0 (ix1 n) : BitVec 32).toNat < 32)
    (h1 : 1 ≤ (pf 1 (ix1 (0 : Fin 1)) : BitVec 32).toInt) : ok0 pf :=
  ⟨fun i => rows_block (map_0 pf i) (Cert.Routed.tile_lt (i 0) h1), fun i => weights_block (map_1 pf i) (h0 _), fun i => weights_block (map_2 pf i) (h0 _),
    fun i => bias_block (map_3 pf i) (h0 _), fun i => bias_block (map_4 pf i) (h0 _), fun i => weights_block (map_5 pf i) (h0 _),
    fun i => bias_block (map_6 pf i) (h0 _)⟩

variable (m : (ℓ : Loc nD τ sig) → Buf (Elt F) ℓ)

/-- The tables are read as launched. -/
theorem tbl_0 (c : Dev nD) : tbl m 0 = m ((c : Thread nD τ).loc main_arg1) :=
  (V_pre m c 0).symm.trans (V_of_not_written m c main_arg1 (by decide))
theorem tbl_1 (c : Dev nD) : tbl m 1 = m ((c : Thread nD τ).loc main_arg2) :=
  (V_pre m c 1).symm.trans (V_of_not_written m c main_arg2 (by decide))

/-- The tables' words as launched. -/
abbrev expertWord (c : Dev nD) (n : Fin 288) : BitVec 32 := (m ((c : Thread nD τ).loc main_arg1) : IVec S288 32) (ix1 n)
abbrev usedWord (c : Dev nD) : BitVec 32 := (m ((c : Thread nD τ).loc main_arg2) : IVec S1 32) (ix1 (0 : Fin 1))

theorem ok_of_routed (c : Dev nD) (h0 : ∀ n, (expertWord m c n).toNat < 32) (h1 : 1 ≤ (usedWord m c).toInt) : Ok m :=
  ok_of_words _ (fun n => by rw [tbl_0 m c]; exact h0 n) (by rw [tbl_1 m c]; exact h1)

end Cert.ExpIdeal

end
-- ==== Proof.ExpMath.lean ====
/-
  The experts' formula over the extended reals, for a row and a column, and the facts of arithmetic it needs.

  A row's features are pairs of bf16 numbers packed in words: the first 512 features are the words' low halves and
  the next 512 the high halves.  Unpacking one by shifting the word left, or by masking it, gives the same number
  as reading the half's own 16 bits (`low_half`, `high_half`).  A sum over the experts gated by a row of zeros and
  a single one is the chosen expert's term (`gated_sum`), whatever the other terms are.
-/
module

public import Idealize.ShloMosaic.PureOps.Ideal.Laws
public import Idealize.ShloMosaic.Lib.IdealHost
public import Idealize.ShloMosaic.Lib.Pipeline.ValueKit
public import Idealize.ShloMosaic.Lib.ValueIdx

@[expose] public section

set_option maxRecDepth 16384

noncomputable section

namespace Cert.Routed

open Idealize.ShloMosaic

/-! ## Halves of words -/

/-- The number a word's half denotes: the low half at 0, the high half at 1. -/
def half (w : BitVec 32) (b : ℕ) : EReal := Ideal.ofBits .bf16 (w.extractLsb' (b * 16) 16)

/-- A word that is sixteen bits followed by sixteen zeros denotes, as an f32, what the bits denote as a bf16. -/
theorem widen (v : BitVec 16) (w : BitVec 32) (h : w.toNat = v.toNat * 65536) : Ideal.ofBits .f32 w = Ideal.ofBits .bf16 v := by
  have hv := v.isLt
  have e1 : w.extractLsb' 31 1 = v.extractLsb' 15 1 := by
    apply BitVec.eq_of_toNat_eq
    simp only [BitVec.extractLsb'_toNat, Nat.shiftRight_eq_div_pow, h]; omega
  have e2 : (w.extractLsb' 23 8).toNat = (v.extractLsb' 7 8).toNat := by
    simp only [BitVec.extractLsb'_toNat, Nat.shiftRight_eq_div_pow, h]; omega
  have e3 : (w.extractLsb' 0 23).toNat = (v.extractLsb' 0 7).toNat * 65536 := by
    simp only [BitVec.extractLsb'_toNat, Nat.shiftRight_eq_div_pow, h]; omega
  show Ideal.ieee 8 23 w = Ideal.ieee 8 7 v
  unfold Ideal.ieee
  simp only [show 8 + 23 = 31 from rfl, show 8 + 7 = 15 from rfl, e1, e2, e3]
  generalize (v.extractLsb' 7 8).toNat = ex
  generalize (v.extractLsb' 0 7).toNat = fr
  generalize (if (v.extractLsb' 15 1 == 1#1) = true then (-1 : ℝ) else 1) = s
  have hz : ∀ n : ℤ, (2 : ℝ) ^ (n - (7 : ℕ) : ℤ) = 65536 * (2 : ℝ) ^ (n - (23 : ℕ) : ℤ) := by
    intro n
    rw [show (n - (7 : ℕ) : ℤ) = 16 + (n - (23 : ℕ)) by push_cast; ring, zpow_add₀ (by norm_num)]
    norm_num
  split
  · by_cases hf : fr = 0
    · simp [hf]
    · rw [if_neg hf, if_neg (by omega)]
  · split
    · rw [hz]; congr 1; push_cast; ring
    · rw [hz]; congr 1; push_cast; ring

/-- Shifting a word left by sixteen bits leaves the low half's number. -/
theorem low_half (w : BitVec 32) : Ideal.ofBits .f32 (w <<< 16) = half w 0 := by
  refine widen _ _ ?_
  have := w.isLt
  rw [BitVec.toNat_shiftLeft, BitVec.extractLsb'_toNat, Nat.shiftLeft_eq, Nat.shiftRight_eq_div_pow]
  omega

theorem and_high (x : ℕ) (h : x < 2 ^ 32) : x &&& 4294901760 = x / 65536 * 65536 := by
  apply Nat.eq_of_testBit_eq
  intro i
  rw [show 4294901760 = (2 ^ 16 - 1) * 2 ^ 16 from rfl, show x / 65536 * 65536 = x / 2 ^ 16 * 2 ^ 16 from rfl,
    Nat.testBit_and, Nat.testBit_mul_two_pow, Nat.testBit_mul_two_pow, Nat.testBit_two_pow_sub_one, Nat.testBit_div_two_pow]
  by_cases hi : 16 ≤ i
  · have e : i - 16 + 16 = i := by omega
    by_cases h2 : i < 32
    · simp [hi, e, show i - 16 < 16 by omega]
    · have : x.testBit i = false := Nat.testBit_lt_two_pow (lt_of_lt_of_le h (Nat.pow_le_pow_right (by norm_num) (by omega)))
      simp [hi, e, this]
  · simp [hi]

/-- Masking a word's low half leaves the high half's number. -/
theorem high_half (w : BitVec 32) : Ideal.ofBits .f32 (w &&& 4294901760#32) = half w 1 := by
  refine widen _ _ ?_
  have := w.isLt
  rw [BitVec.toNat_and, show (4294901760#32).toNat = 4294901760 from rfl, and_high _ w.isLt, BitVec.extractLsb'_toNat, Nat.shiftRight_eq_div_pow]
  omega

/-! ## The formula -/

abbrev Rows : Type := IVec (⟨2, ![73728, 512]⟩ : Shape) 32
abbrev W1 : Type := FVec Ideal (⟨3, ![32, 1024, 2048]⟩ : Shape) .f32
abbrev B1 : Type := FVec Ideal (⟨2, ![32, 2048]⟩ : Shape) .f32
abbrev W2 : Type := FVec Ideal (⟨3, ![32, 1024, 1024]⟩ : Shape) .f32
abbrev B2 : Type := FVec Ideal (⟨2, ![32, 1024]⟩ : Shape) .f32

/-- Row `n`'s feature `k`. -/
def feature (x : Rows) (n : Fin 73728) (k : Fin 1024) : EReal :=
  half (x (ix2 n (⟨k.val % 512, Nat.mod_lt _ (by norm_num)⟩ : Fin 512))) (k.val / 512)

/-- The first layer at column `f`. -/
def layer (x : Rows) (w1 : W1) (b1 : B1) (e : Fin 32) (n : Fin 73728) (f : Fin 2048) : EReal :=
  (∑ k : Fin 1024, feature x n k * w1 (ix3 e k f)) + b1 (ix2 e f)

/-- The even and odd columns of a pair. -/
abbrev even (f : Fin 1024) : Fin 2048 := ⟨2 * f.val, by omega⟩
abbrev odd (f : Fin 1024) : Fin 2048 := ⟨1 + 2 * f.val, by omega⟩

/-- The gated unit over a pair of columns. -/
def gate (a b : EReal) : EReal :=
  let g := min a (Ideal.ofBits .f32 0x40E00000#32)
  let l := min (Ideal.ofBits .f32 0x40E00000#32) (max (Ideal.ofBits .f32 0xC0E00000#32) b)
  g * Ideal.div (Ideal.ofBits .f32 0x3F800000#32)
      (Ideal.ofBits .f32 0x3F800000#32 + Ideal.exp (-(Ideal.ofBits .f32 0x3FD9DB23#32 * g)))
    * (l + Ideal.ofBits .f32 0x3F800000#32)

/-- An expert's output for a row. -/
def expert (x : Rows) (w1 : W1) (b1 : B1) (w2 : W2) (b2 : B2) (e : Fin 32) (n : Fin 73728) (d : Fin 1024) : EReal :=
  (∑ f : Fin 1024, gate (layer x w1 b1 e n (even f)) (layer x w1 b1 e n (odd f)) * w2 (ix3 e f d)) + b2 (ix2 e d)

/-- The tile a row is in. -/
abbrev tileOf (n : Fin 73728) : Fin 288 := ⟨n.val / 256, by omega⟩

/-- The result: the output of the row's tile's expert where the tile is in use, zero elsewhere. -/
def result (x : Rows) (experts : IVec (⟨1, ![288]⟩ : Shape) 32) (used : IVec (⟨1, ![1]⟩ : Shape) 32) (w1 : W1) (b1 : B1) (w2 : W2) (b2 : B2)
    (hexp : ∀ t, (experts (ix1 t)).toNat < 32) (n : Fin 73728) (d : Fin 1024) : EReal :=
  if (BitVec.ofNat 32 (n.val / 256)).slt (used (ix1 (0 : Fin 1))) = true then expert x w1 b1 w2 b2 ⟨_, hexp (tileOf n)⟩ n d else 0

/-! ## One expert of many -/

/-- A sum gated by the product of a row with a single one and a bit is the chosen term, or zero. -/
theorem gated_sum (f : Fin 32 → EReal) (w : BitVec 32) (hw : w.toNat < 32) (b : BitVec 1) :
    (∑ k : Fin 32, (((((IntOp.cmpi .eq w (BitVec.ofNat 32 k.val)).toNat : ℝ) : EReal) * (((b.toNat : ℝ) : EReal))) * f k))
      = if b = 1#1 then f ⟨w.toNat, hw⟩ else 0 := by
  have hb : b = 1#1 ∨ b = 0#1 := by revert b; decide
  rcases hb with rfl | rfl
  · rw [if_pos rfl, Finset.sum_eq_single (⟨w.toNat, hw⟩ : Fin 32)]
    · have : IntOp.cmpi .eq w w = 1#1 := by show BitVec.ofBool (w == w) = 1#1; simp
      simp [this]
    · intro k _ hk
      have : IntOp.cmpi .eq w (BitVec.ofNat 32 k.val) = 0#1 := by
        have hne : w ≠ BitVec.ofNat 32 k.val := by
          intro h
          apply hk
          apply Fin.ext
          have := congrArg BitVec.toNat h
          rw [BitVec.toNat_ofNat] at this
          have hk := k.isLt
          show k.val = w.toNat
          omega
        show BitVec.ofBool (w == BitVec.ofNat 32 k.val) = 0#1
        rw [beq_eq_false_iff_ne.mpr hne]; rfl
      simp [this]
    · intro h; exact absurd (Finset.mem_univ _) h
  · rw [if_neg (by decide)]
    exact Finset.sum_eq_zero fun k _ => by simp

end Cert.Routed

end
-- ==== Proof.ExpHost.lean ====
/-
  What the expert call finds in its arrays: the words of the features as they came, and the weights and biases split
  into their even and odd columns by the operations before it, read entry by entry at the ideal instance.
-/
module

public import proofs.«01_k».proof.Proof.ExpIdealFrame
public import proofs.«01_k».proof.Proof.ExpMath
public import Idealize.ShloMosaic.Lib.StableHlo.Run
public import Idealize.ShloMosaic.Lib.Pointwise

@[expose] public section

set_option maxRecDepth 16384

noncomputable section

namespace Cert.ExpIdeal

open Cert.Kernel2Ideal Cert.Kernel2Ideal.Gen Cert.Routed
open Idealize.ShloMosaic Idealize.ShloMosaic.TcCoe Idealize.ShloMosaic.StableHlo Idealize.SL.Sem

/-! ## Over any contents before the operations -/

section Ops

variable (V0 : Valuation τ sig (Elt Ideal))

set_option maxHeartbeats 2000000 in
theorem op_v1 : StableHlo.after hostOps0 V0 (Proc.devRef .tc main_v1)
    = (Host.slice S32x1024x1024 ![0, 0, 0] ![1, 1, 2] (V0 (Proc.devRef .tc main_arg3)) slicesBy_S32x1024x2048_S32x1024x1024_0s1_0s1_0s2 : FVec Ideal S32x1024x1024 .f32) := by
  simp only [hostOps0]
  after_results_simp
  rfl

set_option maxHeartbeats 2000000 in
theorem op_v3 : StableHlo.after hostOps0 V0 (Proc.devRef .tc main_v3)
    = (Host.slice S32x1024x1024 ![0, 0, 1] ![1, 1, 2] (V0 (Proc.devRef .tc main_arg3)) slicesBy_S32x1024x2048_S32x1024x1024_0s1_0s1_1s2 : FVec Ideal S32x1024x1024 .f32) := by
  simp only [hostOps0]
  after_results_simp
  rfl

set_option maxHeartbeats 2000000 in
theorem op_v5 : StableHlo.after hostOps0 V0 (Proc.devRef .tc main_v5)
    = (shapeCast S32x1x1024 (Host.slice S32x1024 ![0, 0] ![1, 2] (V0 (Proc.devRef .tc main_arg4)) slicesBy_S32x2048_S32x1024_0s1_0s2 : FVec Ideal S32x1024 .f32)
      shapeCasts_S32x1024_S32x1x1024 : FVec Ideal S32x1x1024 .f32) := by
  simp only [hostOps0]
  after_results_simp
  rfl

set_option maxHeartbeats 2000000 in
theorem op_v7 : StableHlo.after hostOps0 V0 (Proc.devRef .tc main_v7)
    = (shapeCast S32x1x1024 (Host.slice S32x1024 ![0, 1] ![1, 2] (V0 (Proc.devRef .tc main_arg4)) slicesBy_S32x2048_S32x1024_0s1_1s2 : FVec Ideal S32x1024 .f32)
      shapeCasts_S32x1024_S32x1x1024 : FVec Ideal S32x1x1024 .f32) := by
  simp only [hostOps0]
  after_results_simp
  rfl

set_option maxHeartbeats 2000000 in
theorem op_v8 : StableHlo.after hostOps0 V0 (Proc.devRef .tc main_v8)
    = ((V0 (Proc.devRef .tc main_arg5) : FVec Ideal S32x1024x1024 .f32)) := by
  simp only [hostOps0]
  after_results_simp
  rfl

set_option maxHeartbeats 2000000 in
theorem op_v9 : StableHlo.after hostOps0 V0 (Proc.devRef .tc main_v9)
    = (shapeCast S32x1x1024 (V0 (Proc.devRef .tc main_arg6) : FVec Ideal S32x1024 .f32) shapeCasts_S32x1024_S32x1x1024 : FVec Ideal S32x1x1024 .f32) := by
  simp only [hostOps0]
  after_results_simp
  rfl

end Ops

/-! ## Entry by entry -/

/-- An array of one row for each expert. -/
theorem row_of (b : FVec Ideal S32x1024 .f32) (e : Fin 32) (f : Fin 1024) :
    (shapeCast S32x1x1024 b shapeCasts_S32x1024_S32x1x1024 : FVec Ideal S32x1x1024 .f32) (ix3 e (0 : Fin 1) f) = b (ix2 e f) :=
  shapeCast_apply b shapeCasts_S32x1024_S32x1x1024 (ix3 e (0 : Fin 1) f) (ix2 e f) (by
    rewrite [Shape.rowMajor_val_three, Shape.rowMajor_val_two]
    show e.val * 1024 + f.val = (e.val * 1 + 0) * 1024 + f.val
    omega)

theorem even_weights (w : FVec Ideal S32x1024x2048 .f32) (e : Fin 32) (k f : Fin 1024) :
    Host.slice S32x1024x1024 ![0, 0, 0] ![1, 1, 2] w slicesBy_S32x1024x2048_S32x1024x1024_0s1_0s1_0s2 (ix3 e k f) = w (ix3 e k (even f)) := by
  rw [Host.slice_apply]
  exact congrArg w (funext fun a => Fin.ext (match a with
    | ⟨0, _⟩ => by show 0 + 1 * e.val = e.val; omega
    | ⟨1, _⟩ => by show 0 + 1 * k.val = k.val; omega
    | ⟨2, _⟩ => by show 0 + 2 * f.val = 2 * f.val; omega))

theorem odd_weights (w : FVec Ideal S32x1024x2048 .f32) (e : Fin 32) (k f : Fin 1024) :
    Host.slice S32x1024x1024 ![0, 0, 1] ![1, 1, 2] w slicesBy_S32x1024x2048_S32x1024x1024_0s1_0s1_1s2 (ix3 e k f) = w (ix3 e k (odd f)) := by
  rw [Host.slice_apply]
  exact congrArg w (funext fun a => Fin.ext (match a with
    | ⟨0, _⟩ => by show 0 + 1 * e.val = e.val; omega
    | ⟨1, _⟩ => by show 0 + 1 * k.val = k.val; omega
    | ⟨2, _⟩ => by show 1 + 2 * f.val = 1 + 2 * f.val; omega))

theorem even_biases (b : FVec Ideal S32x2048 .f32) (e : Fin 32) (f : Fin 1024) :
    Host.slice S32x1024 ![0, 0] ![1, 2] b slicesBy_S32x2048_S32x1024_0s1_0s2 (ix2 e f) = b (ix2 e (even f)) := by
  rw [Host.slice_apply]
  exact congrArg b (funext fun a => Fin.ext (match a with
    | ⟨0, _⟩ => by show 0 + 1 * e.val = e.val; omega
    | ⟨1, _⟩ => by show 0 + 2 * f.val = 2 * f.val; omega))

theorem odd_biases (b : FVec Ideal S32x2048 .f32) (e : Fin 32) (f : Fin 1024) :
    Host.slice S32x1024 ![0, 1] ![1, 2] b slicesBy_S32x2048_S32x1024_0s1_1s2 (ix2 e f) = b (ix2 e (odd f)) := by
  rw [Host.slice_apply]
  exact congrArg b (funext fun a => Fin.ext (match a with
    | ⟨0, _⟩ => by show 0 + 1 * e.val = e.val; omega
    | ⟨1, _⟩ => by show 1 + 2 * f.val = 1 + 2 * f.val; omega))

/-! ## The call's arrays -/

variable (m : (ℓ : Loc nD τ sig) → Buf (Elt Ideal) ℓ) (c : Dev nD)

theorem in_rows : V m c main_arg0 = m ((c : Thread nD τ).loc main_arg0) := V_of_not_written m c main_arg0 (by decide)

theorem in_gate (e : Fin 32) (k f : Fin 1024) : (V m c main_v1 : FVec Ideal S32x1024x1024 .bf16) (ix3 e k f)
    = (m ((c : Thread nD τ).loc main_arg3) : W1) (ix3 e k (even f)) :=
  (congrFun (op_v1 _) (ix3 e k f)).trans (even_weights _ e k f)

theorem in_linear (e : Fin 32) (k f : Fin 1024) : (V m c main_v3 : FVec Ideal S32x1024x1024 .bf16) (ix3 e k f)
    = (m ((c : Thread nD τ).loc main_arg3) : W1) (ix3 e k (odd f)) :=
  (congrFun (op_v3 _) (ix3 e k f)).trans (odd_weights _ e k f)

theorem in_gate_bias (e : Fin 32) (f : Fin 1024) : (V m c main_v5 : FVec Ideal S32x1x1024 .f32) (ix3 e (0 : Fin 1) f)
    = (m ((c : Thread nD τ).loc main_arg4) : B1) (ix2 e (even f)) :=
  (congrFun (op_v5 _) (ix3 e (0 : Fin 1) f)).trans ((row_of _ e f).trans (even_biases _ e f))

theorem in_linear_bias (e : Fin 32) (f : Fin 1024) : (V m c main_v7 : FVec Ideal S32x1x1024 .f32) (ix3 e (0 : Fin 1) f)
    = (m ((c : Thread nD τ).loc main_arg4) : B1) (ix2 e (odd f)) :=
  (congrFun (op_v7 _) (ix3 e (0 : Fin 1) f)).trans ((row_of _ e f).trans (odd_biases _ e f))

theorem in_second (e : Fin 32) (f d : Fin 1024) : (V m c main_v8 : FVec Ideal S32x1024x1024 .bf16) (ix3 e f d)
    = (m ((c : Thread nD τ).loc main_arg5) : W2) (ix3 e f d) :=
  congrFun (op_v8 _) (ix3 e f d)

theorem in_second_bias (e : Fin 32) (d : Fin 1024) : (V m c main_v9 : FVec Ideal S32x1x1024 .f32) (ix3 e (0 : Fin 1) d)
    = (m ((c : Thread nD τ).loc main_arg6) : B2) (ix2 e d) :=
  (congrFun (op_v9 _) (ix3 e (0 : Fin 1) d)).trans (row_of _ e d)

end Cert.ExpIdeal

end
-- ==== Proof.ExpPoint.lean ====
/-
  What the expert call's body computes from its blocks, at the ideal instance, entry by entry: the two products,
  the gated unit between them, over the features unpacked from the block of rows.
-/
module

public import proofs.«01_k».proof.Proof.ExpIdealRun
public import proofs.«01_k».proof.Proof.ExpMath
public import Idealize.ShloMosaic.Lib.MatmulPlain
public import Idealize.ShloMosaic.Lib.Pointwise

@[expose] public section

set_option maxRecDepth 16384

noncomputable section

namespace Cert.ExpIdeal

open Cert.Kernel2Ideal Cert.Kernel2Ideal.Gen Cert.Routed
open Idealize.ShloMosaic Idealize.SL.Sem

variable (x0 : IVec S256x512 32) (x1 x2 : FVec Ideal S1x1024x1024 .bf16) (x3 x4 : FVec Ideal S1x1x1024 .f32)
  (x5 : FVec Ideal S1x1024x1024 .bf16) (x6 : FVec Ideal S1x1x1024 .f32)

/-- Feature `k` of a block's row `r`. -/
def blockFeature (r : Fin 256) (k : Fin 1024) : EReal :=
  Cert.Routed.half (x0 (ix2 r (⟨k.val % 512, Nat.mod_lt _ (by norm_num)⟩ : Fin 512))) (k.val / 512)

/-- A layer's column `f` on a block's row `r`. -/
def blockLayer (w : FVec Ideal S1x1024x1024 .bf16) (b : FVec Ideal S1x1x1024 .f32) (r : Fin 256) (f : Fin 1024) : EReal :=
  (∑ k : Fin 1024, blockFeature x0 r k * w (ix3 (0 : Fin 1) k f)) + b (ix3 (0 : Fin 1) (0 : Fin 1) f)

/-- The unpacked features. -/
theorem unpack_apply (r : Fin 256) (k : Fin 1024) : k0_pay3 (F := Ideal) x0 (ix2 r k) = blockFeature x0 r k := by
  have hk := k.isLt
  unfold k0_pay3 blockFeature
  by_cases h : k.val < 512
  · refine (concatenate_pair_apply_left _ _ _ concatenates_S256x512_S256x512_S256x1024_d1 (ix2 r k) rfl (ix2 r (⟨k.val, h⟩ : Fin 512))
      (fun b => match b with
        | ⟨0, _⟩ => rfl
        | ⟨1, _⟩ => rfl)).trans ?_
    have e : (⟨k.val % 512, Nat.mod_lt _ (by norm_num)⟩ : Fin 512) = ⟨k.val, h⟩ := Fin.ext (Nat.mod_eq_of_lt h)
    rw [e, show k.val / 512 = 0 by omega]
    exact low_half _
  · have h2 : k.val - 512 < 512 := by omega
    refine (concatenate_pair_apply_right _ _ _ concatenates_S256x512_S256x512_S256x1024_d1 (ix2 r k) rfl rfl (ix2 r (⟨k.val - 512, h2⟩ : Fin 512))
      (fun b hb => match b with
        | ⟨0, _⟩ => rfl
        | ⟨1, _⟩ => absurd rfl hb) ?_).trans ?_
    · show k.val - 512 + 512 = k.val
      omega
    have e : (⟨k.val % 512, Nat.mod_lt _ (by norm_num)⟩ : Fin 512) = ⟨k.val - 512, h2⟩ := Fin.ext (by show k.val % 512 = k.val - 512; omega)
    rw [e, show k.val / 512 = 1 by omega]
    exact high_half _

theorem dims_plain : dot_S256x1024_S1024x1024_S256x1024_1_0_0_1_n_n = DotDims.plain 256 1024 1024 := rfl

/-- A product into zeros, over a block of weights, with the block of biases added. -/
theorem product_apply (l : FVec Ideal S256x1024 .bf16) (w : FVec Ideal S1x1024x1024 .bf16) (b : FVec Ideal S1x1x1024 .f32) (r : Fin 256) (f : Fin 1024) :
    addf (matmul dot_S256x1024_S1024x1024_S256x1024_1_0_0_1_n_n none l (shapeCast (α := Ideal .bf16) S1024x1024 w shapeCasts_S1x1024x1024_S1024x1024)
        (constant S256x1024 .f32 0x00000000#32))
      (broadcastTo S256x1024 (shapeCast (α := Ideal .f32) S1x1024 b shapeCasts_S1x1x1024_S1x1024) broadcasts_S1x1024_S256x1024) (ix2 r f)
      = ((∑ k : Fin 1024, l (ix2 r k) * w (ix3 (0 : Fin 1) k f))
        + b (ix3 (0 : Fin 1) (0 : Fin 1) f) : EReal) := by
  have eb : broadcastTo S256x1024 (shapeCast (α := Ideal .f32) S1x1024 b shapeCasts_S1x1x1024_S1x1024) broadcasts_S1x1024_S256x1024 (ix2 r f)
      = b (ix3 (0 : Fin 1) (0 : Fin 1) f) := by
    refine (broadcastTo_apply _ broadcasts_S1x1024_S256x1024 (ix2 r f) (ix2 (0 : Fin 1) f) (fun a => match a with
      | ⟨0, _⟩ => rfl
      | ⟨1, _⟩ => rfl)).trans ?_
    exact shapeCast_apply _ shapeCasts_S1x1x1024_S1x1024 (ix2 (0 : Fin 1) f) (ix3 (0 : Fin 1) (0 : Fin 1) f) (by
      rewrite [Shape.rowMajor_val_three, Shape.rowMajor_val_two]; rfl)
  have ew : ∀ k : Fin 1024, shapeCast (α := Ideal .bf16) S1024x1024 w shapeCasts_S1x1024x1024_S1024x1024 (ix2 k f)
      = w (ix3 (0 : Fin 1) k f) := fun k =>
    shapeCast_apply _ shapeCasts_S1x1024x1024_S1024x1024 (ix2 k f) (ix3 (0 : Fin 1) k f) (by
      rewrite [Shape.rowMajor_val_three, Shape.rowMajor_val_two]
      show (0 * 1024 + k.val) * 1024 + f.val = k.val * 1024 + f.val
      omega)
  have em : matmul dot_S256x1024_S1024x1024_S256x1024_1_0_0_1_n_n none l (shapeCast (α := Ideal .bf16) S1024x1024 w shapeCasts_S1x1024x1024_S1024x1024)
        (constant S256x1024 .f32 0x00000000#32) (ix2 r f)
      = (0 + ∑ k : Fin 1024, l (ix2 r k) * shapeCast (α := Ideal .bf16) S1024x1024 w shapeCasts_S1x1024x1024_S1024x1024 (ix2 k f) : EReal) := by
    refine (Ideal.matmul_plain_apply (M := 256) (K := 1024) (N := 1024) none l
    (shapeCast (α := Ideal .bf16) S1024x1024 w shapeCasts_S1x1024x1024_S1024x1024) (constant S256x1024 .f32 0x00000000#32) r f).trans ?_
    refine congrArg (fun z : EReal => z + _) ?_
    show Ideal.ofBits .f32 0x00000000#32 = 0
    simp [Ideal.ofBits, Ideal.ieee]
  refine (congrArg₂ (fun a b : EReal => a + b) em eb).trans ?_
  rw [zero_add]
  exact congrArg (· + _) (Finset.sum_congr rfl fun k _ => congrArg _ (ew k))

theorem layer_apply (w : FVec Ideal S1x1024x1024 .bf16) (b : FVec Ideal S1x1x1024 .f32) (r : Fin 256) (f : Fin 1024) :
    addf (matmul dot_S256x1024_S1024x1024_S256x1024_1_0_0_1_n_n none (k0_pay3 (F := Ideal) x0) (shapeCast (α := Ideal .bf16) S1024x1024 w shapeCasts_S1x1024x1024_S1024x1024)
        (constant S256x1024 .f32 0x00000000#32))
      (broadcastTo S256x1024 (shapeCast (α := Ideal .f32) S1x1024 b shapeCasts_S1x1x1024_S1x1024) broadcasts_S1x1024_S256x1024) (ix2 r f)
      = blockLayer x0 w b r f := by
  rw [product_apply]
  exact congrArg (· + _) (Finset.sum_congr rfl fun k _ => congrArg (· * _) (unpack_apply x0 r k))

/-- The body's tile at row `r` and column `d`. -/
theorem tile_apply (r : Fin 256) (d : Fin 1024) : expertTile (F := Ideal) x0 x1 x2 x3 x4 x5 x6 (ix2 r d)
    = (∑ f : Fin 1024, gate (blockLayer x0 x1 x3 r f) (blockLayer x0 x2 x4 r f) * x5 (ix3 (0 : Fin 1) f d))
      + x6 (ix3 (0 : Fin 1) (0 : Fin 1) d) := by
  unfold expertTile
  refine (product_apply _ x5 x6 r d).trans ?_
  refine congrArg (· + _) (Finset.sum_congr rfl fun f _ => congrArg (· * _) ?_)
  have h4 : k0_pay4 (F := Ideal) x0 x1 x3 (ix2 r f) = min (blockLayer x0 x1 x3 r f) (Ideal.ofBits .f32 0x40E00000#32) :=
    congrArg (min · (Ideal.ofBits .f32 0x40E00000#32)) (layer_apply x0 x1 x3 r f)
  have h5 : k0_pay5 (F := Ideal) x0 x2 x4 (ix2 r f)
      = min (Ideal.ofBits .f32 0x40E00000#32) (max (Ideal.ofBits .f32 0xC0E00000#32) (blockLayer x0 x2 x4 r f)) :=
    congrArg (fun z => min (Ideal.ofBits .f32 0x40E00000#32) (max (Ideal.ofBits .f32 0xC0E00000#32) z)) (layer_apply x0 x2 x4 r f)
  have h6 : k0_pay6 (F := Ideal) x0 x1 x3 (ix2 r f)
      = Ideal.exp (-(Ideal.ofBits .f32 0x3FD9DB23#32 * min (blockLayer x0 x1 x3 r f) (Ideal.ofBits .f32 0x40E00000#32))) := by
    rw [← h4]
    show Ideal.exp (Ideal.ofBits .f32 0x00000000#32 - Ideal.ofBits .f32 0x3FD9DB23#32 * k0_pay4 (F := Ideal) x0 x1 x3 (ix2 r f)) = _
    rw [show Ideal.ofBits .f32 0x00000000#32 = 0 by simp [Ideal.ofBits, Ideal.ieee], zero_sub]
  show k0_pay4 (F := Ideal) x0 x1 x3 (ix2 r f)
      * Ideal.div (Ideal.ofBits .f32 0x3F800000#32) (Ideal.ofBits .f32 0x3F800000#32 + k0_pay6 (F := Ideal) x0 x1 x3 (ix2 r f))
      * (k0_pay5 (F := Ideal) x0 x2 x4 (ix2 r f) + Ideal.ofBits .f32 0x3F800000#32) = _
  rw [h4, h5, h6]
  rfl

end Cert.ExpIdeal

end
-- ==== Proof.ExpOut.lean ====
/-
  The expert call's output array at the ideal instance: every tile in use holds its expert's output for its rows and
  every other tile zeros, read off the blocks the points take and the tile each of them leaves.
-/
module

public import proofs.«01_k».proof.Proof.ExpIdealOk
public import proofs.«01_k».proof.Proof.ExpHost
public import proofs.«01_k».proof.Proof.ExpPoint
public import Idealize.ShloMosaic.Lib.Pipeline.ValueKit

@[expose] public section

set_option maxRecDepth 16384

noncomputable section

namespace Cert.ExpIdeal

open Cert.Kernel2Ideal Cert.Kernel2Ideal.Gen Cert.Routed
open Idealize.ShloMosaic Idealize.ShloMosaic.TcCoe Idealize.SL.Sem
open Idealize.ShloMosaic.Pipeline (Dat Cfg Window)

variable (m : (ℓ : Loc nD τ sig) → Buf (Elt Ideal) ℓ) (hO : Ok m) (c : Dev nD)

/-! ## The windows' blocks -/

theorem coords_val (t : Fin grid0.N) : (grid0.coords t 0).val = t.val := (by decide +kernel : ∀ t : Fin grid0.N, (grid0.coords t 0).val = t.val) t

section Blocks

variable (a : (pcfg0 (F := Ideal)).Adm)

theorem index_0 (t : Fin (cfg0 a).N) : ((cfg0 a).win 0).index t = ![rowsNat a.1 (grid0.coords t), 0] := map_0 _ _
theorem index_1 (t : Fin (cfg0 a).N) : ((cfg0 a).win 1).index t = ![expertNat a.1 (grid0.coords t), 0, 0] := map_1 _ _
theorem index_2 (t : Fin (cfg0 a).N) : ((cfg0 a).win 2).index t = ![expertNat a.1 (grid0.coords t), 0, 0] := map_2 _ _
theorem index_3 (t : Fin (cfg0 a).N) : ((cfg0 a).win 3).index t = ![expertNat a.1 (grid0.coords t), 0, 0] := map_3 _ _
theorem index_4 (t : Fin (cfg0 a).N) : ((cfg0 a).win 4).index t = ![expertNat a.1 (grid0.coords t), 0, 0] := map_4 _ _
theorem index_5 (t : Fin (cfg0 a).N) : ((cfg0 a).win 5).index t = ![expertNat a.1 (grid0.coords t), 0, 0] := map_5 _ _
theorem index_6 (t : Fin (cfg0 a).N) : ((cfg0 a).win 6).index t = ![expertNat a.1 (grid0.coords t), 0, 0] := map_6 _ _

theorem block_0 (A : IVec S73728x512 32) (t : Fin (cfg0 a).N) (r : Fin 256) (k : Fin 512) (n : Fin 73728) (hn : n.val = rowsNat a.1 (grid0.coords t) * 256 + r.val) :
    (((cfg0 a).win 0).blk t).view.read (Elt Ideal) A (ix2 r k) = A (ix2 n k) := by
  have h0 := Window.rect_emb_val ((cfg0 a).win 0) t (ix2 r k) (0 : Fin 2) rfl
  have h1 := Window.rect_emb_val ((cfg0 a).win 0) t (ix2 r k) (1 : Fin 2) rfl
  rw [index_0] at h0 h1
  have e0 := h0.trans hn.symm
  have e1 := h1.trans (show 0 * 512 + k.val = k.val by omega)
  have key : ∀ i : S73728x512.Idx, (i 0).val = n.val → (i 1).val = k.val → i = ix2 n k := fun i hi hk => funext fun b => Fin.ext (match b with
    | ⟨0, _⟩ => hi
    | ⟨1, _⟩ => hk)
  exact congrArg A (key _ e0 e1)

theorem index_7 (t : Fin (cfg0 a).N) : ((cfg0 a).win 7).index t = ![t.val, 0] := by
  have h : cc0_transform_7 (grid0.coords t) = ![(BitVec.ofNat 32 (grid0.coords t 0).val).toNat, 0] := rfl
  refine h.trans ?_
  have ht : t.val < 288 := t.isLt
  rw [coords_val, BitVec.toNat_ofNat, Nat.mod_eq_of_lt (by omega)]

/-- Where the output's block lies. -/
theorem block_7 (t : Fin (cfg0 a).N) (r : Fin 256) (d : Fin 1024) (n : Fin 73728) (hn : n.val = t.val * 256 + r.val) :
    (((cfg0 a).win 7).blk t).view.emb (ix2 r d) = (ix2 n d : S73728x1024.Idx) := by
  have h0 := Window.rect_emb_val ((cfg0 a).win 7) t (ix2 r d) (0 : Fin 2) rfl
  have h1 := Window.rect_emb_val ((cfg0 a).win 7) t (ix2 r d) (1 : Fin 2) rfl
  rw [index_7] at h0 h1
  have e0 := h0.trans hn.symm
  have e1 := h1.trans (show 0 * 1024 + d.val = d.val by omega)
  have key : ∀ i : S73728x1024.Idx, (i 0).val = n.val → (i 1).val = d.val → i = ix2 n d := fun i hi hk => funext fun b => Fin.ext (match b with
    | ⟨0, _⟩ => hi
    | ⟨1, _⟩ => hk)
  exact key _ e0 e1

/-- The output's block is written back at every point. -/
theorem flush_7 : ∀ t : Fin (cfg0 a).N, ((cfg0 a).win 7).flush t = true :=
  (fun t => (Pipeline.Window.flushOf_reads cc0_transform_7 reads0_7 hreads0_7 0 (by decide) (by decide)
    (Pipeline.Window.sep_of_coord cc0_transform_7 0 0 (fun _ => rfl) (by decide)) (P := 1) (m := 0) (by decide) rfl t).mpr (Nat.mod_one _) :
    ∀ t : Fin grid0.N, Pipeline.Window.flushOf grid0 true cc0_transform_7 t = true)

/-- Every index of the output lies in a block. -/
theorem cover_7 (i : S73728x1024.Idx) : ∃ t : Fin (cfg0 a).N, ((cfg0 a).win 7).flush t = true ∧ i ∈ (((cfg0 a).win 7).blk t).view.set := by
  have hi : (i 0).val < 73728 := (i 0).isLt
  let t : Fin grid0.N := ⟨(i 0).val / 256, show (i 0).val / 256 < 288 by omega⟩
  refine ⟨t, flush_7 a t, ?_⟩
  have h := View.emb_mem_set (((cfg0 a).win 7).blk t).view (ix2 (⟨(i 0).val % 256, by omega⟩ : Fin 256) (i 1 : Fin 1024))
  have e := block_7 a t (⟨(i 0).val % 256, by omega⟩ : Fin 256) (i 1) (i 0) (by show (i 0).val = (i 0).val / 256 * 256 + (i 0).val % 256; omega)
  have e2 : (ix2 (i 0) (i 1) : S73728x1024.Idx) = i := funext fun b => match b with
    | ⟨0, _⟩ => rfl
    | ⟨1, _⟩ => rfl
  exact (congrArg (fun j => j ∈ (((cfg0 a).win 7).blk t).view.set) (e.trans e2)).mp h

/-- A tile whose entries are an array's at its rows is the array under the output's block. -/
theorem tile_7 (G : S73728x1024.Idx → EReal) (T : S256x1024.Idx → EReal) (t : Fin (cfg0 a).N)
    (hT : ∀ (r : Fin 256) (d : Fin 1024) (n : Fin 73728), n.val = t.val * 256 + r.val → T (ix2 r d) = G (ix2 n d)) (y : S256x1024.Idx) :
    T y = G ((((cfg0 a).win 7).blk t).view.emb y) := by
  obtain ⟨r, d, rfl⟩ : ∃ (r : Fin 256) (d : Fin 1024), y = ix2 r d := ⟨y 0, y 1, funext fun b => match b with
    | ⟨0, _⟩ => rfl
    | ⟨1, _⟩ => rfl⟩
  have ht : t.val < 288 := t.isLt
  have hr := r.isLt
  exact (hT r d ⟨t.val * 256 + r.val, by omega⟩ rfl).trans (congrArg G (block_7 a t r d ⟨t.val * 256 + r.val, by omega⟩ rfl).symm)

/-- An index of the experts' weights, or of their biases, from the block it lies in and its place there. -/
theorem weights_index {i : S32x1024x1024.Idx} {e : Fin 32} {k f : Fin 1024} {j : Fin 3 → ℕ} {x : ℕ} (hj : j = ![x, 0, 0]) (hx : x = e.val)
    (h0 : (i 0).val = j 0 * 1 + 0) (h1 : (i 1).val = j 1 * 1024 + k.val) (h2 : (i 2).val = j 2 * 1024 + f.val) : i = ix3 e k f := by
  subst hj hx
  exact funext fun b => Fin.ext (match b with
    | ⟨0, _⟩ => h0.trans (by show e.val * 1 + 0 = e.val; omega)
    | ⟨1, _⟩ => h1.trans (by show 0 * 1024 + k.val = k.val; omega)
    | ⟨2, _⟩ => h2.trans (by show 0 * 1024 + f.val = f.val; omega))

theorem bias_index {i : S32x1x1024.Idx} {e : Fin 32} {f : Fin 1024} {j : Fin 3 → ℕ} {x : ℕ} (hj : j = ![x, 0, 0]) (hx : x = e.val)
    (h0 : (i 0).val = j 0 * 1 + 0) (h2 : (i 2).val = j 2 * 1024 + f.val) : i = ix3 e (0 : Fin 1) f := by
  subst hj hx
  exact funext fun b => Fin.ext (match b with
    | ⟨0, _⟩ => h0.trans (by show e.val * 1 + 0 = e.val; omega)
    | ⟨1, _⟩ => congrArg Fin.val (Subsingleton.elim (α := Fin 1) _ _)
    | ⟨2, _⟩ => h2.trans (by show 0 * 1024 + f.val = f.val; omega))

variable (W : FVec Ideal S32x1024x1024 .bf16) (B : FVec Ideal S32x1x1024 .f32) (t : Fin (cfg0 a).N) (e : Fin 32)
  (he : expertNat a.1 (grid0.coords t) = e.val) (k f : Fin 1024)
include he

theorem block_1 : (((cfg0 a).win 1).blk t).view.read (Elt Ideal) W (ix3 (0 : Fin 1) k f) = W (ix3 e k f) :=
  congrArg W (weights_index (index_1 a t) he (Window.rect_emb_val ((cfg0 a).win 1) t (ix3 (0 : Fin 1) k f) (0 : Fin 3) rfl)
    (Window.rect_emb_val ((cfg0 a).win 1) t (ix3 (0 : Fin 1) k f) (1 : Fin 3) rfl)
    (Window.rect_emb_val ((cfg0 a).win 1) t (ix3 (0 : Fin 1) k f) (2 : Fin 3) rfl))

theorem block_2 : (((cfg0 a).win 2).blk t).view.read (Elt Ideal) W (ix3 (0 : Fin 1) k f) = W (ix3 e k f) :=
  congrArg W (weights_index (index_2 a t) he (Window.rect_emb_val ((cfg0 a).win 2) t (ix3 (0 : Fin 1) k f) (0 : Fin 3) rfl)
    (Window.rect_emb_val ((cfg0 a).win 2) t (ix3 (0 : Fin 1) k f) (1 : Fin 3) rfl)
    (Window.rect_emb_val ((cfg0 a).win 2) t (ix3 (0 : Fin 1) k f) (2 : Fin 3) rfl))

theorem block_3 : (((cfg0 a).win 3).blk t).view.read (Elt Ideal) B (ix3 (0 : Fin 1) (0 : Fin 1) f) = B (ix3 e (0 : Fin 1) f) :=
  congrArg B (bias_index (index_3 a t) he (Window.rect_emb_val ((cfg0 a).win 3) t (ix3 (0 : Fin 1) (0 : Fin 1) f) (0 : Fin 3) rfl)
    (Window.rect_emb_val ((cfg0 a).win 3) t (ix3 (0 : Fin 1) (0 : Fin 1) f) (2 : Fin 3) rfl))

theorem block_4 : (((cfg0 a).win 4).blk t).view.read (Elt Ideal) B (ix3 (0 : Fin 1) (0 : Fin 1) f) = B (ix3 e (0 : Fin 1) f) :=
  congrArg B (bias_index (index_4 a t) he (Window.rect_emb_val ((cfg0 a).win 4) t (ix3 (0 : Fin 1) (0 : Fin 1) f) (0 : Fin 3) rfl)
    (Window.rect_emb_val ((cfg0 a).win 4) t (ix3 (0 : Fin 1) (0 : Fin 1) f) (2 : Fin 3) rfl))

theorem block_5 : (((cfg0 a).win 5).blk t).view.read (Elt Ideal) W (ix3 (0 : Fin 1) k f) = W (ix3 e k f) :=
  congrArg W (weights_index (index_5 a t) he (Window.rect_emb_val ((cfg0 a).win 5) t (ix3 (0 : Fin 1) k f) (0 : Fin 3) rfl)
    (Window.rect_emb_val ((cfg0 a).win 5) t (ix3 (0 : Fin 1) k f) (1 : Fin 3) rfl)
    (Window.rect_emb_val ((cfg0 a).win 5) t (ix3 (0 : Fin 1) k f) (2 : Fin 3) rfl))

theorem block_6 : (((cfg0 a).win 6).blk t).view.read (Elt Ideal) B (ix3 (0 : Fin 1) (0 : Fin 1) f) = B (ix3 e (0 : Fin 1) f) :=
  congrArg B (bias_index (index_6 a t) he (Window.rect_emb_val ((cfg0 a).win 6) t (ix3 (0 : Fin 1) (0 : Fin 1) f) (0 : Fin 3) rfl)
    (Window.rect_emb_val ((cfg0 a).win 6) t (ix3 (0 : Fin 1) (0 : Fin 1) f) (2 : Fin 3) rfl))

end Blocks

/-! ## The tile a point leaves -/

section Tile

variable (h0 : ∀ n, (expertWord m c n).toNat < 32) (h1 : 1 ≤ (usedWord m c).toInt)

/-- The result at the call's arguments. -/
abbrev resultOf (n : Fin 73728) (d : Fin 1024) : EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) h0 n d

theorem count_word : countWord c (tbl m 1) = usedWord m c := by
  have e : countWord c (tbl m 1) = (tbl m 1 : IVec S1 32) (ix1 (0 : Fin 1)) := by
    refine congrArg (tbl m 1 : IVec S1 32) (funext fun b => ?_)
    match b with
    | ⟨0, _⟩ => exact Subsingleton.elim (α := Fin 1) _ _
  rw [e, tbl_1 m c]

theorem rows_own (t : Fin grid0.N) (h1 : 1 ≤ (usedWord m c).toInt) (hs : (BitVec.ofNat 32 t.val).slt (usedWord m c) = true) :
    rowsNat (tbl m) (grid0.coords t) = t.val := by
  unfold rowsNat
  rw [tbl_1 m c]
  have e := coords_val t
  refine (Cert.Routed.tile_own (grid0.coords t 0) h1 (by rw [e]; exact hs)).trans e

include h1 in
theorem tile_value (t : Fin (cfgM m hO).N) (r : Fin 256) (d : Fin 1024) (n : Fin 73728) (hn : n.val = t.val * 256 + r.val) :
    tileAt m hO c t (ix2 r d) = resultOf m c h0 n d := by
  have hr := r.isLt
  have hq : n.val / 256 = t.val := by omega
  have hc : k0_cond1 (grid0.coords t) (countWord c (tbl m 1)) = 1#1 ↔ (BitVec.ofNat 32 (n.val / 256)).slt (usedWord m c) = true := by
    rw [used_iff, count_word, coords_val, hq]
  unfold tileAt resultOf result
  by_cases hs : (BitVec.ofNat 32 (n.val / 256)).slt (usedWord m c) = true
  · rw [if_pos (hc.mpr hs), if_pos hs]
    refine (tile_apply _ _ _ _ _ _ _ r d).trans ?_
    have ht : (⟨n.val / 256, by omega⟩ : Fin 288) = grid0.coords t 0 := Fin.ext (hq.trans (coords_val t).symm)
    have he : expertNat (adm m hO).1 (grid0.coords t) = (⟨_, h0 (tileOf n)⟩ : Fin 32).val := by
      show (tbl m 0 (ix1 (grid0.coords t 0)) : BitVec 32).toNat = (expertWord m c (tileOf n)).toNat
      rw [tbl_0 m c, ← ht]
    have hrow : ∀ k : Fin 1024, blockFeature (iblk m hO c 0 t) r k = feature (m ((c : Thread nD τ).loc main_arg0)) n k := fun k => by
      unfold blockFeature feature
      refine congrArg (Cert.Routed.half · _) ?_
      refine (block_0 (adm m hO) (V m c main_arg0) t r _ n ?_).trans (by rw [in_rows])
      rw [hn]
      exact congrArg (· * 256 + r.val) (rows_own m c t h1 (by rw [← hq]; exact hs)).symm
    generalize (⟨_, h0 (tileOf n)⟩ : Fin 32) = e at he ⊢
    have hgate : ∀ f, blockLayer (iblk m hO c 0 t) (iblk m hO c 1 t) (iblk m hO c 3 t) r f
        = layer (m ((c : Thread nD τ).loc main_arg0)) (m ((c : Thread nD τ).loc main_arg3)) (m ((c : Thread nD τ).loc main_arg4)) e n (even f) := fun f => by
      unfold blockLayer layer
      refine congrArg₂ (· + ·) (Finset.sum_congr rfl fun k _ => ?_) ((block_3 (adm m hO) (V m c main_v5) t e he f).trans (in_gate_bias m c e f))
      exact congrArg₂ (· * ·) (hrow k) ((block_1 (adm m hO) (V m c main_v1) t e he k f).trans (in_gate m c e k f))
    have hlin : ∀ f, blockLayer (iblk m hO c 0 t) (iblk m hO c 2 t) (iblk m hO c 4 t) r f
        = layer (m ((c : Thread nD τ).loc main_arg0)) (m ((c : Thread nD τ).loc main_arg3)) (m ((c : Thread nD τ).loc main_arg4)) e n (odd f) := fun f => by
      unfold blockLayer layer
      refine congrArg₂ (· + ·) (Finset.sum_congr rfl fun k _ => ?_) ((block_4 (adm m hO) (V m c main_v7) t e he f).trans (in_linear_bias m c e f))
      exact congrArg₂ (· * ·) (hrow k) ((block_2 (adm m hO) (V m c main_v3) t e he k f).trans (in_linear m c e k f))
    unfold expert
    refine congrArg₂ (· + ·) (Finset.sum_congr rfl fun f _ => ?_) ((block_6 (adm m hO) (V m c main_v9) t e he d).trans (in_second_bias m c e d))
    exact congrArg₂ (· * ·) (congrArg₂ gate (hgate f) (hlin f)) ((block_5 (adm m hO) (V m c main_v8) t e he f d).trans (in_second m c e f d))
  · rw [if_neg (fun h => hs (hc.mp h)), if_neg hs]
    show Ideal.ofBits .f32 0x00000000#32 = 0
    simp [Ideal.ofBits, Ideal.ieee]

include h1 in
/-- The output array after the run. -/
theorem out_value : (dats m hO 0 c).arrAt 7 (cfgM m hO).N = fun i : S73728x1024.Idx => resultOf m c h0 (i 0) (i 1) :=
  Dat.arrAt_eq_of_emb (dats m hO 0 c) 7 _ (fun t _ y => (congrFun (after_out m hO c t) y).trans
    (tile_7 (adm m hO) (fun i : S73728x1024.Idx => resultOf m c h0 (i 0) (i 1)) (tileAt m hO c t) t
      (fun r d n hn => tile_value m hO c h0 h1 t r d n hn) y)) (cover_7 (adm m hO))

end Tile

end Cert.ExpIdeal

end
-- ==== Proof.ExpRef.lean ====
/-
  The reference of the experts, entry by entry: at row `n` and column `d` it is `Cert.Routed.result`.
-/
module

public import proofs.«01_k».proof.Proof.Gen.Reference2Ideal.Read
public import proofs.«01_k».proof.Proof.ExpMath
public import Idealize.ShloMosaic.Lib.BitcastConvert
public import Idealize.ShloMosaic.Lib.Pointwise
public import Idealize.ShloMosaic.Lib.Routing.Words

@[expose] public section

set_option maxRecDepth 16384

noncomputable section

namespace Cert.Reference2Ideal.Experts

open Cert.Reference2Ideal Cert.Reference2Ideal.Gen Cert.Reference2Ideal.Read Cert.Routed
open Idealize.ShloMosaic Idealize.ShloMosaic.TcCoe Idealize.SL.Sem

/-! ## The rows -/

theorem words_apply (x0 : Rows) (n : Fin 73728) (j : Fin 512) (b : Fin 2) :
    val_main_v0 (F := Ideal) x0 (ix3 n j b) = half (x0 (ix2 n j)) b.val := by
  have e : (splits_S73728x512_w32_S73728x512x2_w16).drop (ix3 n j b) = ix2 n j := by
    funext a
    match a with
    | ⟨0, _⟩ => rfl
    | ⟨1, _⟩ => rfl
  show Ideal.ofBits .bf16 (Host.bitcastConvertNarrow S73728x512x2 16 x0 splits_S73728x512_w32_S73728x512x2_w16 (ix3 n j b)) = _
  rw [Host.bitcastConvertNarrow_apply, e]
  rfl

theorem rows_apply (x0 : Rows) (n : Fin 73728) (k : Fin 1024) : val_main_v3 (F := Ideal) x0 (ix2 n k) = feature x0 n k := by
  have hn := n.isLt
  have hk := k.isLt
  rw [val_main_v3_apply, val_main_v2_apply, val_main_v1_apply]
  have e : idx_main_v1 (idx_main_v2 (ix2 n k)) = ix3 n (⟨k.val % 512, Nat.mod_lt _ (by norm_num)⟩ : Fin 512) (⟨k.val / 512, by omega⟩ : Fin 2) := by
    funext a
    apply Fin.ext
    match a with
    | ⟨0, _⟩ => show (n.val * 1024 + k.val) / 1024 = n.val; omega
    | ⟨1, _⟩ => show (n.val * 1024 + k.val) % 512 = k.val % 512; omega
    | ⟨2, _⟩ => show (n.val * 1024 + k.val) / 512 % 2 = k.val / 512; omega
  rw [e]
  exact words_apply x0 n _ _

/-! ## The gates -/

/-- The tile of a row: its number divided by 256, rounded down.  The reference's division of signed words corrects
    a quotient that was rounded towards zero, and for a row's number there is nothing to correct. -/
theorem tile_apply (n : Fin 73728) : val_main_v5 (F := Ideal) (ix1 n) = BitVec.ofNat 32 (n.val / 256) := by
  have hn := n.isLt
  have hq : val_main_call0_v2 (F := Ideal) (ix1 n) = BitVec.ofNat 32 (n.val / 256) := by
    rw [val_main_call0_v2_apply, val_main_v4_apply, val_main_call0_v1_apply]
    exact Idealize.ShloMosaic.Routing.divsi_word .host (by show n.val < _; omega) (by norm_num) (by norm_num)
  have hr : val_main_call0_v8 (F := Ideal) (ix1 n) = BitVec.ofNat 32 (n.val % 256) := by
    rw [val_main_call0_v8_apply, val_main_v4_apply, val_main_call0_v7_apply]
    exact Idealize.ShloMosaic.Routing.remsi_word .host (by show n.val < _; omega) (by norm_num) (by norm_num)
  have hc : val_main_call0_v11 (F := Ideal) (ix1 n) = 0#1 := by
    rw [val_main_call0_v11_apply, val_main_call0_v6_apply, val_main_call0_v10_apply, hr, val_main_call0_v9_apply, val_main_call0_c_apply,
      val_main_call0_v5_apply]
    have e5 : val_main_call0_v4 (F := Ideal) (idx_main_call0_v5 (ix1 n)) = 1#32 := by
      show (if (256#32 : BitVec 32) = 0 then (0 : BitVec 32) else if (256#32).msb then -1 else 1) = 1#32
      decide
    rw [e5]
    by_cases h0 : n.val = 0
    · have : IntOp.cmpi .ne (BitVec.ofNat 32 (n.val % 256)) 0#32 = 0#1 := by rw [h0]; rfl
      rw [this]
      exact BitVec.and_zero
    · have e3 : val_main_call0_v3 (F := Ideal) (ix1 n) = 1#32 := by
        show (if BitVec.ofNat 32 n.val = 0 then (0 : BitVec 32) else if (BitVec.ofNat 32 n.val).msb then -1 else 1) = 1#32
        rw [if_neg, if_neg]
        · rfl
        · rw [BitVec.msb_eq_decide, decide_eq_true_eq, BitVec.toNat_ofNat]; omega
        · intro h
          have := congrArg BitVec.toNat h
          rw [BitVec.toNat_ofNat] at this
          have h2 : n.val % 2 ^ 32 = 0 := this
          omega
      rw [e3]
      have : IntOp.cmpi .ne 1#32 1#32 = 0#1 := rfl
      rw [this]
      exact BitVec.zero_and
  rw [val_main_v5_apply, hc, hq]
  rfl

theorem used_apply (x2 : IVec (⟨1, ![1]⟩ : Shape) 32) (n : Fin 73728) :
    val_main_v8 (F := Ideal) x2 (ix1 n) = BitVec.ofBool ((BitVec.ofNat 32 (n.val / 256)).slt (x2 (ix1 (0 : Fin 1)))) := by
  rw [val_main_v8_apply, tile_apply, val_main_v7_apply]
  have e : val_main_v6 (F := Ideal) x2 (idx_main_v7 (ix1 n)) = x2 (ix1 (0 : Fin 1)) := by
    unfold val_main_v6 shapeCast
    refine congrArg x2 (funext fun a => ?_)
    match a with
    | ⟨0, _⟩ => exact Subsingleton.elim (α := Fin 1) _ _
  rw [e]
  rfl

theorem gates_apply (x1 : IVec (⟨1, ![288]⟩ : Shape) 32) (x2 : IVec (⟨1, ![1]⟩ : Shape) 32) (e : Fin 32) (n : Fin 73728) (d : Fin 1024) :
    val_main_v44 (F := Ideal) x1 x2 (ix3 e n d)
      = ((((IntOp.cmpi .eq (x1 (ix1 (tileOf n))) (BitVec.ofNat 32 e.val)).toNat : ℝ) : EReal)
          * ((((BitVec.ofBool ((BitVec.ofNat 32 (n.val / 256)).slt (x2 (ix1 (0 : Fin 1))))).toNat : ℝ) : EReal))) := by
  rw [val_main_v44_apply, val_main_v43_apply, val_main_v42_apply, val_main_v15_apply]
  have e1 : val_main_v12 (F := Ideal) x1 (idx_main_v42 (idx_main_v43 (idx_main_v44 (ix3 e n d))))
      = (((IntOp.cmpi .eq (x1 (ix1 (tileOf n))) (BitVec.ofNat 32 e.val)).toNat : ℝ) : EReal) := by
    rw [val_main_v12_apply, val_main_call1_v4_apply, val_main_call1_v2_apply, val_main_call1_v0_apply, val_main_call1_v3_apply,
      val_main_call1_v1_apply, val_main_v11_apply, val_main_v10_apply]
    have e : idx_main_v10 (idx_main_v11 (idx_main_call1_v0 (idx_main_call1_v2 (idx_main_v42 (idx_main_v43 (idx_main_v44 (ix3 e n d)))))))
        = ix1 (tileOf n) := funext fun a => match a with
      | ⟨0, _⟩ => rfl
    rw [e]
    rfl
  have e2 : val_main_v14 (F := Ideal) x2 (idx_main_v42 (idx_main_v43 (idx_main_v44 (ix3 e n d))))
      = (((BitVec.ofBool ((BitVec.ofNat 32 (n.val / 256)).slt (x2 (ix1 (0 : Fin 1))))).toNat : ℝ) : EReal) := by
    rw [val_main_v14_apply, val_main_v13_apply, val_main_v9_apply, ← used_apply x2 n]
    rfl
  rw [e1, e2]
  rfl

/-! ## The experts -/

theorem layer_apply (x0 : Rows) (x3 : W1) (x4 : B1) (e : Fin 32) (n : Fin 73728) (f : Fin 2048) :
    val_main_v20 (F := Ideal) x0 x3 x4 (ix3 e n f) = layer x0 x3 x4 e n f := by
  rw [val_main_v20_apply, val_main_v17_apply, val_main_v16_apply, val_main_v19_apply, val_main_v18_apply]
  unfold layer
  have e1 : x4 (idx_main_v18 (idx_main_v19 (ix3 e n f))) = x4 (ix2 e f) := congrArg x4 (funext fun a => match a with
    | ⟨0, _⟩ => rfl
    | ⟨1, _⟩ => rfl)
  rw [e1]
  refine congrArg (· + x4 (ix2 e f)) (Finset.sum_congr rfl fun k _ => ?_)
  have el : lidx_main_v16 (idx_main_v17 (ix3 e n f)) k = ix3 e k f := funext fun a => match a with
    | ⟨0, _⟩ => rfl
    | ⟨1, _⟩ => rfl
    | ⟨2, _⟩ => rfl
  have er : ridx_main_v16 (idx_main_v17 (ix3 e n f)) k = ix2 n k := funext fun a => match a with
    | ⟨0, _⟩ => rfl
    | ⟨1, _⟩ => rfl
  rw [el, er, rows_apply, mul_comm]

theorem even_apply (x0 : Rows) (x3 : W1) (x4 : B1) (e : Fin 32) (n : Fin 73728) (f : Fin 1024) :
    val_main_v21 (F := Ideal) x0 x3 x4 (ix3 e n f) = layer x0 x3 x4 e n (even f) := by
  rw [← layer_apply]
  unfold val_main_v21
  rw [Host.slice_apply]
  refine congrArg _ (funext fun a => Fin.ext ?_)
  match a with
  | ⟨0, _⟩ => show 0 + 1 * e.val = e.val; omega
  | ⟨1, _⟩ => show 0 + 1 * n.val = n.val; omega
  | ⟨2, _⟩ => show 0 + 2 * f.val = 2 * f.val; omega

theorem odd_apply (x0 : Rows) (x3 : W1) (x4 : B1) (e : Fin 32) (n : Fin 73728) (f : Fin 1024) :
    val_main_v24 (F := Ideal) x0 x3 x4 (ix3 e n f) = layer x0 x3 x4 e n (odd f) := by
  rw [← layer_apply]
  unfold val_main_v24
  rw [Host.slice_apply]
  refine congrArg _ (funext fun a => Fin.ext ?_)
  match a with
  | ⟨0, _⟩ => show 0 + 1 * e.val = e.val; omega
  | ⟨1, _⟩ => show 0 + 1 * n.val = n.val; omega
  | ⟨2, _⟩ => show 1 + 2 * f.val = 1 + 2 * f.val; rfl

theorem gate_apply (x0 : Rows) (x3 : W1) (x4 : B1) (e : Fin 32) (n : Fin 73728) (f : Fin 1024) :
    val_main_v37 (F := Ideal) x0 x3 x4 (ix3 e n f) = gate (layer x0 x3 x4 e n (even f)) (layer x0 x3 x4 e n (odd f)) := by
  rw [val_main_v37_apply, val_main_v36_apply, val_main_v35_apply, val_main_cst_5_apply, val_main_v34_apply, val_main_v33_apply,
    val_main_v32_apply, val_main_cst_4_apply, val_main_v31_apply, val_main_v30_apply, val_main_cst_3_apply, val_main_v29_apply,
    val_main_v28_apply, val_main_v27_apply, val_main_v26_apply, val_main_cst_2_apply, val_main_v25_apply, val_main_call2_v4_apply,
    val_main_call2_v3_apply, val_main_cst_1_apply, val_main_call2_v2_apply, val_main_call2_v1_apply, val_main_call2_v0_apply,
    val_main_cst_0_apply, val_main_v23_apply, val_main_v22_apply, val_main_cst_apply, even_apply, odd_apply]
  rfl

theorem expert_apply (x0 : Rows) (x3 : W1) (x4 : B1) (x5 : W2) (x6 : B2) (e : Fin 32) (n : Fin 73728) (d : Fin 1024) :
    val_main_v41 (F := Ideal) x0 x3 x4 x5 x6 (ix3 e n d) = expert x0 x3 x4 x5 x6 e n d := by
  rw [val_main_v41_apply, val_main_v38_apply, val_main_v40_apply, val_main_v39_apply]
  unfold expert
  have e1 : x6 (idx_main_v39 (idx_main_v40 (ix3 e n d))) = x6 (ix2 e d) := congrArg x6 (funext fun a => match a with
    | ⟨0, _⟩ => rfl
    | ⟨1, _⟩ => rfl)
  rw [e1]
  refine congrArg (· + x6 (ix2 e d)) (Finset.sum_congr rfl fun k _ => ?_)
  have el : lidx_main_v38 (ix3 e n d) k = ix3 e n k := funext fun a => match a with
    | ⟨0, _⟩ => rfl
    | ⟨1, _⟩ => rfl
    | ⟨2, _⟩ => rfl
  have er : ridx_main_v38 (ix3 e n d) k = ix3 e k d := funext fun a => match a with
    | ⟨0, _⟩ => rfl
    | ⟨1, _⟩ => rfl
    | ⟨2, _⟩ => rfl
  rw [el, er, gate_apply]

/-- The reference's entry. -/
theorem result_apply (x0 : Rows) (x1 : IVec (⟨1, ![288]⟩ : Shape) 32) (x2 : IVec (⟨1, ![1]⟩ : Shape) 32) (x3 : W1) (x4 : B1) (x5 : W2) (x6 : B2)
    (hexp : ∀ t, (x1 (ix1 t)).toNat < 32) (n : Fin 73728) (d : Fin 1024) :
    val_main_v46 (F := Ideal) x0 x1 x2 x3 x4 x5 x6 (ix2 n d) = result x0 x1 x2 x3 x4 x5 x6 hexp n d := by
  rw [val_main_v46_apply, val_main_cst_6_apply]
  have hz : (FloatOps.ofBits (F := Ideal) .f32 0x00000000#32 : EReal) = 0 := by
    show Ideal.ofBits .f32 0x00000000#32 = 0
    simp [Ideal.ofBits, Ideal.ieee]
  have hs : ∀ k : Fin 32, val_main_v45 (F := Ideal) x0 x1 x2 x3 x4 x5 x6 (idx_main_v46 (ix2 n d) k)
      = ((((IntOp.cmpi .eq (x1 (ix1 (tileOf n))) (BitVec.ofNat 32 k.val)).toNat : ℝ) : EReal)
          * ((((BitVec.ofBool ((BitVec.ofNat 32 (n.val / 256)).slt (x2 (ix1 (0 : Fin 1))))).toNat : ℝ) : EReal)))
        * expert x0 x3 x4 x5 x6 k n d := by
    intro k
    have ei : idx_main_v46 (ix2 n d) k = ix3 k n d := funext fun a => match a with
      | ⟨0, _⟩ => rfl
      | ⟨1, _⟩ => rfl
      | ⟨2, _⟩ => rfl
    rw [ei, val_main_v45_apply, gates_apply, expert_apply]
    rfl
  refine (congrArg₂ (fun a b : EReal => a + b) hz (Finset.sum_congr rfl fun k _ => hs k)).trans ?_
  rw [zero_add, gated_sum (fun k => expert x0 x3 x4 x5 x6 k n d) _ (hexp _)]
  unfold result
  cases (BitVec.ofNat 32 (n.val / 256)).slt (x2 (ix1 (0 : Fin 1))) <;> rfl

end Cert.Reference2Ideal.Experts

end
-- ==== Proof.ExpClaim.lean ====
/-
  The claims about the experts: both printings of the program and the reference leave their arguments and pay their
  semaphores, and at the ideal instance the program's array is the reference's, where the tables are routed.
-/
module

public import proofs.«01_k».proof.Proof.Gen.Reference2Ideal.Run
public import proofs.«01_k».proof.Proof.Gen.Pre_routed
public import proofs.«01_k».proof.Proof.ExpOk
public import proofs.«01_k».proof.Proof.ExpOut
public import proofs.«01_k».proof.Proof.ExpRef

@[expose] public section

noncomputable section

namespace Cert.Experts

open Idealize.ShloMosaic Idealize.SL.Sem

/-- The program as printed for the machine. -/
theorem frame_machine : Cert.quiescent_Kernel2 (hKernel2 := Cert.Kernel2.Gen.facts) (hPre_routed := Cert.Pre_routed.Gen.facts) := by
  intro m ρ hpre
  letI := Cert.Kernel2.Gen.facts
  letI := Cert.Pre_routed.Gen.facts
  have hw := Cert.Routed.fn_words (F := Bits) _ _ _ _ _ _ _ (fun a => a.elim0) (congrFun (hpre 0) (fun a => a.elim0))
  exact Cert.Exp.frame m ρ (Cert.Exp.ok_of_routed m 0 hw.1 hw.2)

/-- The program as read at the ideal instance. -/
theorem frame_ideal : Cert.quiescent_Kernel2Ideal (hKernel2Ideal := Cert.Kernel2Ideal.Gen.facts) (hPre_routed := Cert.Pre_routed.Gen.facts) := by
  intro m ρ hpre
  letI := Cert.Kernel2Ideal.Gen.facts
  letI := Cert.Pre_routed.Gen.facts
  have hw := Cert.Routed.fn_words (F := Ideal) _ _ _ _ _ _ _ (fun a => a.elim0) (congrFun (hpre 0) (fun a => a.elim0))
  exact Cert.ExpIdeal.frame m ρ (Cert.ExpIdeal.ok_of_routed m 0 hw.1 hw.2)

/-- The reference declares no semaphore. -/
theorem no_sem : ∀ s : SemLoc Cert.Reference2Ideal.sig, False := by decide

/-- The reference leaves its arguments, and it has no semaphore. -/
theorem frame_reference (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0) :=
  (θ_run _ _ _).mono (fun r h => ⟨fun c => (h c).2, funext fun s => (no_sem s.2).elim⟩) (Cert.Reference2Ideal.Value.run m g)

/-- Both programs leave the reference's array, where the tables are routed. -/
theorem experts : Cert.algebraic_Kernel2Ideal_Reference2Ideal (hKernel2Ideal := Cert.Kernel2Ideal.Gen.facts)
    (hReference2Ideal := Cert.Reference2Ideal.Gen.facts) (hPre_routed := Cert.Pre_routed.Gen.facts) := by
  intro m g m' g' hpre hargs
  letI := Cert.Kernel2Ideal.Gen.facts
  letI := Cert.Pre_routed.Gen.facts
  letI := Cert.Reference2Ideal.Gen.facts
  have hw := fun c => Cert.Routed.fn_words (F := Ideal) _ _ _ _ _ _ _ (fun a => a.elim0) (congrFun (hpre c) (fun a => a.elim0))
  have hO := Cert.ExpIdeal.ok_of_routed m 0 (hw 0).1 (hw 0).2
  refine ⟨fun c => Cert.Reference2Ideal.Read.val_main_v46 (F := Ideal)
    (m ((c.tc : Thread _ _).loc Cert.Kernel2Ideal.main_arg0))
    (m ((c.tc : Thread _ _).loc Cert.Kernel2Ideal.main_arg1))
    (m ((c.tc : Thread _ _).loc Cert.Kernel2Ideal.main_arg2))
    (m ((c.tc : Thread _ _).loc Cert.Kernel2Ideal.main_arg3))
    (m ((c.tc : Thread _ _).loc Cert.Kernel2Ideal.main_arg4))
    (m ((c.tc : Thread _ _).loc Cert.Kernel2Ideal.main_arg5))
    (m ((c.tc : Thread _ _).loc Cert.Kernel2Ideal.main_arg6)), ?_, ?_⟩
  · refine (θ_run _ _ _).mono (fun r h c => ?_) (Cert.ExpIdeal.run_out m g hO)
    obtain ⟨a0, a1, a2, a3, a4, a5, a6, out⟩ := h.1 c
    refine ⟨out.trans ?_, a0, a1, a2, a3, a4, a5, a6⟩
    refine (Cert.ExpIdeal.out_value m hO c (hw c).1 (hw c).2).trans (funext fun i => ?_)
    have e : (ix2 (i 0) (i 1) : Cert.Kernel2Ideal.S73728x1024.Idx) = i := funext fun b => match b with
      | ⟨0, _⟩ => rfl
      | ⟨1, _⟩ => rfl
    refine Eq.trans ?_ (congrArg _ e)
    exact (Cert.Reference2Ideal.Experts.result_apply _ _ _ _ _ _ _ (hw c).1 (i 0) (i 1)).symm
  · refine (θ_run _ _ _).mono (fun r h c => ⟨(h c).1.trans ?_, (h c).2⟩) (Cert.Reference2Ideal.Value.run m' g')
    refine (Cert.Reference2Ideal.Read.val_main_v46_eq _ _).trans ?_
    obtain ⟨e0, e1, e2, e3, e4, e5, e6⟩ := hargs c
    exact congr (congr (congr (congr (congr (congr (congrArg (Cert.Reference2Ideal.Read.val_main_v46 (F := Ideal)) e0) e1) e2) e3) e4) e5) e6

end Cert.Experts

end
-- ==== Proof.AdaLn.lean ====
/-
  The modulation from the conditioning, one row of six parts for each sequence and each layer: the kernel's array and
  the reference's.
-/
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit

@[expose] public section

set_option maxRecDepth 16384

noncomputable section

namespace Cert.AdaLn

open Idealize.ShloMosaic

/-- A number times its logistic. -/
def silu (x : EReal) : EReal := x * Ideal.div (Ideal.ofBits .f32 0x3F800000#32) (Ideal.ofBits .f32 0x3F800000#32 + Ideal.exp (-x))

/-- Column `d` of sequence `b`'s modulation in layer `l`. -/
def modulation (C : FVec Ideal ⟨2, ![8, 1024]⟩ .f32) (W : FVec Ideal ⟨3, ![2, 1024, 6144]⟩ .f32) (B : FVec Ideal ⟨2, ![2, 6144]⟩ .f32)
    (l : Fin 2) (b : Fin 8) (d : Fin 6144) : EReal :=
  (∑ k : Fin 1024, silu (C (ix2 b k)) * W (ix3 l k d)) + B (ix2 l d)

end Cert.AdaLn

namespace Cert.Kernel7Ideal.Own

open Idealize.ShloMosaic Idealize.ShloMosaic.TcCoe Idealize.ShloMosaic.StableHlo
open Idealize.ShloMosaic.Pipeline (Dat)
open Cert.Kernel7Ideal.Gen Cert.AdaLn

variable (m : (ℓ : Loc nD τ sig) → Buf (Elt Ideal) ℓ) (c : Dev nD)

/-- The biases at the region's entry, one row for each layer. -/
theorem bias_in : V m c main_v0 = (shapeCast S2x1x6144
    (m ((c.tc : Thread nD τ).loc main_arg2) : FVec Ideal S2x6144 .f32) shapeCasts_S2x6144_S2x1x6144 : FVec Ideal S2x1x6144 .f32) := by
  simp only [V, hostOps0]
  after_results_simp
  rfl

/-- Where each window's block lies at a point. -/
theorem places : ∀ t : Fin cfg0.N,
    win0_0.index t = ![0, 0] ∧ win0_1.index t = ![t.val / 4, 0, t.val % 4] ∧ win0_2.index t = ![t.val / 4, 0, t.val % 4]
      ∧ win0_3.index t = ![t.val / 4, 0, t.val % 4] :=
  (by decide +kernel : ∀ t : Fin grid0.N, _)

theorem in_cond (t : Fin cfg0.N) (b : Fin 8) (k : Fin 1024) :
    iblk m c 0 t (ix2 b k) = m ((c.tc : Thread nD τ).loc main_arg0) (ix2 b k) := by
  rw [← V_main_arg0 m c]
  blk_simp [iblk, places t]
  blk_ext [places t]

theorem in_weight (t : Fin cfg0.N) (k : Fin 1024) (j : Fin 1536) (l : Fin 2) (d : Fin 6144) (hl : l.val = t.val / 4)
    (hd : d.val = t.val % 4 * 1536 + j.val) :
    iblk m c 1 t (ix3 (0 : Fin 1) k j) = m ((c.tc : Thread nD τ).loc main_arg1) (ix3 l k d) := by
  rw [← V_main_arg1 m c]
  blk_simp [iblk, places t]
  blk_ext [places t]

theorem in_bias (t : Fin cfg0.N) (j : Fin 1536) (l : Fin 2) (d : Fin 6144) (hl : l.val = t.val / 4)
    (hd : d.val = t.val % 4 * 1536 + j.val) :
    iblk m c 2 t (ix3 (0 : Fin 1) (0 : Fin 1) j) = m ((c.tc : Thread nD τ).loc main_arg2) (ix2 l d) := by
  have e : iblk m c 2 t (ix3 (0 : Fin 1) (0 : Fin 1) j) = V m c main_v0 (ix3 l (0 : Fin 1) d) := by
    blk_simp [iblk, places t]
    blk_ext [places t]
  rw [e, bias_in]
  refine shapeCast_apply _ _ _ (ix2 l d) ?_
  simp [Shape.rowMajor_val_two, Shape.rowMajor_val_three]

variable (x : FVec Ideal S8x1024 .f32) (w : FVec Ideal S1x1024x1536 .f32) (bias : FVec Ideal S1x1x1536 .f32) (b : Fin 8) (j : Fin 1536)

/-- An entry of a block from its operands. -/
def blockAt : EReal := (∑ k : Fin 1024, silu (x (ix2 b k)) * w (ix3 (0 : Fin 1) k j)) + bias (ix3 (0 : Fin 1) (0 : Fin 1) j)

/-- An entry of what the body leaves. -/
theorem block_apply : out0_3 (F := Ideal) x w bias (ix3 (0 : Fin 1) b j) = blockAt x w bias b j := by
  unfold blockAt silu
  unfold out0_3
  frame_out
  pointwise [k0_pay1]
  simp only [zero_sub]

/-- The result array after the run. -/
theorem final : (dats m 0 c).arrAt 3 cfg0.N = fun i : S2x8x6144.Idx =>
    modulation (m ((c.tc : Thread nD τ).loc main_arg0)) (m ((c.tc : Thread nD τ).loc main_arg1))
      (m ((c.tc : Thread nD τ).loc main_arg2)) (i 0) (i 1) (i 2) := by
  refine Dat.arrAt_eq_of_covers (dats m 0 c) 3 _ (by decide +kernel) (fun t _ z => ?_)
  blk_simp
  rw [after0_3]
  obtain ⟨o, b, j, rfl⟩ : ∃ (o : Fin 1) (b : Fin 8) (j : Fin 1536), z = ix3 o b j := ⟨z 0, z 1, z 2, by idx_ext⟩
  obtain rfl : o = 0 := Subsingleton.elim _ _
  rw [block_apply]
  have ht : t.val < 8 := t.isLt
  have key : ∀ (l : Fin 2) (b' : Fin 8) (d : Fin 6144), l.val = t.val / 4 → b'.val = b.val → d.val = t.val % 4 * 1536 + j.val →
      blockAt (iblk m c 0 t) (iblk m c 1 t) (iblk m c 2 t) b j = modulation
      (m ((c.tc : Thread nD τ).loc main_arg0)) (m ((c.tc : Thread nD τ).loc main_arg1))
      (m ((c.tc : Thread nD τ).loc main_arg2)) l b' d := by
    intro l b' d hl hb hd
    obtain rfl : b' = b := Fin.ext hb
    unfold modulation
    exact congrArg₂ (· + ·) (Finset.sum_congr rfl fun k _ => congrArg₂ (· * ·) (congrArg silu (in_cond m c t _ k))
      (in_weight m c t k j l d hl hd)) (in_bias m c t j l d hl hd)
  refine key _ _ _ ?_ ?_ ?_
  · blk_simp [places t]
    exact Nat.add_zero _
  · blk_simp [places t]
  · blk_simp [places t]

end Cert.Kernel7Ideal.Own

namespace Cert.Reference7Ideal.Own

open Idealize.ShloMosaic Idealize.ShloMosaic.TcCoe Cert.Reference7Ideal.Gen Cert.Reference7Ideal.Read Cert.AdaLn

variable [Cert.Reference7Ideal.Facts₀] [Cert.Reference7Ideal.Facts]
variable (x0 : FVec Ideal S8x1024 .f32) (x1 : FVec Ideal S2x1024x6144 .f32) (x2 : FVec Ideal S2x6144 .f32)

/-- The conditioning after its logistic gate. -/
theorem gated_apply (b : Fin 8) (k : Fin 1024) : val_main_v0 (F := Ideal) x0 (ix2 b k) = silu (x0 (ix2 b k)) := rfl

/-- The first layer's modulation. -/
theorem first_apply (b : Fin 8) (d : Fin 6144) : val_main_v17 (F := Ideal) x0 x1 x2 (ix3 (0 : Fin 1) b d) = modulation x0 x1 x2 0 b d := by
  have hd := d.isLt
  simp only [val_main_v17_apply, val_main_v8_apply, val_main_v7_apply, val_main_v6_apply, val_main_v5_apply, val_main_v4_apply,
    val_main_v3_apply, val_main_v2_apply, val_main_v1_apply]
  unfold modulation
  refine congrArg₂ (· + ·) (Finset.sum_congr rfl fun k _ => congrArg₂ (· * ·)
    ((congrArg (val_main_v0 (F := Ideal) x0) ?_).trans (gated_apply x0 b k)) (congrArg x1 ?_)) (congrArg x2 ?_)
  all_goals
    funext a
    apply Fin.ext
    fin_cases a
    all_goals simp
    all_goals omega

/-- The second layer's modulation. -/
theorem second_apply (b : Fin 8) (d : Fin 6144) : val_main_v18 (F := Ideal) x0 x1 x2 (ix3 (0 : Fin 1) b d) = modulation x0 x1 x2 1 b d := by
  have hd := d.isLt
  simp only [val_main_v18_apply, val_main_v16_apply, val_main_v15_apply, val_main_v14_apply, val_main_v13_apply, val_main_v12_apply,
    val_main_v11_apply, val_main_v10_apply, val_main_v9_apply]
  unfold modulation
  refine congrArg₂ (· + ·) (Finset.sum_congr rfl fun k _ => congrArg₂ (· * ·)
    ((congrArg (val_main_v0 (F := Ideal) x0) ?_).trans (gated_apply x0 b k)) (congrArg x1 ?_)) (congrArg x2 ?_)
  all_goals
    funext a
    apply Fin.ext
    fin_cases a
    all_goals simp
    all_goals omega

/-- The reference's result. -/
theorem value : val_main_v19 (F := Ideal) x0 x1 x2 = fun i : S2x8x6144.Idx => modulation x0 x1 x2 (i 0) (i 1) (i 2) := by
  funext i
  obtain ⟨l, b, d, rfl⟩ : ∃ (l : Fin 2) (b : Fin 8) (d : Fin 6144), i = ix3 l b d := ⟨i 0, i 1, i 2, by idx_ext⟩
  unfold val_main_v19
  match l with
  | ⟨0, _⟩ =>
    refine (concatenate_pair_apply_left (s₁ := S1x8x6144) (s₂ := S1x8x6144) _ _ _ _ (ix3 (0 : Fin 2) b d) rfl (ix3 (0 : Fin 1) b d) (fun a => match a with
      | ⟨0, _⟩ => rfl
      | ⟨1, _⟩ => rfl
      | ⟨2, _⟩ => rfl)).trans (first_apply x0 x1 x2 b d)
  | ⟨1, _⟩ =>
    refine (concatenate_pair_apply_right (s₁ := S1x8x6144) (s₂ := S1x8x6144) _ _ _ _ (ix3 (1 : Fin 2) b d) rfl rfl (ix3 (0 : Fin 1) b d) (fun a ha => match a with
      | ⟨0, _⟩ => absurd rfl ha
      | ⟨1, _⟩ => rfl
      | ⟨2, _⟩ => rfl) rfl).trans (second_apply x0 x1 x2 b d)

end Cert.Reference7Ideal.Own

end
-- ==== Proof.ScanEnd.lean ====
/-
  The end of the second scan: the two directions added, each head normalised over its 64 columns, gains, biases and the
  bonus, and the gate: the kernel's array and the reference's.
-/
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit

@[expose] public section

set_option maxRecDepth 16384

noncomputable section

namespace Cert.ScanEnd

open Idealize.ShloMosaic

/-- The mean of 64 numbers. -/
def mean (y : Fin 64 → EReal) : EReal := Ideal.div (∑ k, y k) (Ideal.ofBits .f32 0x42800000#32)

/-- A head's columns less their mean, over the root of their variance. -/
def normHead (y : Fin 64 → EReal) (j : Fin 64) : EReal :=
  (y j - mean y) * Ideal.rsqrt (mean (fun k => (y k - mean y) * (y k - mean y)) + Ideal.ofBits .f32 0x3A27C5AC#32)

/-- Entry `d` of row `n` at the end of the scan: row `n` is position `n % 2048` of sequence `n / 2048`, and column `d` lies
in head `d / 64`. -/
def endAt (Y Y' : FVec Ideal ⟨4, ![8, 8, 2048, 64]⟩ .f32) (G B : FVec Ideal ⟨2, ![16384, 512]⟩ .f32) (u v : FVec Ideal ⟨1, ![512]⟩ .f32)
    (n : Fin 16384) (d : Fin 512) : EReal :=
  (normHead (fun k => Y (ix4 (⟨n.val / 2048, by omega⟩ : Fin 8) (⟨d.val / 64, by omega⟩ : Fin 8) (⟨n.val % 2048, by omega⟩ : Fin 2048) k)
      + Y' (ix4 (⟨n.val / 2048, by omega⟩ : Fin 8) (⟨d.val / 64, by omega⟩ : Fin 8) (⟨n.val % 2048, by omega⟩ : Fin 2048) k))
    ⟨d.val % 64, by omega⟩ * u (ix1 d) + v (ix1 d) + B (ix2 n d)) * G (ix2 n d)

end Cert.ScanEnd

namespace Cert.Kernel8Ideal.Own

open Idealize.ShloMosaic Idealize.ShloMosaic.TcCoe Idealize.ShloMosaic.StableHlo
open Idealize.ShloMosaic.Pipeline (Dat)
open Cert.Kernel8Ideal.Gen Cert.ScanEnd

variable (m : (ℓ : Loc nD τ sig) → Buf (Elt Ideal) ℓ) (c : Dev nD)

/-- The gains at the region's entry. -/
theorem gains_in : V m c main_v0 = (shapeCast S1x512
    (m ((c.tc : Thread nD τ).loc main_arg4) : FVec Ideal S512 .f32) shapeCasts_S512_S1x512 : FVec Ideal S1x512 .f32) := by
  simp only [V, hostOps0]
  after_results_simp
  rfl

/-- The biases at the region's entry. -/
theorem biases_in : V m c main_v1 = (shapeCast S1x512
    (m ((c.tc : Thread nD τ).loc main_arg5) : FVec Ideal S512 .f32) shapeCasts_S512_S1x512 : FVec Ideal S1x512 .f32) := by
  simp only [V, hostOps0]
  after_results_simp
  rfl

/-- Where each window's block lies at a point. -/
theorem places : ∀ t : Fin cfg0.N,
    win0_0.index t = ![t.val / 8, 0, t.val % 8, 0] ∧ win0_1.index t = ![t.val / 8, 0, t.val % 8, 0]
      ∧ win0_2.index t = ![t.val, 0] ∧ win0_3.index t = ![t.val, 0] ∧ win0_4.index t = ![0, 0] ∧ win0_5.index t = ![0, 0]
      ∧ win0_6.index t = ![t.val, 0] :=
  (by decide +kernel : ∀ t : Fin grid0.N, _)

theorem in_forward (t : Fin cfg0.N) (h : Fin 8) (r : Fin 256) (k : Fin 64) (b : Fin 8) (h' : Fin 8) (s : Fin 2048)
    (hb : b.val = t.val / 8) (hh : h'.val = h.val) (hs : s.val = t.val % 8 * 256 + r.val) :
    iblk m c 0 t (ix4 (0 : Fin 1) h r k) = m ((c.tc : Thread nD τ).loc main_arg0) (ix4 b h' s k) := by
  rw [← V_main_arg0 m c]
  blk_simp [iblk, places t]
  blk_ext [places t]

theorem in_backward (t : Fin cfg0.N) (h : Fin 8) (r : Fin 256) (k : Fin 64) (b : Fin 8) (h' : Fin 8) (s : Fin 2048)
    (hb : b.val = t.val / 8) (hh : h'.val = h.val) (hs : s.val = t.val % 8 * 256 + r.val) :
    iblk m c 1 t (ix4 (0 : Fin 1) h r k) = m ((c.tc : Thread nD τ).loc main_arg1) (ix4 b h' s k) := by
  rw [← V_main_arg1 m c]
  blk_simp [iblk, places t]
  blk_ext [places t]

theorem in_gate (t : Fin cfg0.N) (r : Fin 256) (d : Fin 512) (n : Fin 16384) (hn : n.val = t.val * 256 + r.val) :
    iblk m c 2 t (ix2 r d) = m ((c.tc : Thread nD τ).loc main_arg2) (ix2 n d) := by
  rw [← V_main_arg2 m c]
  blk_simp [iblk, places t]
  blk_ext [places t]

theorem in_bonus (t : Fin cfg0.N) (r : Fin 256) (d : Fin 512) (n : Fin 16384) (hn : n.val = t.val * 256 + r.val) :
    iblk m c 3 t (ix2 r d) = m ((c.tc : Thread nD τ).loc main_arg3) (ix2 n d) := by
  rw [← V_main_arg3 m c]
  blk_simp [iblk, places t]
  blk_ext [places t]

theorem in_gains (t : Fin cfg0.N) (d : Fin 512) :
    iblk m c 4 t (ix2 (0 : Fin 1) d) = m ((c.tc : Thread nD τ).loc main_arg4) (ix1 d) := by
  have e : iblk m c 4 t (ix2 (0 : Fin 1) d) = V m c main_v0 (ix2 (0 : Fin 1) d) := by
    blk_simp [iblk, places t]
    blk_ext [places t]
  rw [e, gains_in]
  refine shapeCast_apply _ _ _ (ix1 d) ?_
  simp [Shape.rowMajor_val_one, Shape.rowMajor_val_two]

theorem in_biases (t : Fin cfg0.N) (d : Fin 512) :
    iblk m c 5 t (ix2 (0 : Fin 1) d) = m ((c.tc : Thread nD τ).loc main_arg5) (ix1 d) := by
  have e : iblk m c 5 t (ix2 (0 : Fin 1) d) = V m c main_v1 (ix2 (0 : Fin 1) d) := by
    blk_simp [iblk, places t]
    blk_ext [places t]
  rw [e, biases_in]
  refine shapeCast_apply _ _ _ (ix1 d) ?_
  simp [Shape.rowMajor_val_one, Shape.rowMajor_val_two]

/-- A head's block after the normalisation. -/
theorem head_apply (a b : FVec Ideal S1x1x256x64 .f32) (r : Fin 256) (j : Fin 64) : k0_pay2 (F := Ideal) a b (ix2 r j) =
    normHead (fun k => a (ix4 (0 : Fin 1) (0 : Fin 1) r k) + b (ix4 (0 : Fin 1) (0 : Fin 1) r k)) j := by
  unfold normHead mean
  pointwise [k0_pay2]

/-- The eight heads side by side under the gains: each is normalised as the first is. -/
theorem heads_eq (a0 a1 a2 a3 a4 a5 a6 a7 b0 b1 b2 b3 b4 b5 b6 b7 : FVec Ideal S1x1x256x64 .f32) (u : FVec Ideal S1x512 .f32) :
    k0_pay19 (F := Ideal) (k0_pay2 a0 b0) (k0_pay6 (k0_pay3 a1 b1) (k0_pay4 a1 b1) (k0_pay5 a1 b1)) (k0_pay7 a2 b2) (k0_pay9 (k0_pay8 a3) b3)
      (k0_pay14 (k0_pay12 a4 b4) (k0_pay13 a4 b4)) (k0_pay15 a5 b5) (k0_pay16 a6 b6) (k0_pay17 a6 b6) (k0_pay18 a6 b6) a7 b7 u
    = mulf (concatenate S256x512 1 (List.ofFn fun i : Fin 8 => (⟨S256x64, k0_pay2 (F := Ideal) (![a0, a1, a2, a3, a4, a5, a6, a7] i) (![b0, b1, b2, b3, b4, b5, b6, b7] i)⟩ : (s : Shape) × FVec Ideal s .f32))
        concatenates_S256x64_S256x64_S256x64_S256x64_S256x64_S256x64_S256x64_S256x64_S256x512_d1)
      (broadcastTo S256x512 (shapeCast S1x512 u shapeCasts_S1x512_S1x512) broadcasts_S1x512_S256x512) := rfl

/-- The eight loads of a block of heads. -/
theorem heads_ld (x : FVec Ideal S1x8x256x64 .f32) (h : Fin 8) (r : Fin 256) (k : Fin 64) :
    (![View.ld (Val := Elt Ideal) (e' := .f32) x r0_0, View.ld (Val := Elt Ideal) (e' := .f32) x r0_1, View.ld (Val := Elt Ideal) (e' := .f32) x r0_2,
        View.ld (Val := Elt Ideal) (e' := .f32) x r0_3, View.ld (Val := Elt Ideal) (e' := .f32) x r0_4, View.ld (Val := Elt Ideal) (e' := .f32) x r0_5,
        View.ld (Val := Elt Ideal) (e' := .f32) x r0_6, View.ld (Val := Elt Ideal) (e' := .f32) x r0_7]
      : Fin 8 → FVec Ideal S1x1x256x64 .f32) h (ix4 (0 : Fin 1) (0 : Fin 1) r k) = x (ix4 (0 : Fin 1) h r k) := by
  fin_cases h
  all_goals
    refine congrArg x ?_
    idx_ext

variable (x x' : FVec Ideal S1x8x256x64 .f32) (g b : FVec Ideal S256x512 .f32) (u v : FVec Ideal S1x512 .f32) (r : Fin 256) (d : Fin 512)

/-- An entry of a block from its operands. -/
def blockAt : EReal :=
  (normHead (fun k => x (ix4 (0 : Fin 1) (⟨d.val / 64, by omega⟩ : Fin 8) r k) + x' (ix4 (0 : Fin 1) (⟨d.val / 64, by omega⟩ : Fin 8) r k))
    ⟨d.val % 64, by omega⟩ * u (ix2 (0 : Fin 1) d) + v (ix2 (0 : Fin 1) d) + b (ix2 r d)) * g (ix2 r d)

/-- The eight heads side by side, read in one of them. -/
theorem heads_apply (a b : Fin 8 → FVec Ideal S1x1x256x64 .f32) :
    (concatenate S256x512 1 (List.ofFn fun i : Fin 8 => (⟨S256x64, k0_pay2 (F := Ideal) (a i) (b i)⟩ : (s : Shape) × FVec Ideal s .f32))
        concatenates_S256x64_S256x64_S256x64_S256x64_S256x64_S256x64_S256x64_S256x64_S256x512_d1 : FVec Ideal S256x512 .f32) (ix2 r d)
      = k0_pay2 (F := Ideal) (a ⟨d.val / 64, by omega⟩) (b ⟨d.val / 64, by omega⟩) (ix2 r (⟨d.val % 64, by omega⟩ : Fin 64)) :=
  concatenate_ofFn_apply (t := S256x512) (s₁ := S256x64) (N := 8) 1 (fun i : Fin 8 => k0_pay2 (F := Ideal) (a i) (b i))
    concatenates_S256x64_S256x64_S256x64_S256x64_S256x64_S256x64_S256x64_S256x64_S256x512_d1 rfl 64 rfl (ix2 r d) ⟨d.val / 64, by omega⟩
    rfl (ix2 r (⟨d.val % 64, by omega⟩ : Fin 64)) rfl (fun e he => match e with
      | ⟨0, _⟩ => rfl
      | ⟨1, _⟩ => absurd rfl he)

/-- An entry of what the body leaves. -/
theorem block_apply : out0_6 (F := Ideal) x x' g b u v (ix2 r d) = blockAt x x' g b u v r d := by
  have key : ∀ a a' : Fin 8 → FVec Ideal S1x1x256x64 .f32,
      (∀ h k, a h (ix4 (0 : Fin 1) (0 : Fin 1) r k) = x (ix4 (0 : Fin 1) h r k)) →
      (∀ h k, a' h (ix4 (0 : Fin 1) (0 : Fin 1) r k) = x' (ix4 (0 : Fin 1) h r k)) →
      k0_pay1 (F := Ideal) (mulf (concatenate S256x512 1 (List.ofFn fun i : Fin 8 => (⟨S256x64, k0_pay2 (F := Ideal) (a i) (a' i)⟩ : (s : Shape) × FVec Ideal s .f32))
        concatenates_S256x64_S256x64_S256x64_S256x64_S256x64_S256x64_S256x64_S256x64_S256x512_d1)
      (broadcastTo S256x512 (shapeCast S1x512 u shapeCasts_S1x512_S1x512) broadcasts_S1x512_S256x512)) v b g (ix2 r d) = blockAt x x' g b u v r d := by
    intro a a' ha ha'
    unfold blockAt
    rw [← funext fun k => congrArg₂ (· + ·) (ha ⟨d.val / 64, by omega⟩ k) (ha' ⟨d.val / 64, by omega⟩ k), ← head_apply, ← heads_apply r d a a']
    generalize (concatenate S256x512 1 (List.ofFn fun i : Fin 8 => (⟨S256x64, k0_pay2 (F := Ideal) (a i) (a' i)⟩ : (s : Shape) × FVec Ideal s .f32))
        concatenates_S256x64_S256x64_S256x64_S256x64_S256x64_S256x64_S256x64_S256x64_S256x512_d1 : FVec Ideal S256x512 .f32) = y
    pointwise [k0_pay1]
  unfold out0_6
  rw [heads_eq]
  frame_out
  exact key _ _ (fun h k => heads_ld x h r k) (fun h k => heads_ld x' h r k)

/-- The result array after the run. -/
theorem final : (dats m 0 c).arrAt 6 cfg0.N = fun i : S16384x512.Idx =>
    endAt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (i 0) (i 1) := by
  refine Dat.arrAt_eq_of_covers (dats m 0 c) 6 _ (by decide +kernel) (fun t _ z => ?_)
  blk_simp
  rw [after0_6]
  obtain ⟨r, d, rfl⟩ : ∃ (r : Fin 256) (d : Fin 512), z = ix2 r d := ⟨z 0, z 1, by idx_ext⟩
  rw [block_apply]
  have ht : t.val < 64 := t.isLt
  have key : ∀ (n : Fin 16384) (d' : Fin 512), n.val = t.val * 256 + r.val → d'.val = d.val →
      blockAt (iblk m c 0 t) (iblk m c 1 t) (iblk m c 2 t) (iblk m c 3 t) (iblk m c 4 t) (iblk m c 5 t) r d = endAt
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) n d' := by
    intro n d' hn hd
    obtain rfl : d' = d := Fin.ext hd
    unfold endAt
    have hr := r.isLt
    have hb : n.val / 2048 = t.val / 8 := by omega
    have hs : n.val % 2048 = t.val % 8 * 256 + r.val := by omega
    exact congrArg₂ (· * ·) (congrArg₂ (· + ·) (congrArg₂ (· + ·) (congrArg₂ (· * ·) (congrArg (fun y => normHead y ⟨d'.val % 64, by omega⟩)
      (funext fun k => congrArg₂ (· + ·) (in_forward m c t _ r k _ _ _ hb rfl hs) (in_backward m c t _ r k _ _ _ hb rfl hs)))
      (in_gains m c t _)) (in_biases m c t _)) (in_bonus m c t r _ n hn)) (in_gate m c t r _ n hn)
  refine key _ _ ?_ ?_
  · blk_simp [places t]
  · blk_simp [places t]

end Cert.Kernel8Ideal.Own

namespace Cert.Reference8Ideal.Own

open Idealize.ShloMosaic Idealize.ShloMosaic.TcCoe Cert.Reference8Ideal.Gen Cert.Reference8Ideal.Read Cert.ScanEnd

variable [Cert.Reference8Ideal.Facts₀] [Cert.Reference8Ideal.Facts]
variable (x0 x1 : FVec Ideal S8x8x2048x64 .f32) (x2 x3 : FVec Ideal S16384x512 .f32) (x4 x5 : FVec Ideal S512 .f32)
  (b : Fin 8) (s : Fin 2048) (h : Fin 8)

/-- A head's columns after the two directions are added. -/
def columns (k : Fin 64) : EReal := x0 (ix4 b h s k) + x1 (ix4 b h s k)

theorem sum_apply (k : Fin 64) : val_main_v1 (F := Ideal) x0 x1 (ix4 b s h k) = columns x0 x1 b s h k := by
  rw [val_main_v1_apply, val_main_v0_apply]
  unfold columns
  refine congrArg₂ (· + ·) (congrArg x0 ?_) (congrArg x1 ?_)
  all_goals
    funext a
    fin_cases a
    all_goals rfl

theorem mean_apply (o : Fin 1) : val_main_v5 (F := Ideal) x0 x1 (ix4 b s h o) = mean (columns x0 x1 b s h) := by
  rw [val_main_v5_apply, val_main_v3_apply, val_main_v4_apply, val_main_v2_apply]
  unfold mean
  refine congrArg₂ Ideal.div (((congrArg (· + _) ?_).trans (zero_add _)).trans (Finset.sum_congr rfl fun k _ =>
    (congrArg (val_main_v1 (F := Ideal) x0 x1) ?_).trans (sum_apply x0 x1 b s h k))) rfl
  · show Ideal.ofBits .f32 0x0#32 = 0
    exact Ideal.ofBits_zero _
  · funext a
    fin_cases a
    all_goals rfl

theorem centred_apply (k : Fin 64) :
    val_main_v7 (F := Ideal) x0 x1 (ix4 b s h k) = columns x0 x1 b s h k - mean (columns x0 x1 b s h) := by
  rw [val_main_v7_apply, val_main_v6_apply]
  refine congrArg₂ (· - ·) (sum_apply x0 x1 b s h k) ((congrArg (val_main_v5 (F := Ideal) x0 x1) ?_).trans (mean_apply x0 x1 b s h 0))
  funext a
  fin_cases a
  all_goals rfl

theorem variance_apply (o : Fin 1) : val_main_v12 (F := Ideal) x0 x1 (ix4 b s h o) =
    mean (fun k => (columns x0 x1 b s h k - mean (columns x0 x1 b s h)) * (columns x0 x1 b s h k - mean (columns x0 x1 b s h))) := by
  rw [val_main_v12_apply, val_main_v10_apply, val_main_v11_apply, val_main_v9_apply]
  conv_rhs => unfold mean
  refine congrArg₂ Ideal.div (((congrArg (· + _) ?_).trans (zero_add _)).trans (Finset.sum_congr rfl fun k _ =>
    (congrArg (val_main_v8 (F := Ideal) x0 x1) ?_).trans (congrArg (fun e : EReal => e * e) (centred_apply x0 x1 b s h k)))) rfl
  · show Ideal.ofBits .f32 0x0#32 = 0
    exact Ideal.ofBits_zero _
  · funext a
    fin_cases a
    all_goals rfl

theorem normed_apply (k : Fin 64) : val_main_v19 (F := Ideal) x0 x1 (ix4 b s h k) = normHead (columns x0 x1 b s h) k := by
  rw [val_main_v19_apply, val_main_v14_apply, val_main_v13_apply, val_main_v18_apply, val_main_v17_apply, val_main_v16_apply]
  unfold normHead
  refine congrArg₂ (· * ·) (congrArg₂ (· - ·) (sum_apply x0 x1 b s h k) ((congrArg (val_main_v5 (F := Ideal) x0 x1) ?_).trans (mean_apply x0 x1 b s h 0)))
    (congrArg Ideal.rsqrt (congrArg₂ (· + ·) ((congrArg (val_main_v12 (F := Ideal) x0 x1) ?_).trans (variance_apply x0 x1 b s h 0)) rfl))
  all_goals
    funext a
    fin_cases a
    all_goals rfl

/-- The reference's result. -/
theorem value : val_main_v32 (F := Ideal) x0 x1 x2 x3 x4 x5 = fun i : S16384x512.Idx => endAt x0 x1 x2 x3 x4 x5 (i 0) (i 1) := by
  funext i
  obtain ⟨n, d, rfl⟩ : ∃ (n : Fin 16384) (d : Fin 512), i = ix2 n d := ⟨i 0, i 1, by idx_ext⟩
  have hn := n.isLt
  have hd := d.isLt
  simp only [val_main_v32_apply, val_main_v31_apply, val_main_v30_apply, val_main_v29_apply, val_main_v28_apply, val_main_v27_apply,
    val_main_v26_apply, val_main_v25_apply, val_main_v24_apply, val_main_v23_apply, val_main_v22_apply, val_main_v21_apply, val_main_v20_apply]
  unfold endAt
  refine congrArg₂ (· * ·) (congrArg₂ (· + ·) (congrArg₂ (· + ·) (congrArg₂ (· * ·) ((congrArg (val_main_v19 (F := Ideal) x0 x1) ?_).trans
    (normed_apply x0 x1 ⟨n.val / 2048, by omega⟩ ⟨n.val % 2048, by omega⟩ ⟨d.val / 64, by omega⟩ ⟨d.val % 64, by omega⟩)) (congrArg x4 ?_)) (congrArg x5 ?_)) (congrArg x3 ?_)) rfl
  all_goals
    funext a
    apply Fin.ext
    fin_cases a
    all_goals simp
    all_goals omega

end Cert.Reference8Ideal.Own

end
-- ==== Proof.EndsClaim.lean ====
/-
  The claims about the modulation and about the end of the second scan: the references leave their arguments and have no
  semaphore, and at the ideal instance each program's array is its reference's. No input is excluded.
-/
module

public import proofs.«01_k».proof.Defs
public import proofs.«01_k».proof.Proof.AdaLn
public import proofs.«01_k».proof.Proof.ScanEnd

@[expose] public section

noncomputable section

namespace Cert.Ends

open Idealize.ShloMosaic Idealize.SL.Sem

/-- The modulation: the reference leaves its arguments, and it has no semaphore. -/
theorem frame_modulation : Cert.quiescent_Reference7Ideal (hReference7Ideal := Cert.Reference7Ideal.Gen.facts) := by
  intro m g _
  have no_sem : ∀ s : SemLoc Cert.Reference7Ideal.sig, False := by decide
  exact (θ_run _ _ _).mono (fun r h => ⟨fun c => (h c).2, funext fun s => (no_sem s.2).elim⟩) (Cert.Reference7Ideal.Value.run m g)

/-- The modulation: the program and the reference leave the same array. -/
theorem modulation : Cert.algebraic_Kernel7Ideal_Reference7Ideal (hKernel7Ideal := Cert.Kernel7Ideal.Gen.facts)
    (hReference7Ideal := Cert.Reference7Ideal.Gen.facts) := by
  intro m g m' g' _ hargs
  letI := Cert.Kernel7Ideal.Gen.facts
  letI := Cert.Reference7Ideal.Gen.facts
  refine ⟨fun c => Cert.Reference7Ideal.Read.val_main_v19 (F := Ideal) (m ((c.tc : Thread _ _).loc Cert.Kernel7Ideal.main_arg0))
    (m ((c.tc : Thread _ _).loc Cert.Kernel7Ideal.main_arg1))
    (m ((c.tc : Thread _ _).loc Cert.Kernel7Ideal.main_arg2)), ?_, ?_⟩
  · exact (θ_run _ _ _).mono (fun r h c => ⟨(h c).1.trans ((Cert.Kernel7Ideal.Own.final m c).trans (Cert.Reference7Ideal.Own.value _ _ _).symm),
      (h c).2⟩) (Cert.Kernel7Ideal.Value.run_blocks m g)
  · refine (θ_run _ _ _).mono (fun r h c => ?_) (Cert.Reference7Ideal.Value.run m' g')
    obtain ⟨e0, e1, e2⟩ := hargs c
    exact ⟨(h c).1.trans ((Cert.Reference7Ideal.Read.val_main_v19_eq _ _ _).trans (congr (congr (congrArg (Cert.Reference7Ideal.Read.val_main_v19 (F := Ideal)) e0) e1) e2)),
      (h c).2⟩

/-- The end of the second scan: the reference leaves its arguments, and it has no semaphore. -/
theorem frame_scan_end : Cert.quiescent_Reference8Ideal (hReference8Ideal := Cert.Reference8Ideal.Gen.facts) := by
  intro m g _
  have no_sem : ∀ s : SemLoc Cert.Reference8Ideal.sig, False := by decide
  exact (θ_run _ _ _).mono (fun r h => ⟨fun c => (h c).2, funext fun s => (no_sem s.2).elim⟩) (Cert.Reference8Ideal.Value.run m g)

/-- The end of the second scan: the program and the reference leave the same array. -/
theorem scan_end : Cert.algebraic_Kernel8Ideal_Reference8Ideal (hKernel8Ideal := Cert.Kernel8Ideal.Gen.facts)
    (hReference8Ideal := Cert.Reference8Ideal.Gen.facts) := by
  intro m g m' g' _ hargs
  letI := Cert.Kernel8Ideal.Gen.facts
  letI := Cert.Reference8Ideal.Gen.facts
  refine ⟨fun c => Cert.Reference8Ideal.Read.val_main_v32 (F := Ideal) (m ((c.tc : Thread _ _).loc Cert.Kernel8Ideal.main_arg0))
    (m ((c.tc : Thread _ _).loc Cert.Kernel8Ideal.main_arg1))
    (m ((c.tc : Thread _ _).loc Cert.Kernel8Ideal.main_arg2))
    (m ((c.tc : Thread _ _).loc Cert.Kernel8Ideal.main_arg3))
    (m ((c.tc : Thread _ _).loc Cert.Kernel8Ideal.main_arg4))
    (m ((c.tc : Thread _ _).loc Cert.Kernel8Ideal.main_arg5)), ?_, ?_⟩
  · exact (θ_run _ _ _).mono (fun r h c => ⟨(h c).1.trans ((Cert.Kernel8Ideal.Own.final m c).trans (Cert.Reference8Ideal.Own.value _ _ _ _ _ _).symm),
      (h c).2⟩) (Cert.Kernel8Ideal.Value.run_blocks m g)
  · refine (θ_run _ _ _).mono (fun r h c => ?_) (Cert.Reference8Ideal.Value.run m' g')
    obtain ⟨e0, e1, e2, e3, e4, e5⟩ := hargs c
    exact ⟨(h c).1.trans ((Cert.Reference8Ideal.Read.val_main_v32_eq _ _ _ _ _ _).trans (congr (congr (congr (congr (congr (congrArg (Cert.Reference8Ideal.Read.val_main_v32 (F := Ideal)) e0) e1) e2) e3) e4) e5)),
      (h c).2⟩

end Cert.Ends

end
-- ==== Proof.ScanPrepBlock.lean ====
/-
  What comes before the second scan: the mathematics of a row, and what one block of the kernel holds.
-/
module

public import proofs.«01_k».proof.Proof.Gen.Kernel9Ideal.Value
public import Idealize.ShloMosaic.Lib.Pipeline.ValueKit
public import Idealize.ShloMosaic.Lib.KernelVsHost

@[expose] public section

set_option maxRecDepth 16384

noncomputable section

namespace Cert.ScanPrep

open Idealize.ShloMosaic

/-- A number moved towards the mean of its two neighbours. -/
def shifted (x before after μ : EReal) : EReal := x + μ * (Ideal.ofBits .f32 0x3F000000#32 * (before + after) - x)

/-- The logarithm of 1 + exp, as its two operands' larger one and a correction. -/
def softplus (z : EReal) : EReal := max z 0 + Ideal.log (1 + Ideal.exp (-(max z (-z))))

/-- The logarithm of a decay from its code `x`, its column `w` of weights and its bias `b`. -/
def logDecay (x w : Fin 64 → EReal) (b : EReal) : EReal :=
  -Ideal.exp (-softplus (-(b + ∑ k, Ideal.tanh (x k) * w k)) - Ideal.ofBits .f32 0x3F000000#32)

/-- The logistic function. -/
def squash (z : EReal) : EReal := Ideal.div 1 (1 + Ideal.exp (-z))

/-- The learning rate from its code, its column of weights and its bias. -/
def rate (x w : Fin 64 → EReal) (b : EReal) : EReal := squash (b + ∑ k, x k * w k)

/-- The output gate from its code and its column of weights. -/
def gate (x w : Fin 128 → EReal) : EReal := ∑ k, squash (x k) * w k

/-- The sum over the head that holds column `d`. -/
def headSum (x : Fin 512 → EReal) (d : Fin 512) : EReal := ∑ k : Fin 64, x ⟨d.val / 64 * 64 + k.val, by omega⟩

/-- A column over its head's length, which is at least 1e-12. -/
def unit (x : Fin 512 → EReal) (d : Fin 512) : EReal :=
  Ideal.div (x d) (max (Ideal.sqrt (headSum (fun e => x e * x e) d)) (Ideal.ofBits .f32 0x2B8CBCCC#32))

/-- A key under its learning rate `a`. -/
def keyed (k a u : EReal) : EReal := k * (1 + (a - 1) * u)

/-- A row's parts, from its 1856 columns `T`: receptance, key and value. -/
def rOf (T : Fin 1856 → EReal) (d : Fin 512) : EReal := T ⟨d.val, by omega⟩
def kOf (T : Fin 1856 → EReal) (d : Fin 512) : EReal := T ⟨512 + d.val, by omega⟩
def vOf (T : Fin 1856 → EReal) (d : Fin 512) : EReal := T ⟨1024 + d.val, by omega⟩

/-- The two directions' logarithms of decays. -/
def decayF (T : Fin 1856 → EReal) (w : Fin 64 → Fin 512 → EReal) (b : Fin 512 → EReal) (d : Fin 512) : EReal :=
  logDecay (fun k => T ⟨1536 + k.val, by omega⟩) (fun k => w k d) (b d)
def decayB (T : Fin 1856 → EReal) (w : Fin 64 → Fin 512 → EReal) (b : Fin 512 → EReal) (d : Fin 512) : EReal :=
  logDecay (fun k => T ⟨1600 + k.val, by omega⟩) (fun k => w k d) (b d)

/-- The learning rate and the gate. -/
def rateOf (T : Fin 1856 → EReal) (w : Fin 64 → Fin 512 → EReal) (b : Fin 512 → EReal) (d : Fin 512) : EReal :=
  rate (fun k => T ⟨1664 + k.val, by omega⟩) (fun k => w k d) (b d)
def gateOf (T : Fin 1856 → EReal) (w : Fin 128 → Fin 512 → EReal) (d : Fin 512) : EReal :=
  gate (fun k => T ⟨1728 + k.val, by omega⟩) (fun k => w k d)

/-- The unit key, the key under its rate, and the bonus. -/
def unitOf (T : Fin 1856 → EReal) (u : Fin 512 → EReal) (d : Fin 512) : EReal := unit (fun e => kOf T e * u e) d
def keyOf (T : Fin 1856 → EReal) (w : Fin 64 → Fin 512 → EReal) (b u : Fin 512 → EReal) (d : Fin 512) : EReal :=
  keyed (kOf T d) (rateOf T w b d) (u d)
def bonusOf (T : Fin 1856 → EReal) (w : Fin 64 → Fin 512 → EReal) (b u u' : Fin 512 → EReal) (d : Fin 512) : EReal :=
  headSum (fun e => rOf T e * keyOf T w b u e * u' e) d * vOf T d

/-- A row of the argument after the shift: a row's neighbours are those of its own sequence of 2048, and 0 outside. -/
def rowOf (P : FVec Ideal ⟨2, ![16384, 1856]⟩ .f32) (μ : FVec Ideal ⟨1, ![1856]⟩ .f32) (n : Fin 16384) (j : Fin 1856) : EReal :=
  shifted (P (ix2 n j)) (if n.val % 2048 = 0 then 0 else P (ix2 (⟨n.val - 1, by omega⟩ : Fin 16384) j))
    (if h : n.val % 2048 = 2047 then 0 else P (ix2 (⟨n.val + 1, by omega⟩ : Fin 16384) j)) (μ (ix1 j))

/-- The row of position `s` of sequence `b`, and the column `k` of head `h`. -/
def tokenOf (b : Fin 8) (s : Fin 2048) : Fin 16384 := ⟨b.val * 2048 + s.val, by omega⟩
def columnOf (h : Fin 8) (k : Fin 64) : Fin 512 := ⟨h.val * 64 + k.val, by omega⟩

end Cert.ScanPrep

namespace Cert.Kernel9Ideal.Own

open Idealize.ShloMosaic Idealize.ShloMosaic.TcCoe Idealize.ShloMosaic.StableHlo
open Cert.Kernel9Ideal.Gen Cert.ScanPrep

variable (r : Fin 256) (d : Fin 512)

theorem decay_apply (x : FVec Ideal S256x64 .f32) (b : FVec Ideal S1x512 .f32) (w : FVec Ideal S1x64x512 .bf16) :
    k0_pay12 (F := Ideal) x b w (ix2 r d) = logDecay (fun k => x (ix2 r k)) (fun k => w (ix3 (0 : Fin 1) k d)) (b (ix2 (0 : Fin 1) d)) := by
  unfold logDecay softplus
  pointwise [k0_pay12]
  simp only [zero_sub]
  rfl

/-- The second direction's logarithm is made as the first's is. -/
theorem decay_eq (x : FVec Ideal S256x64 .f32) (b : FVec Ideal S1x512 .f32) (w : FVec Ideal S1x64x512 .bf16) :
    k0_pay15 (F := Ideal) (k0_pay13 x b w) k0_pay14 = k0_pay12 x b w := rfl

theorem rate_apply (x : FVec Ideal S256x64 .f32) (b : FVec Ideal S1x512 .f32) (w : FVec Ideal S64x512 .bf16) :
    k0_pay16 (F := Ideal) x b w (ix2 r d) = rate (fun k => x (ix2 r k)) (fun k => w (ix2 k d)) (b (ix2 (0 : Fin 1) d)) := by
  unfold rate squash
  pointwise [k0_pay16]
  simp only [zero_sub]

theorem gate_apply (x : FVec Ideal S256x128 .f32) (w : FVec Ideal S128x512 .bf16) :
    k0_pay19 (F := Ideal) (k0_pay17 x) (k0_pay18 w) (constant S256x512 .f32 0x00000000#32) (ix2 r d)
      = gate (fun k => x (ix2 r k)) (fun k => w (ix2 k d)) := by
  unfold gate squash
  pointwise [k0_pay19, k0_pay17, k0_pay18]
  simp only [zero_sub]

theorem keyed_apply (k a : FVec Ideal S256x512 .f32) (u : FVec Ideal S1x512 .f32) :
    k0_pay22 (F := Ideal) k a u (ix2 r d) = keyed (k (ix2 r d)) (a (ix2 r d)) (u (ix2 (0 : Fin 1) d)) := by
  unfold keyed
  pointwise [k0_pay22]

/-- A matrix that is 1 where a row and a column lie in one head, else 0. -/
def IsHeads (o : FVec Ideal S512x512 .f32) : Prop := ∀ a b : Fin 512, o (ix2 a b) = if a.val / 64 = b.val / 64 then 1 else 0

/-- A sum over all columns against that matrix is a sum over one head. -/
theorem sum_heads {o : FVec Ideal S512x512 .f32} (ho : IsHeads o) (x : Fin 512 → EReal) :
    ∑ k : Fin 512, x k * o (ix2 k d) = headSum x d := by
  unfold headSum
  simp only [ho _ d, mul_ite, mul_one, mul_zero]
  rw [← Finset.sum_filter]
  have hd := d.isLt
  refine (Finset.sum_bij (fun k _ => (⟨d.val / 64 * 64 + k.val, by omega⟩ : Fin 512)) ?_ ?_ ?_ ?_).symm
  · intro k _
    have := k.isLt
    simp only [Finset.mem_filter, Finset.mem_univ, true_and]
    omega
  · intro k _ k' _ h
    have := congrArg Fin.val h
    simp only at this
    exact Fin.ext (by omega)
  · intro k hk
    simp only [Finset.mem_filter, Finset.mem_univ, true_and] at hk
    have := k.isLt
    exact ⟨⟨k.val % 64, by omega⟩, Finset.mem_univ _, Fin.ext (by show d.val / 64 * 64 + k.val % 64 = k.val; omega)⟩
  · intro k _
    rfl

theorem unit_apply {o : FVec Ideal S512x512 .f32} (ho : IsHeads o) (k : FVec Ideal S256x512 .f32) (u : FVec Ideal S1x512 .f32) :
    k0_pay21 (F := Ideal) k u o (ix2 r d) = unit (fun e => k (ix2 r e) * u (ix2 (0 : Fin 1) e)) d := by
  unfold unit
  rw [← sum_heads d ho]
  pointwise [k0_pay21, k0_pay20]

theorem bonus_apply {o : FVec Ideal S512x512 .f32} (ho : IsHeads o) (q k v a : FVec Ideal S256x512 .f32) (u u' : FVec Ideal S1x512 .f32) :
    k0_pay23 (F := Ideal) q k v a o u u' (ix2 r d) =
      headSum (fun e => q (ix2 r e) * keyed (k (ix2 r e)) (a (ix2 r e)) (u (ix2 (0 : Fin 1) e)) * u' (ix2 (0 : Fin 1) e)) d * v (ix2 r d) := by
  rw [← sum_heads d ho]
  simp only [← keyed_apply]
  generalize hk : k0_pay22 (F := Ideal) k a u = y
  unfold k0_pay23
  rw [hk]
  pointwise [k0_pay20]

theorem select_nat (a c : Nat) (ha : a < 2 ^ 32) (hc : c < 2 ^ 32) (x y : EReal) :
    Scalar.select (IntOp.cmpi .eq (BitVec.ofNat 32 a) (BitVec.ofNat 32 c)) x y = if a = c then x else y := by
  by_cases h : a = c
  · subst h
    simp [IntOp.cmpi, Scalar.select]
  · have : BitVec.ofNat 32 a ≠ BitVec.ofNat 32 c := fun e => h (by
      have := congrArg BitVec.toNat e
      simp only [BitVec.toNat_ofNat] at this
      omega)
    have e : (BitVec.ofNat 32 a == BitVec.ofNat 32 c) = false := by simpa using this
    simp [IntOp.cmpi, Scalar.select, e, h]

theorem shifted_apply (i : grid0.Coords) (x : FVec Ideal S256x1856 .f32) (p n μ : FVec Ideal S1x1856 .f32) (j : Fin 1856) :
    k0_pay4 (F := Ideal) i x p n μ (ix2 r j) = shifted (x (ix2 r j))
      (if r.val = 0 then (if (i 1).val = 0 then 0 else p (ix2 (0 : Fin 1) j)) else x (ix2 (⟨r.val - 1, by omega⟩ : Fin 256) j))
      (if h : r.val = 255 then (if (i 1).val = 7 then 0 else n (ix2 (0 : Fin 1) j)) else x (ix2 (⟨r.val + 1, by omega⟩ : Fin 256) j)) (μ (ix2 (0 : Fin 1) j)) := by
  have hr := r.isLt
  have hi : (i 1).val < 8 := (i 1).isLt
  unfold shifted
  pointwise [k0_pay4]
  refine congrArg (fun e => x (ix2 r j) + μ (ix2 (0 : Fin 1) j) * (Ideal.ofBits .f32 0x3F000000#32 * e - x (ix2 r j))) (congrArg₂ (· + ·) ?_ ?_)
  · refine (select_nat r.val 0 (by omega) (by omega) _ _).trans ?_
    by_cases h : r.val = 0
    · rw [if_pos h, if_pos h]
      exact select_nat (i 1).val 0 (by omega) (by omega) _ _
    · rw [if_neg h, if_neg h]
      refine congrArg x ?_
      idx_ext
  · refine (select_nat r.val 255 (by omega) (by omega) _ _).trans ?_
    by_cases h : r.val = 255
    · rw [if_pos h, dif_pos h]
      exact select_nat (i 1).val 7 (by omega) (by omega) _ _
    · rw [if_neg h, dif_neg h]
      refine congrArg x ?_
      idx_ext

/-- A block of 512 columns written head by head. -/
def spread (y : FVec Ideal S256x512 .f32) : Vec Ideal S1x8x256x64 .f32 :=
  View.canon [⟨r0_20, k0_pay79 y⟩, ⟨r0_19, k0_pay72 y⟩, ⟨r0_18, k0_pay64 y⟩, ⟨r0_17, k0_pay57 y⟩, ⟨r0_16, k0_pay49 y⟩,
    ⟨r0_15, k0_pay41 (k0_pay40 y)⟩, ⟨r0_14, k0_pay33 (k0_pay32 y)⟩, ⟨r0_13, k0_pay24 y⟩]

theorem spread_apply (y : FVec Ideal S256x512 .f32) (h : Fin 8) (k : Fin 64) :
    spread y (ix4 (0 : Fin 1) h r k) = y (ix2 r (columnOf h k)) := by
  refine View.canon_apply_of_pieces (Val := Elt Ideal) (e := .f32) (fun i : S1x8x256x64.Idx => y (ix2 (i 2) (columnOf (i 1) (i 3)))) _ ?_ _ (cover0_13 _ _ _ _ _ _ _ _ _)
  have key : ∀ (r r' : Fin 256) (d : Fin 512) (h : Fin 8) (k : Fin 64), r'.val = r.val → h.val * 64 + k.val = d.val →
      y (ix2 r d) = y (ix2 r' (columnOf h k)) := fun r r' d h k e e' => by
    obtain rfl : r' = r := Fin.ext e
    obtain rfl : d = columnOf h k := Fin.ext e'.symm
    rfl
  intro p hp x
  simp only [List.mem_cons, List.not_mem_nil, or_false] at hp
  rcases hp with rfl | rfl | rfl | rfl | rfl | rfl | rfl | rfl
  all_goals
    obtain ⟨a, b, r, k, rfl⟩ : ∃ (a b : Fin 1) (r : Fin 256) (k : Fin 64), x = ix4 a b r k := ⟨x 0, x 1, x 2, x 3, by idx_ext⟩
    pointwise [k0_pay79, k0_pay72, k0_pay64, k0_pay57, k0_pay49, k0_pay41, k0_pay40, k0_pay33, k0_pay32, k0_pay24]
    refine key _ _ _ _ _ ?_ ?_ <;> blk_simp <;> omega

variable (i : grid0.Coords) (x0 : Vec Ideal S256x1856 .f32) (x1 x2 : Vec Ideal S8x1856 .f32) (x3 : Vec Ideal S1x1856 .f32)
  (x4 : Vec Ideal S2x512 .f32) (x5 : Vec Ideal S2x64x512 .bf16) (x6 : Vec Ideal S1x512 .f32) (x7 : Vec Ideal S64x512 .bf16)
  (x8 : Vec Ideal S128x512 .bf16) (x9 x10 x11 : Vec Ideal S1x512 .f32) (x12 : Vec Ideal S512x512 .f32)

/-- Each result's block is spread in the same way. -/
theorem out_eq :
    out0_13 (F := Ideal) i x0 x1 x2 x3 x4 x5 x6 x7 x8 x9 x10 x11 x12 = spread (k0_pay84 i x0 x1 x2 x3 x4 x5 x6 x7 x8 x9 x10 x11 x12)
    ∧ out0_14 (F := Ideal) i x0 x1 x2 x3 x4 x5 x6 x7 x8 x9 x10 x11 x12 = spread (k0_pay91 i x0 x1 x2 x3 x4 x5 x6 x7 x8 x9 x10 x11 x12)
    ∧ out0_15 (F := Ideal) i x0 x1 x2 x3 x4 x5 x6 x7 x8 x9 x10 x11 x12 = spread (k0_pay86 i x0 x1 x2 x3 x4 x5 x6 x7 x8 x9 x10 x11 x12)
    ∧ out0_16 (F := Ideal) i x0 x1 x2 x3 x4 x5 x6 x7 x8 x9 x10 x11 x12 = spread (k0_pay90 i x0 x1 x2 x3 x4 x5 x6 x7 x8 x9 x10 x11 x12)
    ∧ out0_17 (F := Ideal) i x0 x1 x2 x3 x4 x5 x6 x7 x8 x9 x10 x11 x12 = spread (mulf (k0_pay90 i x0 x1 x2 x3 x4 x5 x6 x7 x8 x9 x10 x11 x12)
        (k0_pay89 i x0 x1 x2 x3 x4 x5 x6 x7 x8 x9 x10 x11 x12))
    ∧ out0_18 (F := Ideal) i x0 x1 x2 x3 x4 x5 x6 x7 x8 x9 x10 x11 x12 = spread (k0_pay87 i x0 x1 x2 x3 x4 x5 x6 x7 x8 x9 x10 x11 x12)
    ∧ out0_19 (F := Ideal) i x0 x1 x2 x3 x4 x5 x6 x7 x8 x9 x10 x11 x12 = spread (k0_pay88 i x0 x1 x2 x3 x4 x5 x6 x7 x8 x9 x10 x11 x12) :=
  ⟨rfl, rfl, rfl, rfl, rfl, rfl, rfl⟩

/-- A row of a block after the shift. -/
def rowAt (j : Fin 1856) : EReal := shifted (x0 (ix2 r j))
  (if r.val = 0 then (if (i 1).val = 0 then 0 else x1 (ix2 (7 : Fin 8) j)) else x0 (ix2 (⟨r.val - 1, by omega⟩ : Fin 256) j))
  (if h : r.val = 255 then (if (i 1).val = 7 then 0 else x2 (ix2 (0 : Fin 8) j)) else x0 (ix2 (⟨r.val + 1, by omega⟩ : Fin 256) j)) (x3 (ix2 (0 : Fin 1) j))

theorem row_apply (j : Fin 1856) :
    k0_pay4 (F := Ideal) i (View.ld x0 r0_0) (View.ld x1 r0_1) (View.ld x2 r0_2) (View.ld x3 r0_3) (ix2 r j) = rowAt r i x0 x1 x2 x3 j := by
  have e0 : View.ld (Val := Elt Ideal) (e' := .f32) x0 r0_0 = x0 := View.ld_unit_lit _ _ (by decide)
  have e3 : View.ld (Val := Elt Ideal) (e' := .f32) x3 r0_3 = x3 := View.ld_unit_lit _ _ (by decide)
  have e1 : View.ld (Val := Elt Ideal) (e' := .f32) x1 r0_1 (ix2 (0 : Fin 1) j) = x1 (ix2 (7 : Fin 8) j) := congrArg x1 (by idx_ext)
  have e2 : View.ld (Val := Elt Ideal) (e' := .f32) x2 r0_2 (ix2 (0 : Fin 1) j) = x2 (ix2 (0 : Fin 8) j) := congrArg x2 (by idx_ext)
  rw [shifted_apply, e0, e3, e1, e2]
  rfl

end Cert.Kernel9Ideal.Own

end
-- ==== Proof.ScanPrep.lean ====
/-
  What comes before the second scan: the kernel's nine arrays.
-/
module

public import proofs.«01_k».proof.Proof.ScanPrepBlock

@[expose] public section

set_option maxRecDepth 16384

noncomputable section

namespace Cert.Kernel9Ideal.Own

open Idealize.ShloMosaic Idealize.ShloMosaic.TcCoe Idealize.ShloMosaic.Tactic Cert.Kernel9Ideal.Gen Cert.ScanPrep
open Idealize.ShloMosaic.Pipeline (Dat)

section Block

variable (i : grid0.Coords) (x0 : Vec Ideal S256x1856 .f32) (x1 x2 : Vec Ideal S8x1856 .f32) (x3 : Vec Ideal S1x1856 .f32)
  (x4 : Vec Ideal S2x512 .f32) (x5 : Vec Ideal S2x64x512 .bf16) (x6 : Vec Ideal S1x512 .f32) (x7 : Vec Ideal S64x512 .bf16)
  (x8 : Vec Ideal S128x512 .bf16) (x9 x10 x11 : Vec Ideal S1x512 .f32) (x12 : Vec Ideal S512x512 .f32) (r : Fin 256) (d : Fin 512)

/-- A whole row of 512 is read as it lies. -/
theorem ld_row (x : Vec Ideal S1x512 .f32) : View.ld (Val := Elt Ideal) (e' := .f32) x r0_8 = x := View.ld_unit_lit _ _ (by decide)

theorem r_apply : k0_pay84 (F := Ideal) i x0 x1 x2 x3 x4 x5 x6 x7 x8 x9 x10 x11 x12 (ix2 r d) = rOf (rowAt r i x0 x1 x2 x3) d := by
  unfold rOf
  rw [← row_apply]
  unfold k0_pay84
  pointwise [k0_pay5]

theorem k_apply : k0_pay85 (F := Ideal) i x0 x1 x2 x3 x4 x5 x6 x7 x8 x9 x10 x11 x12 (ix2 r d) = kOf (rowAt r i x0 x1 x2 x3) d := by
  unfold kOf
  rw [← row_apply]
  unfold k0_pay85
  pointwise [k0_pay6]

theorem v_apply : k0_pay86 (F := Ideal) i x0 x1 x2 x3 x4 x5 x6 x7 x8 x9 x10 x11 x12 (ix2 r d) = vOf (rowAt r i x0 x1 x2 x3) d := by
  unfold vOf
  rw [← row_apply]
  unfold k0_pay86
  pointwise [k0_pay7]

theorem decayF_apply : k0_pay87 (F := Ideal) i x0 x1 x2 x3 x4 x5 x6 x7 x8 x9 x10 x11 x12 (ix2 r d)
    = decayF (rowAt r i x0 x1 x2 x3) (fun k d => x5 (ix3 (0 : Fin 2) k d)) (fun d => x4 (ix2 (0 : Fin 2) d)) d := by
  unfold decayF
  simp only [← row_apply]
  unfold k0_pay87
  rw [decay_apply]
  have h (k : Fin 64) : k0_pay8 (F := Ideal) i (View.ld x0 r0_0) (View.ld x1 r0_1) (View.ld x2 r0_2) (View.ld x3 r0_3) (ix2 r k) = k0_pay4 i (View.ld x0 r0_0) (View.ld x1 r0_1) (View.ld x2 r0_2) (View.ld x3 r0_3) (ix2 r ⟨1536 + k.val, by omega⟩) := by
    pointwise [k0_pay8]
  simp only [h]
  refine congrArg₂ (logDecay _) (funext fun k => congrArg x5 ?_) (congrArg x4 ?_) <;> idx_ext

theorem decayB_apply : k0_pay88 (F := Ideal) i x0 x1 x2 x3 x4 x5 x6 x7 x8 x9 x10 x11 x12 (ix2 r d)
    = decayB (rowAt r i x0 x1 x2 x3) (fun k d => x5 (ix3 (1 : Fin 2) k d)) (fun d => x4 (ix2 (1 : Fin 2) d)) d := by
  unfold decayB
  simp only [← row_apply]
  unfold k0_pay88
  rw [decay_eq, decay_apply]
  have h (k : Fin 64) : k0_pay9 (F := Ideal) i (View.ld x0 r0_0) (View.ld x1 r0_1) (View.ld x2 r0_2) (View.ld x3 r0_3) (ix2 r k) = k0_pay4 i (View.ld x0 r0_0) (View.ld x1 r0_1) (View.ld x2 r0_2) (View.ld x3 r0_3) (ix2 r ⟨1600 + k.val, by omega⟩) := by
    pointwise [k0_pay9]
  simp only [h]
  refine congrArg₂ (logDecay _) (funext fun k => congrArg x5 ?_) (congrArg x4 ?_) <;> idx_ext

theorem rateOf_apply : k0_pay89 (F := Ideal) i x0 x1 x2 x3 x4 x5 x6 x7 x8 x9 x10 x11 x12 (ix2 r d)
    = rateOf (rowAt r i x0 x1 x2 x3) (fun k d => x7 (ix2 k d)) (fun d => x6 (ix2 (0 : Fin 1) d)) d := by
  unfold rateOf
  simp only [← row_apply]
  unfold k0_pay89
  rw [rate_apply, ld_row, (View.ld_unit_lit _ _ (by decide) : View.ld (Val := Elt Ideal) (e' := .bf16) x7 r0_9 = x7)]
  have h (k : Fin 64) : k0_pay10 (F := Ideal) i (View.ld x0 r0_0) (View.ld x1 r0_1) (View.ld x2 r0_2) (View.ld x3 r0_3) (ix2 r k) = k0_pay4 i (View.ld x0 r0_0) (View.ld x1 r0_1) (View.ld x2 r0_2) (View.ld x3 r0_3) (ix2 r ⟨1664 + k.val, by omega⟩) := by
    pointwise [k0_pay10]
  simp only [h]

theorem unitOf_apply (ho : IsHeads x12) : k0_pay90 (F := Ideal) i x0 x1 x2 x3 x4 x5 x6 x7 x8 x9 x10 x11 x12 (ix2 r d)
    = unitOf (rowAt r i x0 x1 x2 x3) (fun d => x9 (ix2 (0 : Fin 1) d)) d := by
  unfold unitOf k0_pay90
  rw [ld_row, (View.ld_unit_lit _ _ (by decide) : View.ld (Val := Elt Ideal) (e' := .f32) x12 r0_11 = x12), unit_apply r d ho]
  simp only [k_apply]

theorem keyOf_apply : k0_pay91 (F := Ideal) i x0 x1 x2 x3 x4 x5 x6 x7 x8 x9 x10 x11 x12 (ix2 r d)
    = keyOf (rowAt r i x0 x1 x2 x3) (fun k d => x7 (ix2 k d)) (fun d => x6 (ix2 (0 : Fin 1) d)) (fun d => x10 (ix2 (0 : Fin 1) d)) d := by
  unfold keyOf k0_pay91
  rw [ld_row, keyed_apply, k_apply, rateOf_apply]

theorem gateOf_apply : out0_20 (F := Ideal) i x0 x1 x2 x3 x4 x5 x6 x7 x8 x9 x10 x11 x12 (ix2 r d) = gateOf (rowAt r i x0 x1 x2 x3) (fun k d => x8 (ix2 k d)) d := by
  unfold gateOf
  simp only [← row_apply]
  unfold out0_20
  frame_out
  rw [gate_apply]
  refine congrArg (fun x => gate x _) (funext fun k => ?_)
  pointwise [k0_pay11]

theorem bonusOf_apply (ho : IsHeads x12) : out0_21 (F := Ideal) i x0 x1 x2 x3 x4 x5 x6 x7 x8 x9 x10 x11 x12 (ix2 r d)
    = bonusOf (rowAt r i x0 x1 x2 x3) (fun k d => x7 (ix2 k d)) (fun d => x6 (ix2 (0 : Fin 1) d)) (fun d => x10 (ix2 (0 : Fin 1) d))
      (fun d => x11 (ix2 (0 : Fin 1) d)) d := by
  unfold bonusOf keyOf
  simp only [← r_apply i x0 x1 x2 x3 x4 x5 x6 x7 x8 x9 x10 x11 x12, ← k_apply i x0 x1 x2 x3 x4 x5 x6 x7 x8 x9 x10 x11 x12, ← v_apply i x0 x1 x2 x3 x4 x5 x6 x7 x8 x9 x10 x11 x12, ← rateOf_apply i x0 x1 x2 x3 x4 x5 x6 x7 x8 x9 x10 x11 x12]
  unfold out0_21
  frame_out
  rw [bonus_apply r d ho]

end Block

section Whole

variable (m : (ℓ : Loc nD τ sig) → Buf (Elt Ideal) ℓ) (c : Dev nD)

/-- The mixing weights at the region's entry. -/
theorem entry_0 : V m c main_v6 = (shapeCast S1x1856
    (m ((c.tc : Thread nD τ).loc main_arg1) : FVec Ideal S1856 .f32) shapeCasts_S1856_S1x1856 : FVec Ideal S1x1856 .f32) := by
  simp only [V, hostOps0]
  after_results_simp
  rfl

/-- The decays' weights at the region's entry. -/
theorem entry_1 : V m c main_v7 = (truncf .bf16 (m ((c.tc : Thread nD τ).loc main_arg3) : FVec Ideal S2x64x512 .f32) bitsLt_bf16_f32 :
    FVec Ideal S2x64x512 .bf16) := by
  simp only [V, hostOps0]
  after_results_simp

/-- The rate's bias at the region's entry. -/
theorem entry_2 : V m c main_v8 = (shapeCast S1x512
    (m ((c.tc : Thread nD τ).loc main_arg4) : FVec Ideal S512 .f32) shapeCasts_S512_S1x512 : FVec Ideal S1x512 .f32) := by
  simp only [V, hostOps0]
  after_results_simp
  rfl

/-- The rate's weights at the region's entry. -/
theorem entry_3 : V m c main_v9 = (truncf .bf16 (m ((c.tc : Thread nD τ).loc main_arg5) : FVec Ideal S64x512 .f32) bitsLt_bf16_f32 :
    FVec Ideal S64x512 .bf16) := by
  simp only [V, hostOps0]
  after_results_simp

/-- The gate's weights at the region's entry. -/
theorem entry_4 : V m c main_v10 = (truncf .bf16 (m ((c.tc : Thread nD τ).loc main_arg6) : FVec Ideal S128x512 .f32) bitsLt_bf16_f32 :
    FVec Ideal S128x512 .bf16) := by
  simp only [V, hostOps0]
  after_results_simp

/-- The unit key's gains at the region's entry. -/
theorem entry_5 : V m c main_v11 = (shapeCast S1x512
    (m ((c.tc : Thread nD τ).loc main_arg7) : FVec Ideal S512 .f32) shapeCasts_S512_S1x512 : FVec Ideal S1x512 .f32) := by
  simp only [V, hostOps0]
  after_results_simp
  rfl

/-- The key's gains at the region's entry. -/
theorem entry_6 : V m c main_v12 = (shapeCast S1x512
    (m ((c.tc : Thread nD τ).loc main_arg8) : FVec Ideal S512 .f32) shapeCasts_S512_S1x512 : FVec Ideal S1x512 .f32) := by
  simp only [V, hostOps0]
  after_results_simp
  rfl

/-- The bonus's gains at the region's entry. -/
theorem entry_7 : V m c main_v13 = (shapeCast S1x512
    (m ((c.tc : Thread nD τ).loc main_arg9) : FVec Ideal S512 .f32) shapeCasts_S512_S1x512 : FVec Ideal S1x512 .f32) := by
  simp only [V, hostOps0]
  after_results_simp
  rfl

/-- Where each window lies at a point. -/
theorem places : ∀ t : Fin cfg0.N,
    win0_0.index t = ![t.val, 0] ∧ win0_1.index t = ![t.val * 32 - 1, 0] ∧ win0_2.index t = ![min (t.val * 32 + 32) 2047, 0]
      ∧ win0_3.index t = ![0, 0] ∧ win0_4.index t = ![0, 0] ∧ win0_5.index t = ![0, 0, 0] ∧ win0_6.index t = ![0, 0]
      ∧ win0_7.index t = ![0, 0] ∧ win0_8.index t = ![0, 0] ∧ win0_9.index t = ![0, 0] ∧ win0_10.index t = ![0, 0]
      ∧ win0_11.index t = ![0, 0] ∧ win0_12.index t = ![0, 0]
      ∧ win0_13.index t = ![t.val / 8, 0, t.val % 8, 0] ∧ win0_14.index t = ![t.val / 8, 0, t.val % 8, 0]
      ∧ win0_15.index t = ![t.val / 8, 0, t.val % 8, 0] ∧ win0_16.index t = ![t.val / 8, 0, t.val % 8, 0]
      ∧ win0_17.index t = ![t.val / 8, 0, t.val % 8, 0] ∧ win0_18.index t = ![t.val / 8, 0, t.val % 8, 0]
      ∧ win0_19.index t = ![t.val / 8, 0, t.val % 8, 0] ∧ win0_20.index t = ![t.val, 0] ∧ win0_21.index t = ![t.val, 0] :=
  (by decide +kernel : ∀ t : Fin grid0.N, _)

theorem coord : ∀ t : Fin cfg0.N, (grid0.coords t 1).val = t.val % 8 := (by decide +kernel : ∀ t : Fin grid0.N, _)

theorem in_row (t : Fin cfg0.N) (r : Fin 256) (j : Fin 1856) (n : Fin 16384) (hn : n.val = t.val * 256 + r.val) :
    iblk m c 0 t (ix2 r j) = m ((c.tc : Thread nD τ).loc main_arg0) (ix2 n j) := by
  rw [← V_main_arg0 m c]
  blk_simp [iblk, places t]
  blk_ext [places t]

theorem in_before (t : Fin cfg0.N) (j : Fin 1856) (n : Fin 16384) (hn : n.val + 1 = t.val * 256) :
    iblk m c 1 t (ix2 (7 : Fin 8) j) = m ((c.tc : Thread nD τ).loc main_arg0) (ix2 n j) := by
  rw [← V_main_arg0 m c]
  blk_simp [iblk, places t]
  blk_ext [places t]

theorem in_after (t : Fin cfg0.N) (j : Fin 1856) (n : Fin 16384) (hn : n.val = t.val * 256 + 256) :
    iblk m c 2 t (ix2 (0 : Fin 8) j) = m ((c.tc : Thread nD τ).loc main_arg0) (ix2 n j) := by
  have hlt := n.isLt
  rw [← V_main_arg0 m c]
  blk_simp [iblk, places t]
  blk_ext [places t]

theorem in_mu (t : Fin cfg0.N) : (fun d => iblk m c 3 t (ix2 (0 : Fin 1) d)) = fun d : Fin 1856 => m ((c.tc : Thread nD τ).loc main_arg1) (ix1 d) := by
  funext d
  have e : iblk m c 3 t (ix2 (0 : Fin 1) d) = V m c main_v6 (ix2 (0 : Fin 1) d) := by
    blk_simp [iblk, places t]
    blk_ext [places t]
  rw [e, entry_0]
  refine shapeCast_apply _ _ _ (ix1 d) ?_
  simp [Shape.rowMajor_val_one, Shape.rowMajor_val_two]

theorem in_w0 (t : Fin cfg0.N) (a : Fin 2) : (fun d => iblk m c 4 t (ix2 a d)) = fun d : Fin 512 => m ((c.tc : Thread nD τ).loc main_arg2) (ix2 a d) := by
  funext d
  rw [← V_main_arg2 m c]
  blk_simp [iblk, places t]
  blk_ext [places t]

theorem in_w2 (t : Fin cfg0.N) (a : Fin 2) : (fun k d => iblk m c 5 t (ix3 a k d)) = fun (k : Fin 64) (d : Fin 512) => m ((c.tc : Thread nD τ).loc main_arg3) (ix3 a k d) := by
  funext k d
  have e : iblk m c 5 t (ix3 a k d) = V m c main_v7 (ix3 a k d) := by
    blk_simp [iblk, places t]
    blk_ext [places t]
  rw [e, entry_1]
  rfl

theorem in_a0 (t : Fin cfg0.N) : (fun d => iblk m c 6 t (ix2 (0 : Fin 1) d)) = fun d : Fin 512 => m ((c.tc : Thread nD τ).loc main_arg4) (ix1 d) := by
  funext d
  have e : iblk m c 6 t (ix2 (0 : Fin 1) d) = V m c main_v8 (ix2 (0 : Fin 1) d) := by
    blk_simp [iblk, places t]
    blk_ext [places t]
  rw [e, entry_2]
  refine shapeCast_apply _ _ _ (ix1 d) ?_
  simp [Shape.rowMajor_val_one, Shape.rowMajor_val_two]

theorem in_a2 (t : Fin cfg0.N) : (fun k d => iblk m c 7 t (ix2 k d)) = fun (k : Fin 64) (d : Fin 512) => m ((c.tc : Thread nD τ).loc main_arg5) (ix2 k d) := by
  funext k d
  have e : iblk m c 7 t (ix2 k d) = V m c main_v9 (ix2 k d) := by
    blk_simp [iblk, places t]
    blk_ext [places t]
  rw [e, entry_3]
  rfl

theorem in_g2 (t : Fin cfg0.N) : (fun k d => iblk m c 8 t (ix2 k d)) = fun (k : Fin 128) (d : Fin 512) => m ((c.tc : Thread nD τ).loc main_arg6) (ix2 k d) := by
  funext k d
  have e : iblk m c 8 t (ix2 k d) = V m c main_v10 (ix2 k d) := by
    blk_simp [iblk, places t]
    blk_ext [places t]
  rw [e, entry_4]
  rfl

theorem in_kk (t : Fin cfg0.N) : (fun d => iblk m c 9 t (ix2 (0 : Fin 1) d)) = fun d : Fin 512 => m ((c.tc : Thread nD τ).loc main_arg7) (ix1 d) := by
  funext d
  have e : iblk m c 9 t (ix2 (0 : Fin 1) d) = V m c main_v11 (ix2 (0 : Fin 1) d) := by
    blk_simp [iblk, places t]
    blk_ext [places t]
  rw [e, entry_5]
  refine shapeCast_apply _ _ _ (ix1 d) ?_
  simp [Shape.rowMajor_val_one, Shape.rowMajor_val_two]

theorem in_ka (t : Fin cfg0.N) : (fun d => iblk m c 10 t (ix2 (0 : Fin 1) d)) = fun d : Fin 512 => m ((c.tc : Thread nD τ).loc main_arg8) (ix1 d) := by
  funext d
  have e : iblk m c 10 t (ix2 (0 : Fin 1) d) = V m c main_v12 (ix2 (0 : Fin 1) d) := by
    blk_simp [iblk, places t]
    blk_ext [places t]
  rw [e, entry_6]
  refine shapeCast_apply _ _ _ (ix1 d) ?_
  simp [Shape.rowMajor_val_one, Shape.rowMajor_val_two]

theorem in_rk (t : Fin cfg0.N) : (fun d => iblk m c 11 t (ix2 (0 : Fin 1) d)) = fun d : Fin 512 => m ((c.tc : Thread nD τ).loc main_arg9) (ix1 d) := by
  funext d
  have e : iblk m c 11 t (ix2 (0 : Fin 1) d) = V m c main_v13 (ix2 (0 : Fin 1) d) := by
    blk_simp [iblk, places t]
    blk_ext [places t]
  rw [e, entry_7]
  refine shapeCast_apply _ _ _ (ix1 d) ?_
  simp [Shape.rowMajor_val_one, Shape.rowMajor_val_two]

/-- The comparison of a row's word with a column's, as a number. -/
theorem equal_words (w : IVec S512 32) (a b : Fin 512) : (uitofp .f32 (cmpi .eq
    (broadcastInDim S512x512 ![0, 1] bcast_S512x1_S512x512_0_1 (broadcastInDim S512x1 ![0] bcast_S512_S512x1_0 w))
    (broadcastInDim S512x512 ![0, 1] bcast_S1x512_S512x512_0_1 (broadcastInDim S1x512 ![1] bcast_S512_S1x512_1 w))) :
    FVec Ideal S512x512 .f32) (ix2 a b) = if w (ix1 a) = w (ix1 b) then 1 else 0 := by
  pointwise
  by_cases h : w (ix1 a) = w (ix1 b)
  · simp [IntOp.cmpi, h]
    show (((1#1 : BitVec 1).toNat : ℝ) : EReal) = 1
    simp
  · have e : (w (ix1 a) == w (ix1 b)) = false := by simpa using h
    simp [IntOp.cmpi, h, e]
    show (((0#1 : BitVec 1).toNat : ℝ) : EReal) = 0
    simp

/-- The matrix of heads at the region's entry: 1 where the row and the column have the same head's number. -/
theorem entry_heads : V m c main_v5 = (uitofp .f32 (cmpi .eq
    (broadcastInDim S512x512 ![0, 1] bcast_S512x1_S512x512_0_1 (broadcastInDim S512x1 ![0] bcast_S512_S512x1_0 (fun i => lit0 (S512.rowMajor i) : IVec S512 32)))
    (broadcastInDim S512x512 ![0, 1] bcast_S1x512_S512x512_0_1 (broadcastInDim S1x512 ![1] bcast_S512_S1x512_1 (fun i => lit0 (S512.rowMajor i) : IVec S512 32)))) :
    FVec Ideal S512x512 .f32) := by
  simp only [V, hostOps0]
  after_results_simp
  rfl

theorem heads_in (t : Fin cfg0.N) (a b : Fin 512) : iblk m c 12 t (ix2 a b) = V m c main_v5 (ix2 a b) := by
  blk_simp [iblk, places t]
  blk_ext [places t]

/-- A column's head is its number over 64. -/
theorem head_word : ∀ d : Fin 512, lit0 d = BitVec.ofNat 32 (d.val / 64) := by
  decide +kernel

/-- Two columns have the same word exactly if they lie in one head. -/
theorem same_head (a b : Fin 512) : lit0 a = lit0 b ↔ a.val / 64 = b.val / 64 := by
  have ha := a.isLt
  have hb := b.isLt
  rw [head_word, head_word, ← BitVec.toNat_inj, BitVec.toNat_ofNat, BitVec.toNat_ofNat]
  omega

/-- The matrix of heads is 1 within a head and 0 elsewhere. -/
theorem in_heads (t : Fin cfg0.N) : IsHeads (iblk m c 12 t) := by
  intro a b
  have e (d : Fin 512) : S512.rowMajor (ix1 d) = d := Fin.ext (by simp [Shape.rowMajor_val_one])
  refine ((heads_in m c t a b).trans (congrFun (entry_heads m c) (ix2 a b))).trans ((equal_words _ a b).trans ?_)
  exact if_congr ((Iff.of_eq (congrArg₂ (fun x y => lit0 x = lit0 y) (e a) (e b))).trans (same_head a b)) rfl rfl

/-- A row of a block after the shift is that row of the argument after the shift. -/
theorem row_in (t : Fin cfg0.N) (r : Fin 256) (n : Fin 16384) (hn : n.val = t.val * 256 + r.val) :
    rowAt r (grid0.coords t) (iblk m c 0 t) (iblk m c 1 t) (iblk m c 2 t) (iblk m c 3 t) = rowOf (m ((c.tc : Thread nD τ).loc main_arg0)) (m ((c.tc : Thread nD τ).loc main_arg1)) n := by
  funext j
  have hr := r.isLt
  have ht : t.val < 64 := t.isLt
  unfold rowAt rowOf
  rw [in_row m c t r j n hn, congrFun (in_mu m c t) j, coord t]
  refine congrArg₂ (fun a b => shifted _ a b _) ?_ ?_
  · by_cases h : r.val = 0
    · rw [if_pos h]
      by_cases h' : t.val % 8 = 0
      · rw [if_pos h', if_pos (by omega)]
      · rw [if_neg h', if_neg (by omega)]
        exact in_before m c t j _ (by show n.val - 1 + 1 = _; omega)
    · rw [if_neg h, if_neg (by omega)]
      exact in_row m c t _ j _ (by show n.val - 1 = t.val * 256 + (r.val - 1); omega)
  · by_cases h : r.val = 255
    · rw [dif_pos h]
      by_cases h' : t.val % 8 = 7
      · rw [if_pos h', dif_pos (by omega)]
      · rw [if_neg h', dif_neg (by omega)]
        exact in_after m c t j _ (by show n.val + 1 = _; omega)
    · rw [dif_neg h, dif_neg (by omega)]
      exact in_row m c t _ j _ (by show n.val + 1 = t.val * 256 + (r.val + 1); omega)

/-- A head's entry of a block, and the entry of the whole array it becomes. -/
theorem to_head (t : Fin cfg0.N) (h : Fin 8) (r : Fin 256) (k : Fin 64) (f : (Fin 1856 → EReal) → Fin 512 → EReal)
    (b : Fin 8) (s : Fin 2048) (h' : Fin 8) (k' : Fin 64)
    (hb : b.val = t.val / 8 + (0 : Fin 1).val) (hs : s.val = t.val % 8 * 256 + r.val) (hh : h'.val = h.val) (hk : k'.val = k.val) :
    f (rowAt r (grid0.coords t) (iblk m c 0 t) (iblk m c 1 t) (iblk m c 2 t) (iblk m c 3 t)) (columnOf h k) = f (rowOf (m ((c.tc : Thread nD τ).loc main_arg0)) (m ((c.tc : Thread nD τ).loc main_arg1)) (tokenOf b s)) (columnOf h' k') := by
  have hr := r.isLt
  have ht : t.val < 64 := t.isLt
  obtain rfl : h' = h := Fin.ext hh
  obtain rfl : k' = k := Fin.ext hk
  rw [row_in m c t r (tokenOf b s) (by
    have hb' : b.val = t.val / 8 := hb
    show b.val * 2048 + s.val = _
    omega)]

/-- A column's entry of a block, and the entry of the whole array it becomes. -/
theorem to_row (t : Fin cfg0.N) (r : Fin 256) (d : Fin 512) (f : (Fin 1856 → EReal) → Fin 512 → EReal) (n : Fin 16384) (d' : Fin 512)
    (hn : n.val = t.val * 256 + r.val) (hd : d'.val = d.val) :
    f (rowAt r (grid0.coords t) (iblk m c 0 t) (iblk m c 1 t) (iblk m c 2 t) (iblk m c 3 t)) d = f (rowOf (m ((c.tc : Thread nD τ).loc main_arg0)) (m ((c.tc : Thread nD τ).loc main_arg1)) n) d' := by
  obtain rfl : d' = d := Fin.ext hd
  rw [row_in m c t r n hn]

/-- The learning rate's, the key's and the others' functions of a shifted row, with the call's own weights. -/
def wF (T : Fin 1856 → EReal) : Fin 512 → EReal := decayF T (fun k d => m ((c.tc : Thread nD τ).loc main_arg3) (ix3 (0 : Fin 2) k d)) (fun d => m ((c.tc : Thread nD τ).loc main_arg2) (ix2 (0 : Fin 2) d))
def wB (T : Fin 1856 → EReal) : Fin 512 → EReal := decayB T (fun k d => m ((c.tc : Thread nD τ).loc main_arg3) (ix3 (1 : Fin 2) k d)) (fun d => m ((c.tc : Thread nD τ).loc main_arg2) (ix2 (1 : Fin 2) d))
def aR (T : Fin 1856 → EReal) : Fin 512 → EReal := rateOf T (fun k d => m ((c.tc : Thread nD τ).loc main_arg5) (ix2 k d)) (fun d => m ((c.tc : Thread nD τ).loc main_arg4) (ix1 d))
def uK (T : Fin 1856 → EReal) : Fin 512 → EReal := unitOf T (fun d => m ((c.tc : Thread nD τ).loc main_arg7) (ix1 d))
def uA (T : Fin 1856 → EReal) (d : Fin 512) : EReal := uK m c T d * aR m c T d
def kA (T : Fin 1856 → EReal) : Fin 512 → EReal := keyOf T (fun k d => m ((c.tc : Thread nD τ).loc main_arg5) (ix2 k d)) (fun d => m ((c.tc : Thread nD τ).loc main_arg4) (ix1 d)) (fun d => m ((c.tc : Thread nD τ).loc main_arg8) (ix1 d))
def gG (T : Fin 1856 → EReal) : Fin 512 → EReal := gateOf T (fun k d => m ((c.tc : Thread nD τ).loc main_arg6) (ix2 k d))
def bB (T : Fin 1856 → EReal) : Fin 512 → EReal := bonusOf T (fun k d => m ((c.tc : Thread nD τ).loc main_arg5) (ix2 k d)) (fun d => m ((c.tc : Thread nD τ).loc main_arg4) (ix1 d)) (fun d => m ((c.tc : Thread nD τ).loc main_arg8) (ix1 d)) (fun d => m ((c.tc : Thread nD τ).loc main_arg9) (ix1 d))

/-- An array of rows written head by head, and one written row by row. -/
def byHead (f : (Fin 1856 → EReal) → Fin 512 → EReal) : FVec Ideal S8x8x2048x64 .f32 := fun i : S8x8x2048x64.Idx =>
  f (rowOf (m ((c.tc : Thread nD τ).loc main_arg0)) (m ((c.tc : Thread nD τ).loc main_arg1)) (tokenOf (i 0) (i 2))) (columnOf (i 1) (i 3))
def byRow (f : (Fin 1856 → EReal) → Fin 512 → EReal) : FVec Ideal S16384x512 .f32 := fun i : S16384x512.Idx =>
  f (rowOf (m ((c.tc : Thread nD τ).loc main_arg0)) (m ((c.tc : Thread nD τ).loc main_arg1)) (i 0)) (i 1)

theorem final_13 : (dats m 0 c).arrAt 13 cfg0.N = byHead m c rOf := by
  unfold byHead
  refine Dat.arrAt_eq_of_covers (dats m 0 c) 13 _ (by decide +kernel) (fun t _ z => ?_)
  blk_simp
  rw [after0_13, (out_eq _ _ _ _ _ _ _ _ _ _ _ _ _ _).1]
  obtain ⟨a, h, r, k, rfl⟩ : ∃ (a : Fin 1) (h : Fin 8) (r : Fin 256) (k : Fin 64), z = ix4 a h r k := ⟨z 0, z 1, z 2, z 3, by idx_ext⟩
  obtain rfl : a = 0 := Subsingleton.elim _ _
  rw [spread_apply, r_apply _ _ _ _ _ _ _ _ _ _ _ _ _ _ _ _]
  refine to_head m c t h r k rOf _ _ _ _ ?_ ?_ ?_ ?_
  all_goals blk_simp [places t]

theorem final_14 : (dats m 0 c).arrAt 14 cfg0.N = byHead m c (kA m c) := by
  unfold byHead
  refine Dat.arrAt_eq_of_covers (dats m 0 c) 14 _ (by decide +kernel) (fun t _ z => ?_)
  blk_simp
  rw [after0_14, (out_eq _ _ _ _ _ _ _ _ _ _ _ _ _ _).2.1]
  obtain ⟨a, h, r, k, rfl⟩ : ∃ (a : Fin 1) (h : Fin 8) (r : Fin 256) (k : Fin 64), z = ix4 a h r k := ⟨z 0, z 1, z 2, z 3, by idx_ext⟩
  obtain rfl : a = 0 := Subsingleton.elim _ _
  rw [spread_apply, keyOf_apply _ _ _ _ _ _ _ _ _ _ _ _ _ _ _ _, in_a2 m c t, in_a0 m c t, in_ka m c t]
  refine to_head m c t h r k (kA m c) _ _ _ _ ?_ ?_ ?_ ?_
  all_goals blk_simp [places t]

theorem final_15 : (dats m 0 c).arrAt 15 cfg0.N = byHead m c vOf := by
  unfold byHead
  refine Dat.arrAt_eq_of_covers (dats m 0 c) 15 _ (by decide +kernel) (fun t _ z => ?_)
  blk_simp
  rw [after0_15, (out_eq _ _ _ _ _ _ _ _ _ _ _ _ _ _).2.2.1]
  obtain ⟨a, h, r, k, rfl⟩ : ∃ (a : Fin 1) (h : Fin 8) (r : Fin 256) (k : Fin 64), z = ix4 a h r k := ⟨z 0, z 1, z 2, z 3, by idx_ext⟩
  obtain rfl : a = 0 := Subsingleton.elim _ _
  rw [spread_apply, v_apply _ _ _ _ _ _ _ _ _ _ _ _ _ _ _ _]
  refine to_head m c t h r k vOf _ _ _ _ ?_ ?_ ?_ ?_
  all_goals blk_simp [places t]

theorem final_16 : (dats m 0 c).arrAt 16 cfg0.N = byHead m c (uK m c) := by
  unfold byHead
  refine Dat.arrAt_eq_of_covers (dats m 0 c) 16 _ (by decide +kernel) (fun t _ z => ?_)
  blk_simp
  rw [after0_16, (out_eq _ _ _ _ _ _ _ _ _ _ _ _ _ _).2.2.2.1]
  obtain ⟨a, h, r, k, rfl⟩ : ∃ (a : Fin 1) (h : Fin 8) (r : Fin 256) (k : Fin 64), z = ix4 a h r k := ⟨z 0, z 1, z 2, z 3, by idx_ext⟩
  obtain rfl : a = 0 := Subsingleton.elim _ _
  rw [spread_apply, unitOf_apply _ _ _ _ _ _ _ _ _ _ _ _ _ _ _ _ (in_heads m c t), in_kk m c t]
  refine to_head m c t h r k (uK m c) _ _ _ _ ?_ ?_ ?_ ?_
  all_goals blk_simp [places t]

theorem final_17 : (dats m 0 c).arrAt 17 cfg0.N = byHead m c (uA m c) := by
  unfold byHead
  refine Dat.arrAt_eq_of_covers (dats m 0 c) 17 _ (by decide +kernel) (fun t _ z => ?_)
  blk_simp
  rw [after0_17, (out_eq _ _ _ _ _ _ _ _ _ _ _ _ _ _).2.2.2.2.1]
  obtain ⟨a, h, r, k, rfl⟩ : ∃ (a : Fin 1) (h : Fin 8) (r : Fin 256) (k : Fin 64), z = ix4 a h r k := ⟨z 0, z 1, z 2, z 3, by idx_ext⟩
  obtain rfl : a = 0 := Subsingleton.elim _ _
  rw [spread_apply, mulf_apply, unitOf_apply _ _ _ _ _ _ _ _ _ _ _ _ _ _ _ _ (in_heads m c t), rateOf_apply, in_kk m c t, in_a2 m c t, in_a0 m c t]
  refine to_head m c t h r k (uA m c) _ _ _ _ ?_ ?_ ?_ ?_
  all_goals blk_simp [places t]

theorem final_18 : (dats m 0 c).arrAt 18 cfg0.N = byHead m c (wF m c) := by
  unfold byHead
  refine Dat.arrAt_eq_of_covers (dats m 0 c) 18 _ (by decide +kernel) (fun t _ z => ?_)
  blk_simp
  rw [after0_18, (out_eq _ _ _ _ _ _ _ _ _ _ _ _ _ _).2.2.2.2.2.1]
  obtain ⟨a, h, r, k, rfl⟩ : ∃ (a : Fin 1) (h : Fin 8) (r : Fin 256) (k : Fin 64), z = ix4 a h r k := ⟨z 0, z 1, z 2, z 3, by idx_ext⟩
  obtain rfl : a = 0 := Subsingleton.elim _ _
  rw [spread_apply, decayF_apply _ _ _ _ _ _ _ _ _ _ _ _ _ _ _ _, in_w2 m c t 0, in_w0 m c t 0]
  refine to_head m c t h r k (wF m c) _ _ _ _ ?_ ?_ ?_ ?_
  all_goals blk_simp [places t]

theorem final_19 : (dats m 0 c).arrAt 19 cfg0.N = byHead m c (wB m c) := by
  unfold byHead
  refine Dat.arrAt_eq_of_covers (dats m 0 c) 19 _ (by decide +kernel) (fun t _ z => ?_)
  blk_simp
  rw [after0_19, (out_eq _ _ _ _ _ _ _ _ _ _ _ _ _ _).2.2.2.2.2.2]
  obtain ⟨a, h, r, k, rfl⟩ : ∃ (a : Fin 1) (h : Fin 8) (r : Fin 256) (k : Fin 64), z = ix4 a h r k := ⟨z 0, z 1, z 2, z 3, by idx_ext⟩
  obtain rfl : a = 0 := Subsingleton.elim _ _
  rw [spread_apply, decayB_apply _ _ _ _ _ _ _ _ _ _ _ _ _ _ _ _, in_w2 m c t 1, in_w0 m c t 1]
  refine to_head m c t h r k (wB m c) _ _ _ _ ?_ ?_ ?_ ?_
  all_goals blk_simp [places t]

theorem final_20 : (dats m 0 c).arrAt 20 cfg0.N = byRow m c (gG m c) := by
  unfold byRow
  refine Dat.arrAt_eq_of_covers (dats m 0 c) 20 _ (by decide +kernel) (fun t _ z => ?_)
  blk_simp
  obtain ⟨r, d, rfl⟩ : ∃ (r : Fin 256) (d : Fin 512), z = ix2 r d := ⟨z 0, z 1, by idx_ext⟩
  rw [after0_20, gateOf_apply _ _ _ _ _ _ _ _ _ _ _ _ _ _ _ _, in_g2 m c t]
  refine to_row m c t r d (gG m c) _ _ ?_ ?_ <;> blk_simp [places t]

theorem final_21 : (dats m 0 c).arrAt 21 cfg0.N = byRow m c (bB m c) := by
  unfold byRow
  refine Dat.arrAt_eq_of_covers (dats m 0 c) 21 _ (by decide +kernel) (fun t _ z => ?_)
  blk_simp
  obtain ⟨r, d, rfl⟩ : ∃ (r : Fin 256) (d : Fin 512), z = ix2 r d := ⟨z 0, z 1, by idx_ext⟩
  rw [after0_21, bonusOf_apply _ _ _ _ _ _ _ _ _ _ _ _ _ _ _ _ (in_heads m c t), in_a2 m c t, in_a0 m c t, in_ka m c t, in_rk m c t]
  refine to_row m c t r d (bB m c) _ _ ?_ ?_ <;> blk_simp [places t]

end Whole

end Cert.Kernel9Ideal.Own

end
-- ==== Proof.ScanPrepRef.lean ====
/-
  What comes before the second scan: the reference's nine arrays.
-/
module

public import proofs.«01_k».proof.Proof.ScanPrepBlock
public import proofs.«01_k».proof.Proof.Gen.Reference9Ideal.Run
public import proofs.«01_k».proof.Proof.Gen.Reference9Ideal.Read

@[expose] public section

set_option maxRecDepth 16384

noncomputable section

namespace Cert.Reference9Ideal.Own

open Idealize.ShloMosaic Idealize.ShloMosaic.TcCoe Cert.Reference9Ideal.Gen Cert.Reference9Ideal.Read Cert.ScanPrep

variable [Cert.Reference9Ideal.Facts₀] [Cert.Reference9Ideal.Facts]
variable (x0 : FVec Ideal S16384x1856 .f32) (x1 : FVec Ideal S1856 .f32) (x2 : FVec Ideal S2x512 .f32) (x3 : FVec Ideal S2x64x512 .f32)
  (x4 : FVec Ideal S512 .f32) (x5 : FVec Ideal S64x512 .f32) (x6 : FVec Ideal S128x512 .f32) (x7 x8 x9 : FVec Ideal S512 .f32)
  (b : Fin 8) (s : Fin 2048) (h : Fin 8) (k : Fin 64) (d : Fin 512) (j : Fin 1856)

/-- What a sum starts from. -/
theorem zero_start : val_main_cst_6 (F := Ideal) (Shape.Idx.first h_S_) = (0 : EReal) := by
  show Ideal.ofBits .f32 0x0#32 = 0
  exact Ideal.ofBits_zero _

theorem arg_ref : val_main_v0 (F := Ideal) x0 (ix3 b s j) = x0 (ix2 (tokenOf b s) j) := by
  rw [val_main_v0_apply]
  refine congrArg x0 ?_
  funext a
  apply Fin.ext
  have hj := j.isLt
  fin_cases a
  all_goals simp [idx_main_v0, tokenOf]
  all_goals omega

theorem before_ref : val_main_v2 (F := Ideal) x0 (ix3 b s j)
    = if (tokenOf b s).val % 2048 = 0 then 0 else x0 (ix2 (⟨(tokenOf b s).val - 1, by omega⟩ : Fin 16384) j) := by
  have hs := s.isLt
  have hv : (tokenOf b s).val = b.val * 2048 + s.val := rfl
  unfold val_main_v2
  by_cases e : s.val = 0
  · rw [if_pos (by omega), pad_apply_of_not_inside _ _ _ _ _ _ _ _ (1 : Fin 3) (fun c => by
      have c1 : 1 ≤ s.val := c.1
      omega)]
    show (((0#32 : BitVec 32).toInt : ℝ) : EReal) = 0
    simp
  · rw [if_neg (by omega), pad_apply_of_inside _ _ _ _ _ _ _ _ (ix3 b (⟨s.val - 1, by omega⟩ : Fin 2047) j) (fun a => by
      fin_cases a
      · show b.val = 0 + b.val * 1; omega
      · show s.val = 1 + (s.val - 1) * 1; omega
      · show j.val = 0 + j.val * 1; omega), val_main_v1_apply]
    refine (congrArg (val_main_v0 (F := Ideal) x0) (show _ = ix3 b (⟨s.val - 1, by omega⟩ : Fin 2048) j by funext a; apply Fin.ext; fin_cases a <;> rfl)).trans ?_
    rw [arg_ref]
    refine congrArg (fun n => x0 (ix2 n j)) (Fin.ext ?_)
    show b.val * 2048 + (s.val - 1) = b.val * 2048 + s.val - 1
    omega

theorem after_ref : val_main_v4 (F := Ideal) x0 (ix3 b s j)
    = if h : (tokenOf b s).val % 2048 = 2047 then 0 else x0 (ix2 (⟨(tokenOf b s).val + 1, by omega⟩ : Fin 16384) j) := by
  have hs := s.isLt
  have hv : (tokenOf b s).val = b.val * 2048 + s.val := rfl
  unfold val_main_v4
  by_cases e : s.val = 2047
  · rw [dif_pos (by omega), pad_apply_of_not_inside _ _ _ _ _ _ _ _ (1 : Fin 3) (fun c => by
      have c1 : (s.val - 0) / 1 < 2047 := c.2.2
      omega)]
    show (((0#32 : BitVec 32).toInt : ℝ) : EReal) = 0
    simp
  · rw [dif_neg (by omega), pad_apply_of_inside _ _ _ _ _ _ _ _ (ix3 b (⟨s.val, by omega⟩ : Fin 2047) j) (fun a => by
      fin_cases a
      · show b.val = 0 + b.val * 1; omega
      · show s.val = 0 + s.val * 1; omega
      · show j.val = 0 + j.val * 1; omega), val_main_v3_apply]
    refine (congrArg (val_main_v0 (F := Ideal) x0) (show _ = ix3 b (⟨s.val + 1, by omega⟩ : Fin 2048) j by
      funext a
      apply Fin.ext
      fin_cases a
      · rfl
      · exact Nat.add_comm _ _
      · rfl)).trans ?_
    rw [arg_ref]
    rfl

/-- A row of the reference after the shift. -/
theorem row_ref : val_main_v12 (F := Ideal) x0 x1 (ix3 b s j) = rowOf x0 x1 (tokenOf b s) j := by
  unfold rowOf shifted
  rw [val_main_v12_apply, val_main_v11_apply, val_main_v8_apply, val_main_v7_apply, val_main_v5_apply, val_main_v10_apply, val_main_v9_apply,
    before_ref, after_ref, arg_ref]
  refine congrArg₂ (· + ·) rfl (congrArg₂ (· * ·) (congrArg x1 ?_) rfl)
  funext a
  fin_cases a
  rfl

theorem r_ref : val_main_v13 (F := Ideal) x0 x1 (ix3 b s d) = rOf (rowOf x0 x1 (tokenOf b s)) d := by
  rw [val_main_v13_apply]
  exact (congrArg _ (by funext a; apply Fin.ext; fin_cases a <;> rfl)).trans (row_ref x0 x1 b s _)

theorem k_ref : val_main_v14 (F := Ideal) x0 x1 (ix3 b s d) = kOf (rowOf x0 x1 (tokenOf b s)) d := by
  rw [val_main_v14_apply]
  exact (congrArg _ (by funext a; apply Fin.ext; fin_cases a <;> rfl)).trans (row_ref x0 x1 b s _)

theorem v_ref : val_main_v15 (F := Ideal) x0 x1 (ix3 b s d) = vOf (rowOf x0 x1 (tokenOf b s)) d := by
  rw [val_main_v15_apply]
  exact (congrArg _ (by funext a; apply Fin.ext; fin_cases a <;> rfl)).trans (row_ref x0 x1 b s _)

/-- The reference's softplus: the branch for a number unequal to itself is never taken. -/
theorem softplus_ref (i : S2x8x2048x512.Idx) : val_main_v29 (F := Ideal) x0 x1 x2 x3 i = softplus (val_main_v28 (F := Ideal) x0 x1 x2 x3 i) := by
  rw [val_main_v29_apply, val_main_call2_v4_apply, val_main_call2_v11_apply, val_main_call2_v1_apply, val_main_call2_v10_apply,
    val_main_call2_v9_apply, val_main_call2_v8_apply, val_main_call2_v7_apply, val_main_call2_v3_apply]
  generalize val_main_v28 (F := Ideal) x0 x1 x2 x3 i = z
  have hz : val_main_call2_v2 (F := Ideal) i = 0 := by
    show Ideal.ofBits .f32 0x0#32 = 0
    exact Ideal.ofBits_zero _
  have hz' : val_main_call2_v0 (F := Ideal) i = 0 := by
    show Ideal.ofBits .f32 0x0#32 = 0
    exact Ideal.ofBits_zero _
  have hs : FloatOps.subf (F := Ideal) (φ := .f32) z (val_main_call2_v2 (F := Ideal) i) = z := by
    rw [hz]
    exact sub_zero z
  rw [hs, hz']
  have hc : FloatOps.cmpf (F := Ideal) (φ := .f32) .une z z = 0#1 := by
    show Ideal.cmp .une z z = 0#1
    simp [Ideal.cmp]
  rw [hc]
  rfl

/-- The two decays' code, stacked. -/
theorem code_ref : val_main_v24 (F := Ideal) x0 x1 (ix4 (0 : Fin 2) b s k) = Ideal.tanh (rowOf x0 x1 (tokenOf b s) ⟨1536 + k.val, by omega⟩)
    ∧ val_main_v24 (F := Ideal) x0 x1 (ix4 (1 : Fin 2) b s k) = Ideal.tanh (rowOf x0 x1 (tokenOf b s) ⟨1600 + k.val, by omega⟩) := by
  simp only [val_main_v24_apply]
  refine ⟨congrArg Ideal.tanh ?_, congrArg Ideal.tanh ?_⟩
  · refine (concatenate_pair_apply_left (s₁ := S1x8x2048x64) (s₂ := S1x8x2048x64) _ _ _ _ (ix4 (0 : Fin 2) b s k) rfl (ix4 (0 : Fin 1) b s k) (fun a => match a with
      | ⟨0, _⟩ => rfl
      | ⟨1, _⟩ => rfl
      | ⟨2, _⟩ => rfl
      | ⟨3, _⟩ => rfl)).trans ?_
    rw [val_main_v20_apply, val_main_v16_apply]
    exact (congrArg _ (by funext a; apply Fin.ext; fin_cases a <;> rfl)).trans (row_ref x0 x1 b s _)
  · refine (concatenate_pair_apply_right (s₁ := S1x8x2048x64) (s₂ := S1x8x2048x64) _ _ _ _ (ix4 (1 : Fin 2) b s k) rfl rfl (ix4 (0 : Fin 1) b s k) (fun a ha => match a with
      | ⟨0, _⟩ => absurd rfl ha
      | ⟨1, _⟩ => rfl
      | ⟨2, _⟩ => rfl
      | ⟨3, _⟩ => rfl) rfl).trans ?_
    rw [val_main_v21_apply, val_main_v17_apply]
    exact (congrArg _ (by funext a; apply Fin.ext; fin_cases a <;> rfl)).trans (row_ref x0 x1 b s _)

/-- The logarithm of a decay, from the code of its direction. -/
theorem decay_ref (a : Fin 2) (T : Fin 64 → EReal) (hT : ∀ k, val_main_v24 (F := Ideal) x0 x1 (ix4 a b s k) = Ideal.tanh (T k)) :
    val_main_v34 (F := Ideal) x0 x1 x2 x3 (ix4 a b s d) = logDecay T (fun k => x3 (ix3 a k d)) (x2 (ix2 a d)) := by
  rw [val_main_v34_apply, val_main_v33_apply, val_main_v32_apply, val_main_v30_apply, softplus_ref, val_main_v28_apply, val_main_v27_apply,
    val_main_v26_apply, val_main_v23_apply, val_main_v25_apply]
  unfold logDecay
  refine congrArg (fun z => -Ideal.exp (-softplus (-z) - Ideal.ofBits .f32 0x3F000000#32)) ?_
  refine congrArg₂ (· + ·) (congrArg x2 ?_) (Finset.sum_congr rfl fun k _ => congrArg₂ (· * ·) ?_ (congrArg x3 ?_))
  · funext a
    fin_cases a <;> rfl
  · exact (congrArg _ (by funext a; fin_cases a <;> rfl)).trans (hT k)
  · funext a
    fin_cases a <;> rfl

theorem rate_ref : val_main_v44 (F := Ideal) x0 x1 x4 x5 (ix3 b s d)
    = rateOf (rowOf x0 x1 (tokenOf b s)) (fun k d => x5 (ix2 k d)) (fun d => x4 (ix1 d)) d := by
  rw [val_main_v44_apply, val_main_v42_apply, val_main_v40_apply, val_main_v39_apply, val_main_v38_apply, val_main_v37_apply, val_main_v36_apply,
    val_main_v35_apply]
  unfold rateOf rate squash
  have h1 : val_main_v41 (F := Ideal) (ix3 b s d) = 1 := Ideal.ofBits_one_f32
  have h2 : val_main_v43 (F := Ideal) (ix3 b s d) = 1 := Ideal.ofBits_one_f32
  rw [h1, h2]
  refine congrArg (fun z => Ideal.div 1 (1 + Ideal.exp (-z))) ?_
  refine congrArg₂ (· + ·) (congrArg x4 ?_) (Finset.sum_congr rfl fun k _ => congrArg₂ (· * ·) ?_ (congrArg x5 ?_))
  · funext a
    fin_cases a
    rfl
  · rw [val_main_v18_apply]
    exact (congrArg _ (by funext a; apply Fin.ext; fin_cases a <;> rfl)).trans (row_ref x0 x1 b s _)
  · funext a
    fin_cases a <;> rfl

theorem gate_ref : val_main_v51 (F := Ideal) x0 x1 x6 (ix3 b s d) = gateOf (rowOf x0 x1 (tokenOf b s)) (fun k d => x6 (ix2 k d)) d := by
  rw [val_main_v51_apply]
  unfold gateOf gate squash
  refine Finset.sum_congr rfl fun k _ => congrArg₂ (· * ·) ?_ (congrArg x6 ?_)
  · have e : lidx_main_v51 (ix3 b s d) k = ix3 b s k := by funext a; fin_cases a <;> rfl
    rw [e, val_main_v50_apply, val_main_v48_apply, val_main_v46_apply, val_main_v45_apply, val_main_v19_apply]
    have h1 : val_main_v47 (F := Ideal) (ix3 b s k) = 1 := Ideal.ofBits_one_f32
    have h2 : val_main_v49 (F := Ideal) (ix3 b s k) = 1 := Ideal.ofBits_one_f32
    rw [h1, h2]
    refine congrArg (fun z => Ideal.div 1 (1 + Ideal.exp (-z))) ?_
    exact (congrArg _ (by funext a; apply Fin.ext; fin_cases a <;> rfl)).trans (row_ref x0 x1 b s _)
  · funext a
    fin_cases a <;> rfl

theorem key_ref : val_main_v71 (F := Ideal) x0 x1 x4 x5 x8 (ix3 b s d)
    = keyOf (rowOf x0 x1 (tokenOf b s)) (fun k d => x5 (ix2 k d)) (fun d => x4 (ix1 d)) (fun d => x8 (ix1 d)) d := by
  rw [val_main_v71_apply, k_ref, val_main_v70_apply, val_main_v68_apply, val_main_v65_apply, rate_ref, val_main_v67_apply, val_main_v66_apply]
  unfold keyOf keyed
  have h1 : val_main_v64 (F := Ideal) (ix3 b s d) = 1 := Ideal.ofBits_one_f32
  have h2 : val_main_v69 (F := Ideal) (ix3 b s d) = 1 := Ideal.ofBits_one_f32
  rw [h1, h2]
  refine congrArg (fun u => kOf (rowOf x0 x1 (tokenOf b s)) d * (1 + (rateOf (rowOf x0 x1 (tokenOf b s)) (fun k d => x5 (ix2 k d)) (fun d => x4 (ix1 d)) d - 1) * u)) (congrArg x8 ?_)
  funext a
  fin_cases a
  rfl

/-- The 512 columns as eight heads of 64. -/
theorem idx_heads : idx_main_v55 (ix4 b s h k) = ix3 b s (columnOf h k) := by
  funext a
  apply Fin.ext
  have hs := s.isLt
  fin_cases a
  all_goals simp [idx_main_v55, columnOf]
  all_goals omega

/-- A head's sum, told by one of its columns. -/
theorem headSum_column (f : Fin 512 → EReal) : headSum f (columnOf h k) = ∑ k' : Fin 64, f (columnOf h k') := by
  unfold headSum
  refine Finset.sum_congr rfl fun k' _ => congrArg f (Fin.ext ?_)
  show (h.val * 64 + k.val) / 64 * 64 + k'.val = h.val * 64 + k'.val
  omega

/-- The key under its gains, one head's column. -/
theorem gained_ref : val_main_v55 (F := Ideal) x0 x1 x7 (ix4 b s h k) = kOf (rowOf x0 x1 (tokenOf b s)) (columnOf h k) * x7 (ix1 (columnOf h k)) := by
  rw [val_main_v55_apply, idx_heads, val_main_v54_apply, k_ref, val_main_v53_apply, val_main_v52_apply]
  refine congrArg₂ (· * ·) rfl (congrArg x7 ?_)
  funext a
  fin_cases a
  rfl

theorem unit_ref : val_main_v63 (F := Ideal) x0 x1 x7 (ix4 b s h k) = unitOf (rowOf x0 x1 (tokenOf b s)) (fun d => x7 (ix1 d)) (columnOf h k) := by
  unfold unitOf unit
  rw [headSum_column, val_main_v63_apply, gained_ref, val_main_v62_apply, val_main_v61_apply, val_main_v59_apply, val_main_v58_apply, val_main_v57_apply]
  refine congrArg (fun z => Ideal.div _ (max (Ideal.sqrt z) (Ideal.ofBits .f32 0x2B8CBCCC#32))) ?_
  refine (congrArg (· + _) zero_start).trans ((zero_add _).trans ?_)
  refine Finset.sum_congr rfl fun k' _ => ?_
  have e : ∀ i, i = ix4 b s h k' → val_main_v56 (F := Ideal) x0 x1 x7 i = _ := fun i hi => by rw [hi, val_main_v56_apply, gained_ref]
  exact e _ (by funext a; fin_cases a <;> rfl)

theorem bonus_ref : val_main_v84 (F := Ideal) x0 x1 x4 x5 x8 x9 (ix4 b s h k)
    = bonusOf (rowOf x0 x1 (tokenOf b s)) (fun k d => x5 (ix2 k d)) (fun d => x4 (ix1 d)) (fun d => x8 (ix1 d)) (fun d => x9 (ix1 d)) (columnOf h k) := by
  unfold bonusOf
  rw [headSum_column, val_main_v84_apply, val_main_v83_apply, val_main_v82_apply, val_main_v81_apply, val_main_v74_apply]
  refine congrArg₂ (· * ·) ?_ ?_
  · refine (congrArg (· + _) zero_start).trans ((zero_add _).trans ?_)
    refine Finset.sum_congr rfl fun k' _ => ?_
    have e : ∀ i, i = ix4 b s h k' → val_main_v80 (F := Ideal) x0 x1 x4 x5 x8 x9 i = _ := fun i hi => by
      rw [hi, val_main_v80_apply, val_main_v76_apply, val_main_v72_apply, val_main_v73_apply,
        show idx_main_v72 (ix4 b s h k') = _ from idx_heads b s h k', show idx_main_v73 (ix4 b s h k') = _ from idx_heads b s h k',
        r_ref, key_ref, val_main_v79_apply, val_main_v78_apply, val_main_v77_apply]
    refine (e _ (by funext a; fin_cases a <;> rfl)).trans ?_
    refine congrArg₂ (· * ·) rfl (congrArg x9 ?_)
    funext a
    apply Fin.ext
    fin_cases a
    rfl
  · exact (congrArg _ (show idx_main_v74 (ix4 b s h k) = _ from idx_heads b s h k)).trans (v_ref x0 x1 b s _)

/-- The heads brought before the positions. -/
theorem turn : idx_main_v85 (ix4 b h s k) = ix4 b s h k := by
  funext a
  fin_cases a <;> rfl

/-- An array is told by its entries at each sequence, position, head and column. -/
theorem by_head {y : FVec Ideal S8x8x2048x64 .f32} (f : S8x8x2048x64.Idx → EReal) (hy : ∀ b s h k, y (ix4 b h s k) = f (ix4 b h s k)) : y = f := by
  funext i
  obtain ⟨b, h, s, k, rfl⟩ : ∃ (b h : Fin 8) (s : Fin 2048) (k : Fin 64), i = ix4 b h s k := ⟨i 0, i 1, i 2, i 3, by idx_ext⟩
  exact hy b s h k

theorem by_row {y : FVec Ideal S16384x512 .f32} (f : S16384x512.Idx → EReal)
    (hy : ∀ b s h k, y (ix2 (tokenOf b s) (columnOf h k)) = f (ix2 (tokenOf b s) (columnOf h k))) : y = f := by
  funext i
  obtain ⟨n, d, rfl⟩ : ∃ (n : Fin 16384) (d : Fin 512), i = ix2 n d := ⟨i 0, i 1, by idx_ext⟩
  have hn := n.isLt
  have hd := d.isLt
  have en : n = tokenOf ⟨n.val / 2048, by omega⟩ ⟨n.val % 2048, by omega⟩ := Fin.ext (by show n.val = n.val / 2048 * 2048 + n.val % 2048; omega)
  have ed : d = columnOf ⟨d.val / 64, by omega⟩ ⟨d.val % 64, by omega⟩ := Fin.ext (by show d.val = d.val / 64 * 64 + d.val % 64; omega)
  rw [en, ed]
  exact hy _ _ _ _

/-- One direction of the stacked decays. -/
theorem first_ref : val_main_v92 (F := Ideal) x0 x1 x2 x3 (ix3 b s d)
    = decayF (rowOf x0 x1 (tokenOf b s)) (fun k d => x3 (ix3 (0 : Fin 2) k d)) (fun d => x2 (ix2 (0 : Fin 2) d)) d := by
  rw [val_main_v92_apply, val_main_v91_apply]
  refine (congrArg _ ?_).trans (decay_ref x0 x1 x2 x3 b s d 0 _ (fun k => (code_ref x0 x1 b s k).1))
  have hs := s.isLt
  have hd := d.isLt
  funext a
  apply Fin.ext
  fin_cases a
  all_goals simp [idx_main_v92, idx_main_v91]
  all_goals omega

theorem second_ref : val_main_v96 (F := Ideal) x0 x1 x2 x3 (ix3 b s d)
    = decayB (rowOf x0 x1 (tokenOf b s)) (fun k d => x3 (ix3 (1 : Fin 2) k d)) (fun d => x2 (ix2 (1 : Fin 2) d)) d := by
  rw [val_main_v96_apply, val_main_v95_apply]
  refine (congrArg _ ?_).trans (decay_ref x0 x1 x2 x3 b s d 1 _ (fun k => (code_ref x0 x1 b s k).2))
  have hs := s.isLt
  have hd := d.isLt
  funext a
  apply Fin.ext
  fin_cases a
  all_goals simp [idx_main_v96, idx_main_v95]
  all_goals omega

theorem value_85 : val_main_v85 (F := Ideal) x0 x1 = fun i : S8x8x2048x64.Idx =>
    rOf (rowOf x0 x1 (tokenOf (i 0) (i 2))) (columnOf (i 1) (i 3)) := by
  refine by_head _ (fun b s h k => ?_)
  rw [val_main_v85_apply, show idx_main_v85 (ix4 b h s k) = _ from turn b s h k, val_main_v72_apply, show idx_main_v72 (ix4 b s h k) = _ from idx_heads b s h k, r_ref]
  rfl

theorem value_86 : val_main_v86 (F := Ideal) x0 x1 x4 x5 x8 = fun i : S8x8x2048x64.Idx =>
    keyOf (rowOf x0 x1 (tokenOf (i 0) (i 2))) (fun k d => x5 (ix2 k d)) (fun d => x4 (ix1 d)) (fun d => x8 (ix1 d)) (columnOf (i 1) (i 3)) := by
  refine by_head _ (fun b s h k => ?_)
  rw [val_main_v86_apply, show idx_main_v86 (ix4 b h s k) = _ from turn b s h k, val_main_v73_apply, show idx_main_v73 (ix4 b s h k) = _ from idx_heads b s h k, key_ref]
  rfl

theorem value_87 : val_main_v87 (F := Ideal) x0 x1 = fun i : S8x8x2048x64.Idx =>
    vOf (rowOf x0 x1 (tokenOf (i 0) (i 2))) (columnOf (i 1) (i 3)) := by
  refine by_head _ (fun b s h k => ?_)
  rw [val_main_v87_apply, show idx_main_v87 (ix4 b h s k) = _ from turn b s h k, val_main_v74_apply, show idx_main_v74 (ix4 b s h k) = _ from idx_heads b s h k, v_ref]
  rfl

theorem value_88 : val_main_v88 (F := Ideal) x0 x1 x7 = fun i : S8x8x2048x64.Idx =>
    unitOf (rowOf x0 x1 (tokenOf (i 0) (i 2))) (fun d => x7 (ix1 d)) (columnOf (i 1) (i 3)) := by
  refine by_head _ (fun b s h k => ?_)
  rw [val_main_v88_apply, show idx_main_v88 (ix4 b h s k) = _ from turn b s h k, unit_ref]
  rfl

theorem value_90 : val_main_v90 (F := Ideal) x0 x1 x4 x5 x7 = fun i : S8x8x2048x64.Idx =>
    unitOf (rowOf x0 x1 (tokenOf (i 0) (i 2))) (fun d => x7 (ix1 d)) (columnOf (i 1) (i 3)) * rateOf (rowOf x0 x1 (tokenOf (i 0) (i 2))) (fun k d => x5 (ix2 k d)) (fun d => x4 (ix1 d)) (columnOf (i 1) (i 3)) := by
  refine by_head _ (fun b s h k => ?_)
  rw [val_main_v90_apply, show idx_main_v90 (ix4 b h s k) = _ from turn b s h k, val_main_v89_apply, unit_ref, val_main_v75_apply, show idx_main_v75 (ix4 b s h k) = _ from idx_heads b s h k, rate_ref]
  rfl

theorem value_94 : val_main_v94 (F := Ideal) x0 x1 x2 x3 = fun i : S8x8x2048x64.Idx =>
    decayF (rowOf x0 x1 (tokenOf (i 0) (i 2))) (fun k d => x3 (ix3 (0 : Fin 2) k d)) (fun d => x2 (ix2 (0 : Fin 2) d)) (columnOf (i 1) (i 3)) := by
  refine by_head _ (fun b s h k => ?_)
  rw [val_main_v94_apply, show idx_main_v94 (ix4 b h s k) = _ from turn b s h k, val_main_v93_apply, show idx_main_v93 (ix4 b s h k) = _ from idx_heads b s h k, first_ref]
  rfl

theorem value_98 : val_main_v98 (F := Ideal) x0 x1 x2 x3 = fun i : S8x8x2048x64.Idx =>
    decayB (rowOf x0 x1 (tokenOf (i 0) (i 2))) (fun k d => x3 (ix3 (1 : Fin 2) k d)) (fun d => x2 (ix2 (1 : Fin 2) d)) (columnOf (i 1) (i 3)) := by
  refine by_head _ (fun b s h k => ?_)
  rw [val_main_v98_apply, show idx_main_v98 (ix4 b h s k) = _ from turn b s h k, val_main_v97_apply, show idx_main_v97 (ix4 b s h k) = _ from idx_heads b s h k, second_ref]
  rfl

theorem value_99 : val_main_v99 (F := Ideal) x0 x1 x6 = fun i : S16384x512.Idx => gateOf (rowOf x0 x1 (i 0)) (fun k d => x6 (ix2 k d)) (i 1) := by
  refine by_row _ (fun b s h k => ?_)
  rw [val_main_v99_apply]
  refine (congrArg _ ?_).trans (gate_ref x0 x1 x6 b s (columnOf h k))
  have hs := s.isLt
  funext a
  apply Fin.ext
  fin_cases a
  all_goals simp [idx_main_v99, tokenOf, columnOf]
  all_goals omega

theorem value_100 : val_main_v100 (F := Ideal) x0 x1 x4 x5 x8 x9 = fun i : S16384x512.Idx =>
    bonusOf (rowOf x0 x1 (i 0)) (fun k d => x5 (ix2 k d)) (fun d => x4 (ix1 d)) (fun d => x8 (ix1 d)) (fun d => x9 (ix1 d)) (i 1) := by
  refine by_row _ (fun b s h k => ?_)
  rw [val_main_v100_apply]
  refine (congrArg _ ?_).trans (bonus_ref x0 x1 x4 x5 x8 x9 b s h k)
  have hs := s.isLt
  funext a
  apply Fin.ext
  fin_cases a
  all_goals simp [idx_main_v100, tokenOf, columnOf]
  all_goals omega

end Cert.Reference9Ideal.Own

end
-- ==== Proof.PrepClaim.lean ====
/-
  The claims about what comes before the second scan: the reference leaves its arguments and has no semaphore, and at the
  ideal instance the program's nine arrays are its reference's. No input is excluded.
-/
module

public import proofs.«01_k».proof.Defs
public import proofs.«01_k».proof.Proof.ScanPrep
public import proofs.«01_k».proof.Proof.ScanPrepRef

@[expose] public section

noncomputable section

namespace Cert.Prep

open Idealize.ShloMosaic Idealize.SL.Sem

/-- The reference leaves its arguments, and it has no semaphore. -/
theorem frame_scan_prep : Cert.quiescent_Reference9Ideal (hReference9Ideal := Cert.Reference9Ideal.Gen.facts) := by
  intro m g _
  have no_sem : ∀ s : SemLoc Cert.Reference9Ideal.sig, False := by decide
  exact (θ_run _ _ _).mono (fun r h => ⟨fun c => (h c).2.2.2.2.2.2.2.2.2, funext fun s => (no_sem s.2).elim⟩) (Cert.Reference9Ideal.Value.run m g)

/-- The program and the reference leave the same nine arrays. -/
theorem scan_prep : Cert.algebraic_Kernel9Ideal_Reference9Ideal (hKernel9Ideal := Cert.Kernel9Ideal.Gen.facts)
    (hReference9Ideal := Cert.Reference9Ideal.Gen.facts) := by
  intro m g m' g' _ hargs
  letI := Cert.Kernel9Ideal.Gen.facts
  letI := Cert.Reference9Ideal.Gen.facts
  refine ⟨fun c => Cert.Reference9Ideal.Read.val_main_v85 (F := Ideal) (m ((c.tc : Thread _ _).loc Cert.Kernel9Ideal.main_arg0)) (m ((c.tc : Thread _ _).loc Cert.Kernel9Ideal.main_arg1)),
    fun c => Cert.Reference9Ideal.Read.val_main_v86 (F := Ideal) (m ((c.tc : Thread _ _).loc Cert.Kernel9Ideal.main_arg0)) (m ((c.tc : Thread _ _).loc Cert.Kernel9Ideal.main_arg1)) (m ((c.tc : Thread _ _).loc Cert.Kernel9Ideal.main_arg4)) (m ((c.tc : Thread _ _).loc Cert.Kernel9Ideal.main_arg5)) (m ((c.tc : Thread _ _).loc Cert.Kernel9Ideal.main_arg8)),
    fun c => Cert.Reference9Ideal.Read.val_main_v87 (F := Ideal) (m ((c.tc : Thread _ _).loc Cert.Kernel9Ideal.main_arg0)) (m ((c.tc : Thread _ _).loc Cert.Kernel9Ideal.main_arg1)),
    fun c => Cert.Reference9Ideal.Read.val_main_v88 (F := Ideal) (m ((c.tc : Thread _ _).loc Cert.Kernel9Ideal.main_arg0)) (m ((c.tc : Thread _ _).loc Cert.Kernel9Ideal.main_arg1)) (m ((c.tc : Thread _ _).loc Cert.Kernel9Ideal.main_arg7)),
    fun c => Cert.Reference9Ideal.Read.val_main_v90 (F := Ideal) (m ((c.tc : Thread _ _).loc Cert.Kernel9Ideal.main_arg0)) (m ((c.tc : Thread _ _).loc Cert.Kernel9Ideal.main_arg1)) (m ((c.tc : Thread _ _).loc Cert.Kernel9Ideal.main_arg4)) (m ((c.tc : Thread _ _).loc Cert.Kernel9Ideal.main_arg5)) (m ((c.tc : Thread _ _).loc Cert.Kernel9Ideal.main_arg7)),
    fun c => Cert.Reference9Ideal.Read.val_main_v94 (F := Ideal) (m ((c.tc : Thread _ _).loc Cert.Kernel9Ideal.main_arg0)) (m ((c.tc : Thread _ _).loc Cert.Kernel9Ideal.main_arg1)) (m ((c.tc : Thread _ _).loc Cert.Kernel9Ideal.main_arg2)) (m ((c.tc : Thread _ _).loc Cert.Kernel9Ideal.main_arg3)),
    fun c => Cert.Reference9Ideal.Read.val_main_v98 (F := Ideal) (m ((c.tc : Thread _ _).loc Cert.Kernel9Ideal.main_arg0)) (m ((c.tc : Thread _ _).loc Cert.Kernel9Ideal.main_arg1)) (m ((c.tc : Thread _ _).loc Cert.Kernel9Ideal.main_arg2)) (m ((c.tc : Thread _ _).loc Cert.Kernel9Ideal.main_arg3)),
    fun c => Cert.Reference9Ideal.Read.val_main_v99 (F := Ideal) (m ((c.tc : Thread _ _).loc Cert.Kernel9Ideal.main_arg0)) (m ((c.tc : Thread _ _).loc Cert.Kernel9Ideal.main_arg1)) (m ((c.tc : Thread _ _).loc Cert.Kernel9Ideal.main_arg6)),
    fun c => Cert.Reference9Ideal.Read.val_main_v100 (F := Ideal) (m ((c.tc : Thread _ _).loc Cert.Kernel9Ideal.main_arg0)) (m ((c.tc : Thread _ _).loc Cert.Kernel9Ideal.main_arg1)) (m ((c.tc : Thread _ _).loc Cert.Kernel9Ideal.main_arg4)) (m ((c.tc : Thread _ _).loc Cert.Kernel9Ideal.main_arg5)) (m ((c.tc : Thread _ _).loc Cert.Kernel9Ideal.main_arg8)) (m ((c.tc : Thread _ _).loc Cert.Kernel9Ideal.main_arg9)), ?_, ?_⟩
  · exact (θ_run _ _ _).mono (fun r h c => ⟨(h c).1.trans ((Cert.Kernel9Ideal.Own.final_13 m c).trans (Cert.Reference9Ideal.Own.value_85 _ _).symm),
      (h c).2.1.trans ((Cert.Kernel9Ideal.Own.final_14 m c).trans (Cert.Reference9Ideal.Own.value_86 _ _ _ _ _).symm),
      (h c).2.2.1.trans ((Cert.Kernel9Ideal.Own.final_15 m c).trans (Cert.Reference9Ideal.Own.value_87 _ _).symm),
      (h c).2.2.2.1.trans ((Cert.Kernel9Ideal.Own.final_16 m c).trans (Cert.Reference9Ideal.Own.value_88 _ _ _).symm),
      (h c).2.2.2.2.1.trans ((Cert.Kernel9Ideal.Own.final_17 m c).trans (Cert.Reference9Ideal.Own.value_90 _ _ _ _ _).symm),
      (h c).2.2.2.2.2.1.trans ((Cert.Kernel9Ideal.Own.final_18 m c).trans (Cert.Reference9Ideal.Own.value_94 _ _ _ _).symm),
      (h c).2.2.2.2.2.2.1.trans ((Cert.Kernel9Ideal.Own.final_19 m c).trans (Cert.Reference9Ideal.Own.value_98 _ _ _ _).symm),
      (h c).2.2.2.2.2.2.2.1.trans ((Cert.Kernel9Ideal.Own.final_20 m c).trans (Cert.Reference9Ideal.Own.value_99 _ _ _).symm),
      (h c).2.2.2.2.2.2.2.2.1.trans ((Cert.Kernel9Ideal.Own.final_21 m c).trans (Cert.Reference9Ideal.Own.value_100 _ _ _ _ _ _).symm),
      (h c).2.2.2.2.2.2.2.2.2⟩) (Cert.Kernel9Ideal.Value.run_blocks m g)
  · refine (θ_run _ _ _).mono (fun r h c => ?_) (Cert.Reference9Ideal.Value.run m' g')
    obtain ⟨e0, e1, e2, e3, e4, e5, e6, e7, e8, e9⟩ := hargs c
    exact ⟨(h c).1.trans ((Cert.Reference9Ideal.Read.val_main_v85_eq _ _).trans (congr (congrArg (Cert.Reference9Ideal.Read.val_main_v85 (F := Ideal)) e0) e1)),
      (h c).2.1.trans ((Cert.Reference9Ideal.Read.val_main_v86_eq _ _ _ _ _).trans (congr (congr (congr (congr (congrArg (Cert.Reference9Ideal.Read.val_main_v86 (F := Ideal)) e0) e1) e4) e5) e8)),
      (h c).2.2.1.trans ((Cert.Reference9Ideal.Read.val_main_v87_eq _ _).trans (congr (congrArg (Cert.Reference9Ideal.Read.val_main_v87 (F := Ideal)) e0) e1)),
      (h c).2.2.2.1.trans ((Cert.Reference9Ideal.Read.val_main_v88_eq _ _).trans (congr (congr (congrArg (Cert.Reference9Ideal.Read.val_main_v88 (F := Ideal)) e0) e1) e7)),
      (h c).2.2.2.2.1.trans ((Cert.Reference9Ideal.Read.val_main_v90_eq _ _).trans (congr (congr (congr (congr (congrArg (Cert.Reference9Ideal.Read.val_main_v90 (F := Ideal)) e0) e1) e4) e5) e7)),
      (h c).2.2.2.2.2.1.trans ((Cert.Reference9Ideal.Read.val_main_v94_eq _ _).trans (congr (congr (congr (congrArg (Cert.Reference9Ideal.Read.val_main_v94 (F := Ideal)) e0) e1) e2) e3)),
      (h c).2.2.2.2.2.2.1.trans ((Cert.Reference9Ideal.Read.val_main_v98_eq _ _).trans (congr (congr (congr (congrArg (Cert.Reference9Ideal.Read.val_main_v98 (F := Ideal)) e0) e1) e2) e3)),
      (h c).2.2.2.2.2.2.2.1.trans ((Cert.Reference9Ideal.Read.val_main_v99_eq _ _ _).trans (congr (congr (congrArg (Cert.Reference9Ideal.Read.val_main_v99 (F := Ideal)) e0) e1) e6)),
      (h c).2.2.2.2.2.2.2.2.1.trans ((Cert.Reference9Ideal.Read.val_main_v100_eq _ _).trans (congr (congr (congr (congr (congr (congrArg (Cert.Reference9Ideal.Read.val_main_v100 (F := Ideal)) e0) e1) e4) e5) e8) e9)),
      (h c).2.2.2.2.2.2.2.2.2⟩

end Cert.Prep

end
-- ==== Proof.ProjMath.lean ====
/-
  What the projections into and out of a mixer compute, entry by entry: a row normalised and modulated, then multiplied
  into a matrix; a product added, under a gate, to what went in.
-/
module

public import Idealize.ShloMosaic.Lib.Pointwise

@[expose] public section

noncomputable section

namespace Cert.Proj

open Idealize.ShloMosaic

/-- A row over the root of its mean square, times the gains, stretched by one plus the scale and shifted. -/
def normRow (x g sh sc : Fin 1024 → EReal) (k : Fin 1024) : EReal :=
  x k * Ideal.rsqrt (Ideal.div (∑ j, x j * x j) (Ideal.ofBits .f32 0x44800000#32) + Ideal.ofBits .f32 0x358637BD#32) * g k
    * (Ideal.ofBits .f32 0x3F800000#32 + sc k) + sh k

/-- A row of a block normalised and modulated, from the block's operands. -/
def blockHidden (x : FVec Ideal ⟨2, ![256, 1024]⟩ .f32) (g : FVec Ideal ⟨2, ![1, 1024]⟩ .f32)
    (sh sc : FVec Ideal ⟨3, ![1, 1, 1024]⟩ .f32) (r : Fin 256) : Fin 1024 → EReal :=
  normRow (fun k => x (ix2 r k)) (fun k => g (ix2 (0 : Fin 1) k)) (fun k => sh (ix3 (0 : Fin 1) (0 : Fin 1) k))
    (fun k => sc (ix3 (0 : Fin 1) (0 : Fin 1) k))

/-- Column `k` of row `n`'s part of the modulation that starts at column `o`: row `n` belongs to sequence `n / 2048`. -/
def modAt (M : FVec Ideal ⟨3, ![8, 1, 6144]⟩ .f32) (o : Fin 5121) (n : Fin 16384) (k : Fin 1024) : EReal :=
  M (ix3 (⟨n.val / 2048, by omega⟩ : Fin 8) (0 : Fin 1) (⟨o.val + k.val, by omega⟩ : Fin 6144))

/-- Row `n` normalised and modulated: the shift is the modulation's first part, the scale its second. -/
def rowHidden (X : FVec Ideal ⟨2, ![16384, 1024]⟩ .f32) (G : FVec Ideal ⟨1, ![1024]⟩ .f32)
    (M : FVec Ideal ⟨3, ![8, 1, 6144]⟩ .f32) (n : Fin 16384) : Fin 1024 → EReal :=
  normRow (fun k => X (ix2 n k)) (fun k => G (ix1 k)) (modAt M 0 n) (modAt M 1024 n)

/-- An entry of a block's projection, from the block's operands. -/
def blockProj {p : ℕ} (x : FVec Ideal ⟨2, ![256, 1024]⟩ .f32) (g : FVec Ideal ⟨2, ![1, 1024]⟩ .f32)
    (sh sc : FVec Ideal ⟨3, ![1, 1, 1024]⟩ .f32) (w : FVec Ideal ⟨2, ![1024, p]⟩ .bf16) (r : Fin 256) (d : Fin p) : EReal :=
  ∑ k : Fin 1024, blockHidden x g sh sc r k * w (ix2 k d)

/-- An entry of the projection into a mixer. -/
def projAt {p : ℕ} (X : FVec Ideal ⟨2, ![16384, 1024]⟩ .f32) (G : FVec Ideal ⟨1, ![1024]⟩ .f32)
    (M : FVec Ideal ⟨3, ![8, 1, 6144]⟩ .f32) (W : FVec Ideal ⟨2, ![1024, p]⟩ .f32) (n : Fin 16384) (d : Fin p) : EReal :=
  ∑ k : Fin 1024, rowHidden X G M n k * W (ix2 k d)

/-- A column of the projection into the scans' first part. -/
def firstCol (d : Fin 2560) : Fin 4416 := ⟨d.val, by omega⟩

/-- A column of its second part. -/
def lastCol (d : Fin 1856) : Fin 4416 := ⟨2560 + d.val, by omega⟩

/-- An entry after the projection out of a mixer: the gate is the modulation's third part. -/
def outAt (X : FVec Ideal ⟨2, ![16384, 1024]⟩ .f32) (M : FVec Ideal ⟨3, ![8, 1, 6144]⟩ .f32) (y : Fin 16384 → Fin 1024 → EReal)
    (W : FVec Ideal ⟨2, ![1024, 1024]⟩ .f32) (n : Fin 16384) (d : Fin 1024) : EReal :=
  X (ix2 n d) + modAt M 2048 n d * ∑ k : Fin 1024, y n k * W (ix2 k d)

/-- Two arrays of 512 columns side by side. -/
def joined (a b : FVec Ideal ⟨2, ![16384, 512]⟩ .bf16) (n : Fin 16384) (k : Fin 1024) : EReal :=
  if h : k.val < 512 then a (ix2 n (⟨k.val, h⟩ : Fin 512)) else b (ix2 n (⟨k.val - 512, by omega⟩ : Fin 512))

theorem joined_left (a b : FVec Ideal ⟨2, ![16384, 512]⟩ .bf16) (n : Fin 16384) (k : Fin 512) :
    joined a b n ⟨k.val, by omega⟩ = a (ix2 n k) := by
  unfold joined
  rw [dif_pos k.isLt]

theorem joined_right (a b : FVec Ideal ⟨2, ![16384, 512]⟩ .bf16) (n : Fin 16384) (k : Fin 512) :
    joined a b n ⟨512 + k.val, by omega⟩ = b (ix2 n k) := by
  unfold joined
  rw [dif_neg (Nat.not_lt.mpr (Nat.le_add_right 512 k.val))]
  exact congrArg (fun j => b (ix2 n j)) (Fin.ext (Nat.add_sub_cancel_left 512 k.val))

/-- A sum over 1024 terms in two halves. -/
theorem sum_halves (f : Fin 1024 → EReal) :
    ∑ k, f k = (∑ k : Fin 512, f ⟨k.val, by omega⟩) + ∑ k : Fin 512, f ⟨512 + k.val, by omega⟩ :=
  Fin.sum_univ_add (a := 512) (b := 512) f

end Cert.Proj

end
-- ==== Proof.ProjInAb.lean ====
/-
  The projection into the two scans: the kernel's two arrays and the reference's.
-/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.ProjMath
public import Idealize.ShloMosaic.Lib.Pipeline.ValueKit

@[expose] public section

set_option maxRecDepth 16384

noncomputable section

namespace Cert.Kernel3Ideal.Own

open Idealize.ShloMosaic Idealize.ShloMosaic.TcCoe Idealize.ShloMosaic.StableHlo
open Idealize.ShloMosaic.Pipeline (Dat)
open Cert.Kernel3Ideal.Gen Cert.Proj

variable (m : (ℓ : Loc nD τ sig) → Buf (Elt Ideal) ℓ) (c : Dev nD)

/-- The gains at the region's entry. -/
theorem gains_in : V m c main_v3 = (shapeCast S1x1024
    (m ((c.tc : Thread nD τ).loc main_arg1) : FVec Ideal S1024 .f32) shapeCasts_S1024_S1x1024 : FVec Ideal S1x1024 .f32) := by
  simp only [V, hostOps0]
  after_results_simp
  rfl

/-- The first columns of the weights at the region's entry. -/
theorem first_in : V m c main_v1 = (extractStridedSlice S1024x2560 ![0, 0]
    (m ((c.tc : Thread nD τ).loc main_arg3) : FVec Ideal S1024x4416 .f32) slices_S1024x4416_S1024x2560_0_0 : FVec Ideal S1024x2560 .f32) := by
  simp only [V, hostOps0]
  after_results_simp
  rfl

/-- The last columns of the weights at the region's entry. -/
theorem last_in : V m c main_v2 = (extractStridedSlice S1024x1856 ![0, 2560]
    (m ((c.tc : Thread nD τ).loc main_arg3) : FVec Ideal S1024x4416 .f32) slices_S1024x4416_S1024x1856_0_2560 : FVec Ideal S1024x1856 .f32) := by
  simp only [V, hostOps0]
  after_results_simp
  rfl

/-- Where each window's block lies at a point. -/
theorem places : ∀ t : Fin cfg0.N,
    win0_0.index t = ![t.val, 0] ∧ win0_1.index t = ![0, 0] ∧ win0_2.index t = ![t.val / 8, 0, 0]
      ∧ win0_3.index t = ![t.val / 8, 0, 1] ∧ win0_4.index t = ![0, 0] ∧ win0_5.index t = ![0, 0]
      ∧ win0_6.index t = ![t.val, 0] ∧ win0_7.index t = ![t.val, 0] :=
  (by decide +kernel : ∀ t : Fin grid0.N, _)

theorem in_rows (t : Fin cfg0.N) (r : Fin 256) (d : Fin 1024) (n : Fin 16384) (hn : n.val = t.val * 256 + r.val) :
    iblk m c 0 t (ix2 r d) = m ((c.tc : Thread nD τ).loc main_arg0) (ix2 n d) := by
  rw [← V_main_arg0 m c]
  blk_simp [iblk, places t]
  blk_ext [places t]

theorem in_gains (t : Fin cfg0.N) (d : Fin 1024) :
    iblk m c 1 t (ix2 (0 : Fin 1) d) = m ((c.tc : Thread nD τ).loc main_arg1) (ix1 d) := by
  have e : iblk m c 1 t (ix2 (0 : Fin 1) d) = V m c main_v3 (ix2 (0 : Fin 1) d) := by
    blk_simp [iblk, places t]
    blk_ext [places t]
  rw [e, gains_in]
  refine shapeCast_apply _ _ _ (ix1 d) ?_
  simp [Shape.rowMajor_val_one, Shape.rowMajor_val_two]

theorem in_shift (t : Fin cfg0.N) (d : Fin 1024) (n : Fin 16384) (hn : n.val / 256 = t.val) :
    iblk m c 2 t (ix3 (0 : Fin 1) (0 : Fin 1) d) = modAt (m ((c.tc : Thread nD τ).loc main_arg2)) 0 n d := by
  unfold modAt
  rw [← V_main_arg2 m c]
  blk_simp [iblk, places t]
  blk_ext [places t]

theorem in_scale (t : Fin cfg0.N) (d : Fin 1024) (n : Fin 16384) (hn : n.val / 256 = t.val) :
    iblk m c 3 t (ix3 (0 : Fin 1) (0 : Fin 1) d) = modAt (m ((c.tc : Thread nD τ).loc main_arg2)) 1024 n d := by
  unfold modAt
  rw [← V_main_arg2 m c]
  blk_simp [iblk, places t]
  blk_ext [places t]

/-- A point's normalised and modulated rows are the arrays'. -/
theorem in_hidden (t : Fin cfg0.N) (r : Fin 256) (n : Fin 16384) (hn : n.val = t.val * 256 + r.val) :
    blockHidden (iblk m c 0 t) (iblk m c 1 t) (iblk m c 2 t) (iblk m c 3 t) r
      = rowHidden (m ((c.tc : Thread nD τ).loc main_arg0)) (m ((c.tc : Thread nD τ).loc main_arg1))
        (m ((c.tc : Thread nD τ).loc main_arg2)) n := by
  have hr := r.isLt
  unfold blockHidden rowHidden
  refine congr (congr (congr (congrArg normRow (funext fun k => ?_)) (funext fun k => ?_)) (funext fun k => ?_)) (funext fun k => ?_)
  · exact in_rows m c t r k n hn
  · exact in_gains m c t k
  · exact in_shift m c t k n (by omega)
  · exact in_scale m c t k n (by omega)

theorem in_first (t : Fin cfg0.N) (k : Fin 1024) (d : Fin 2560) :
    iblk m c 4 t (ix2 k d) = m ((c.tc : Thread nD τ).loc main_arg3) (ix2 k (firstCol d)) := by
  have e : iblk m c 4 t (ix2 k d) = V m c main_v1 (ix2 k d) := by
    blk_simp [iblk, places t]
    blk_ext [places t]
  rw [e, first_in]
  refine extractStridedSlice_apply _ _ _ _ _ ?_
  intro a
  match a with
  | ⟨0, _⟩ => exact (Nat.zero_add _).symm
  | ⟨1, _⟩ => exact (Nat.zero_add _).symm

theorem in_last (t : Fin cfg0.N) (k : Fin 1024) (d : Fin 1856) :
    iblk m c 5 t (ix2 k d) = m ((c.tc : Thread nD τ).loc main_arg3) (ix2 k (lastCol d)) := by
  have e : iblk m c 5 t (ix2 k d) = V m c main_v2 (ix2 k d) := by
    blk_simp [iblk, places t]
    blk_ext [places t]
  rw [e, last_in]
  refine extractStridedSlice_apply _ _ _ _ _ ?_
  intro a
  match a with
  | ⟨0, _⟩ => exact (Nat.zero_add _).symm
  | ⟨1, _⟩ => rfl

variable (x : FVec Ideal S256x1024 .f32) (g : FVec Ideal S1x1024 .f32) (sh sc : FVec Ideal S1x1x1024 .f32)
  (wa : FVec Ideal S1024x2560 .bf16) (wb : FVec Ideal S1024x1856 .bf16) (r : Fin 256)

/-- The body's normalised and modulated block. -/
theorem hidden_apply (k : Fin 1024) : k0_pay1 (F := Ideal) x g sh sc (ix2 r k) = blockHidden x g sh sc r k := by
  unfold blockHidden normRow
  pointwise [k0_pay1]

/-- An entry of what the body leaves in its first result. -/
theorem first_apply (d : Fin 2560) : out0_6 (F := Ideal) x g sh sc wa wb (ix2 r d)
    = blockProj x g sh sc wa r d := by
  unfold blockProj
  unfold out0_6
  frame_out
  pointwise [k0_pay2]
  exact Finset.sum_congr rfl fun k _ => congrArg (· * _) (hidden_apply x g sh sc r k)

/-- An entry of what the body leaves in its second result. -/
theorem second_apply (d : Fin 1856) : out0_7 (F := Ideal) x g sh sc wa wb (ix2 r d)
    = blockProj x g sh sc wb r d := by
  unfold blockProj
  unfold out0_7
  frame_out
  pointwise [k0_pay3]
  exact Finset.sum_congr rfl fun k _ => congrArg (· * _) (hidden_apply x g sh sc r k)

/-- The first result array after the run. -/
theorem final_first : (dats m 0 c).arrAt 6 cfg0.N = fun i : S16384x2560.Idx =>
    projAt (m ((c.tc : Thread nD τ).loc main_arg0)) (m ((c.tc : Thread nD τ).loc main_arg1))
      (m ((c.tc : Thread nD τ).loc main_arg2)) (m ((c.tc : Thread nD τ).loc main_arg3)) (i 0) (firstCol (i 1)) := by
  refine Dat.arrAt_eq_of_covers (dats m 0 c) 6 _ (by decide +kernel) (fun t _ z => ?_)
  blk_simp
  rw [after0_6]
  obtain ⟨r, d, rfl⟩ : ∃ (r : Fin 256) (d : Fin 2560), z = ix2 r d := ⟨z 0, z 1, by idx_ext⟩
  rw [first_apply]
  have ht : t.val < 64 := t.isLt
  have key : ∀ (n : Fin 16384) (d' : Fin 2560), n.val = t.val * 256 + r.val → d'.val = d.val →
      blockProj (iblk m c 0 t) (iblk m c 1 t) (iblk m c 2 t) (iblk m c 3 t) (iblk m c 4 t) r d = projAt
      (m ((c.tc : Thread nD τ).loc main_arg0)) (m ((c.tc : Thread nD τ).loc main_arg1))
      (m ((c.tc : Thread nD τ).loc main_arg2)) (m ((c.tc : Thread nD τ).loc main_arg3)) n (firstCol d') := by
    intro n d' hn hd
    obtain rfl : d' = d := Fin.ext hd
    unfold blockProj projAt
    exact Finset.sum_congr rfl fun k _ => congrArg₂ (· * ·) (congrFun (in_hidden m c t r n hn) k) (in_first m c t k _)
  refine key _ _ ?_ ?_
  · blk_simp [places t]
  · blk_simp [places t]

/-- The second result array after the run. -/
theorem final_last : (dats m 0 c).arrAt 7 cfg0.N = fun i : S16384x1856.Idx =>
    projAt (m ((c.tc : Thread nD τ).loc main_arg0)) (m ((c.tc : Thread nD τ).loc main_arg1))
      (m ((c.tc : Thread nD τ).loc main_arg2)) (m ((c.tc : Thread nD τ).loc main_arg3)) (i 0) (lastCol (i 1)) := by
  refine Dat.arrAt_eq_of_covers (dats m 0 c) 7 _ (by decide +kernel) (fun t _ z => ?_)
  blk_simp
  rw [after0_7]
  obtain ⟨r, d, rfl⟩ : ∃ (r : Fin 256) (d : Fin 1856), z = ix2 r d := ⟨z 0, z 1, by idx_ext⟩
  rw [second_apply]
  have ht : t.val < 64 := t.isLt
  have key : ∀ (n : Fin 16384) (d' : Fin 1856), n.val = t.val * 256 + r.val → d'.val = d.val →
      blockProj (iblk m c 0 t) (iblk m c 1 t) (iblk m c 2 t) (iblk m c 3 t) (iblk m c 5 t) r d = projAt
      (m ((c.tc : Thread nD τ).loc main_arg0)) (m ((c.tc : Thread nD τ).loc main_arg1))
      (m ((c.tc : Thread nD τ).loc main_arg2)) (m ((c.tc : Thread nD τ).loc main_arg3)) n (lastCol d') := by
    intro n d' hn hd
    obtain rfl : d' = d := Fin.ext hd
    unfold blockProj projAt
    exact Finset.sum_congr rfl fun k _ => congrArg₂ (· * ·) (congrFun (in_hidden m c t r n hn) k) (in_last m c t k _)
  refine key _ _ ?_ ?_
  · blk_simp [places t]
  · blk_simp [places t]

end Cert.Kernel3Ideal.Own

namespace Cert.Reference3Ideal.Own

open Idealize.ShloMosaic Idealize.ShloMosaic.TcCoe Cert.Reference3Ideal.Gen Cert.Reference3Ideal.Read Cert.Proj

variable [Cert.Reference3Ideal.Facts₀] [Cert.Reference3Ideal.Facts]
variable (x0 : FVec Ideal S16384x1024 .f32) (x1 : FVec Ideal S1024 .f32) (x2 : FVec Ideal S8x1x6144 .f32)
  (x3 : FVec Ideal S1024x4416 .f32)

/-- The rows normalised and modulated. -/
theorem hidden_apply (b : Fin 8) (q : Fin 2048) (k : Fin 1024) (n : Fin 16384) (hn : n.val = b.val * 2048 + q.val) :
    val_main_v32 (F := Ideal) x0 x1 x2 (ix3 b q k) = rowHidden x0 x1 x2 n k := by
  have hb := b.isLt
  have hq := q.isLt
  have hk := k.isLt
  have z : val_main_cst (F := Ideal) (Shape.Idx.first h_S_) = 0 := by
    show Ideal.ofBits .f32 0x0#32 = 0
    exact Ideal.ofBits_zero _
  have rows : ∀ j : Fin 1024, val_main_v13 (F := Ideal) x0 (ix3 b q j) = x0 (ix2 n j) := by
    intro j
    have hj := j.isLt
    rw [val_main_v13_apply]
    refine congrArg x0 ?_
    funext a
    apply Fin.ext
    fin_cases a
    all_goals simp
    all_goals omega
  have sq : val_main_v15 (F := Ideal) x0 (ix2 b q) = (∑ j : Fin 1024, x0 (ix2 n j) * x0 (ix2 n j) : EReal) := by
    rw [val_main_v15_apply, z, zero_add]
    refine Finset.sum_congr rfl fun j _ => ?_
    have e : idx_main_v15 (ix2 b q) j = ix3 b q j := by
      funext a
      match a with
      | ⟨0, _⟩ => rfl
      | ⟨1, _⟩ => rfl
      | ⟨2, _⟩ => rfl
    rw [e, val_main_v14_apply, rows]
    rfl
  simp only [val_main_v32_apply, val_main_v31_apply, val_main_v30_apply, val_main_v29_apply, val_main_v28_apply,
    val_main_v27_apply, val_main_v26_apply, val_main_v25_apply, val_main_v24_apply, val_main_v23_apply, val_main_v22_apply,
    val_main_v21_apply, val_main_v20_apply, val_main_v19_apply, val_main_v18_apply, val_main_v17_apply, val_main_v16_apply,
    val_main_v8_apply, val_main_v7_apply, val_main_v2_apply, val_main_v1_apply, val_main_v0_apply, rows]
  have e : idx_main_v16 (idx_main_v22 (ix3 b q k)) = ix2 b q := by
    funext a
    match a with
    | ⟨0, _⟩ => rfl
    | ⟨1, _⟩ => rfl
  rw [e, sq]
  unfold rowHidden normRow modAt
  refine congrArg₂ (· + ·) (congrArg₂ (· * ·) (congrArg₂ (· * ·) rfl (congrArg x1 ?_)) (congrArg₂ (· + ·) rfl (congrArg x2 ?_))) (congrArg x2 ?_)
  all_goals
    funext a
    apply Fin.ext
    fin_cases a
    all_goals simp
    all_goals omega

/-- The reference's product, before its columns are parted. -/
theorem product_apply (n : Fin 16384) (d : Fin 4416) :
    val_main_v34 (F := Ideal) x0 x1 x2 x3 (ix2 n d) = projAt x0 x1 x2 x3 n d := by
  have hn := n.isLt
  have hd := d.isLt
  rw [val_main_v34_apply, val_main_v33_apply]
  unfold projAt
  refine Finset.sum_congr rfl fun k _ => congrArg₂ (· * ·) ((congrArg (val_main_v32 (F := Ideal) x0 x1 x2) ?_).trans
    (hidden_apply x0 x1 x2 (⟨n.val / 2048, by omega⟩ : Fin 8) (⟨n.val % 2048, by omega⟩ : Fin 2048) k n (by show n.val = n.val / 2048 * 2048 + n.val % 2048; omega)))
    (congrArg x3 ?_)
  all_goals
    funext a
    apply Fin.ext
    fin_cases a
    all_goals simp
    all_goals omega

/-- The reference's first result. -/
theorem value_first : val_main_v35 (F := Ideal) x0 x1 x2 x3 = fun i : S16384x2560.Idx =>
    projAt x0 x1 x2 x3 (i 0) (firstCol (i 1)) := by
  funext i
  obtain ⟨n, d, rfl⟩ : ∃ (n : Fin 16384) (d : Fin 2560), i = ix2 n d := ⟨i 0, i 1, by idx_ext⟩
  rw [val_main_v35_apply]
  refine Eq.trans (congrArg _ ?_) (product_apply x0 x1 x2 x3 n (firstCol d))
  funext a
  apply Fin.ext
  fin_cases a
  all_goals simp [firstCol]

/-- The reference's second result. -/
theorem value_last : val_main_v36 (F := Ideal) x0 x1 x2 x3 = fun i : S16384x1856.Idx =>
    projAt x0 x1 x2 x3 (i 0) (lastCol (i 1)) := by
  funext i
  obtain ⟨n, d, rfl⟩ : ∃ (n : Fin 16384) (d : Fin 1856), i = ix2 n d := ⟨i 0, i 1, by idx_ext⟩
  rw [val_main_v36_apply]
  refine Eq.trans (congrArg _ ?_) (product_apply x0 x1 x2 x3 n (lastCol d))
  funext a
  apply Fin.ext
  fin_cases a
  all_goals simp [lastCol]
  all_goals omega

end Cert.Reference3Ideal.Own

end
-- ==== Proof.ProjInAttn.lean ====
/-
  The projection into the attention: the kernel's array and the reference's.
-/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.ProjInAb
public import Idealize.ShloMosaic.Lib.Pipeline.ValueKit

@[expose] public section

set_option maxRecDepth 16384

noncomputable section

namespace Cert.Kernel4Ideal.Own

open Idealize.ShloMosaic Idealize.ShloMosaic.TcCoe Idealize.ShloMosaic.StableHlo
open Idealize.ShloMosaic.Pipeline (Dat)
open Cert.Kernel4Ideal.Gen Cert.Proj

variable (m : (ℓ : Loc nD τ sig) → Buf (Elt Ideal) ℓ) (c : Dev nD)

/-- The gains at the region's entry. -/
theorem gains_in : V m c main_v1 = (shapeCast S1x1024
    (m ((c.tc : Thread nD τ).loc main_arg1) : FVec Ideal S1024 .f32) shapeCasts_S1024_S1x1024 : FVec Ideal S1x1024 .f32) := by
  simp only [V, hostOps0]
  after_results_simp
  rfl

/-- The weights at the region's entry are the argument's. -/
theorem weights_in : V m c main_v0 = (m ((c.tc : Thread nD τ).loc main_arg3) : FVec Ideal S1024x3072 .f32) := by
  simp only [V, hostOps0]
  after_results_simp
  rfl

/-- Where each window's block lies at a point. -/
theorem places : ∀ t : Fin cfg0.N,
    win0_0.index t = ![t.val, 0] ∧ win0_1.index t = ![0, 0] ∧ win0_2.index t = ![t.val / 8, 0, 0]
      ∧ win0_3.index t = ![t.val / 8, 0, 1] ∧ win0_4.index t = ![0, 0] ∧ win0_5.index t = ![t.val, 0] :=
  (by decide +kernel : ∀ t : Fin grid0.N, _)

theorem in_rows (t : Fin cfg0.N) (r : Fin 256) (d : Fin 1024) (n : Fin 16384) (hn : n.val = t.val * 256 + r.val) :
    iblk m c 0 t (ix2 r d) = m ((c.tc : Thread nD τ).loc main_arg0) (ix2 n d) := by
  rw [← V_main_arg0 m c]
  blk_simp [iblk, places t]
  blk_ext [places t]

theorem in_gains (t : Fin cfg0.N) (d : Fin 1024) :
    iblk m c 1 t (ix2 (0 : Fin 1) d) = m ((c.tc : Thread nD τ).loc main_arg1) (ix1 d) := by
  have e : iblk m c 1 t (ix2 (0 : Fin 1) d) = V m c main_v1 (ix2 (0 : Fin 1) d) := by
    blk_simp [iblk, places t]
    blk_ext [places t]
  rw [e, gains_in]
  refine shapeCast_apply _ _ _ (ix1 d) ?_
  simp [Shape.rowMajor_val_one, Shape.rowMajor_val_two]

theorem in_shift (t : Fin cfg0.N) (d : Fin 1024) (n : Fin 16384) (hn : n.val / 256 = t.val) :
    iblk m c 2 t (ix3 (0 : Fin 1) (0 : Fin 1) d) = modAt (m ((c.tc : Thread nD τ).loc main_arg2)) 0 n d := by
  unfold modAt
  rw [← V_main_arg2 m c]
  blk_simp [iblk, places t]
  blk_ext [places t]

theorem in_scale (t : Fin cfg0.N) (d : Fin 1024) (n : Fin 16384) (hn : n.val / 256 = t.val) :
    iblk m c 3 t (ix3 (0 : Fin 1) (0 : Fin 1) d) = modAt (m ((c.tc : Thread nD τ).loc main_arg2)) 1024 n d := by
  unfold modAt
  rw [← V_main_arg2 m c]
  blk_simp [iblk, places t]
  blk_ext [places t]

/-- A point's normalised and modulated rows are the arrays'. -/
theorem in_hidden (t : Fin cfg0.N) (r : Fin 256) (n : Fin 16384) (hn : n.val = t.val * 256 + r.val) :
    blockHidden (iblk m c 0 t) (iblk m c 1 t) (iblk m c 2 t) (iblk m c 3 t) r
      = rowHidden (m ((c.tc : Thread nD τ).loc main_arg0)) (m ((c.tc : Thread nD τ).loc main_arg1))
        (m ((c.tc : Thread nD τ).loc main_arg2)) n := by
  have hr := r.isLt
  unfold blockHidden rowHidden
  refine congr (congr (congr (congrArg normRow (funext fun k => ?_)) (funext fun k => ?_)) (funext fun k => ?_)) (funext fun k => ?_)
  · exact in_rows m c t r k n hn
  · exact in_gains m c t k
  · exact in_shift m c t k n (by omega)
  · exact in_scale m c t k n (by omega)

theorem in_weights (t : Fin cfg0.N) (k : Fin 1024) (d : Fin 3072) :
    iblk m c 4 t (ix2 k d) = m ((c.tc : Thread nD τ).loc main_arg3) (ix2 k d) := by
  rw [← weights_in m c]
  blk_simp [iblk, places t]
  blk_ext [places t]

variable (x : FVec Ideal S256x1024 .f32) (g : FVec Ideal S1x1024 .f32) (sh sc : FVec Ideal S1x1x1024 .f32)
  (w : FVec Ideal S1024x3072 .bf16) (r : Fin 256)

/-- An entry of what the body leaves: it normalises and modulates as the other projection's does. -/
theorem block_apply (d : Fin 3072) : out0_5 (F := Ideal) x g sh sc w (ix2 r d) = blockProj x g sh sc w r d := by
  unfold blockProj
  unfold out0_5
  frame_out
  show matmul dot_S256x1024_S1024x3072_S256x3072_1_0_0_1_n_n none (Cert.Kernel3Ideal.Gen.k0_pay1 (F := Ideal) x g sh sc)
    (shapeCast S1024x3072 w shapeCasts_S1024x3072_S1024x3072) (constant S256x3072 .f32 0x00000000#32) (ix2 r d) = _
  pointwise []
  exact Finset.sum_congr rfl fun k _ => congrArg (· * _) (Cert.Kernel3Ideal.Own.hidden_apply x g sh sc r k)

/-- The result array after the run. -/
theorem final : (dats m 0 c).arrAt 5 cfg0.N = fun i : S16384x3072.Idx =>
    projAt (m ((c.tc : Thread nD τ).loc main_arg0)) (m ((c.tc : Thread nD τ).loc main_arg1))
      (m ((c.tc : Thread nD τ).loc main_arg2)) (m ((c.tc : Thread nD τ).loc main_arg3)) (i 0) (i 1) := by
  refine Dat.arrAt_eq_of_covers (dats m 0 c) 5 _ (by decide +kernel) (fun t _ z => ?_)
  blk_simp
  rw [after0_5]
  obtain ⟨r, d, rfl⟩ : ∃ (r : Fin 256) (d : Fin 3072), z = ix2 r d := ⟨z 0, z 1, by idx_ext⟩
  rw [block_apply]
  have ht : t.val < 64 := t.isLt
  have key : ∀ (n : Fin 16384) (d' : Fin 3072), n.val = t.val * 256 + r.val → d'.val = d.val →
      blockProj (iblk m c 0 t) (iblk m c 1 t) (iblk m c 2 t) (iblk m c 3 t) (iblk m c 4 t) r d = projAt
      (m ((c.tc : Thread nD τ).loc main_arg0)) (m ((c.tc : Thread nD τ).loc main_arg1))
      (m ((c.tc : Thread nD τ).loc main_arg2)) (m ((c.tc : Thread nD τ).loc main_arg3)) n d' := by
    intro n d' hn hd
    obtain rfl : d' = d := Fin.ext hd
    unfold blockProj projAt
    exact Finset.sum_congr rfl fun k _ => congrArg₂ (· * ·) (congrFun (in_hidden m c t r n hn) k) (in_weights m c t k _)
  refine key _ _ ?_ ?_
  · blk_simp [places t]
  · blk_simp [places t]

end Cert.Kernel4Ideal.Own

namespace Cert.Reference4Ideal.Own

open Idealize.ShloMosaic Idealize.ShloMosaic.TcCoe Cert.Reference4Ideal.Gen Cert.Reference4Ideal.Read Cert.Proj

variable [Cert.Reference4Ideal.Facts₀] [Cert.Reference4Ideal.Facts]
variable (x0 : FVec Ideal S16384x1024 .f32) (x1 : FVec Ideal S1024 .f32) (x2 : FVec Ideal S8x1x6144 .f32)
  (x3 : FVec Ideal S1024x3072 .f32)

/-- The rows normalised and modulated, by the same operations as the other projection's. -/
theorem hidden_apply (b : Fin 8) (q : Fin 2048) (k : Fin 1024) (n : Fin 16384) (hn : n.val = b.val * 2048 + q.val) :
    val_main_v32 (F := Ideal) x0 x1 x2 (ix3 b q k) = rowHidden x0 x1 x2 n k :=
  Cert.Reference3Ideal.Own.hidden_apply x0 x1 x2 b q k n hn

/-- The reference's product. -/
theorem product_apply (n : Fin 16384) (d : Fin 3072) :
    val_main_v34 (F := Ideal) x0 x1 x2 x3 (ix2 n d) = projAt x0 x1 x2 x3 n d := by
  have hn := n.isLt
  have hd := d.isLt
  rw [val_main_v34_apply, val_main_v33_apply]
  unfold projAt
  refine Finset.sum_congr rfl fun k _ => congrArg₂ (· * ·) ((congrArg (val_main_v32 (F := Ideal) x0 x1 x2) ?_).trans
    (hidden_apply x0 x1 x2 (⟨n.val / 2048, by omega⟩ : Fin 8) (⟨n.val % 2048, by omega⟩ : Fin 2048) k n (by show n.val = n.val / 2048 * 2048 + n.val % 2048; omega)))
    (congrArg x3 ?_)
  all_goals
    funext a
    apply Fin.ext
    fin_cases a
    all_goals simp
    all_goals omega

/-- The reference's result. -/
theorem value : val_main_v35 (F := Ideal) x0 x1 x2 x3 = fun i : S16384x3072.Idx =>
    projAt x0 x1 x2 x3 (i 0) (i 1) := by
  funext i
  obtain ⟨n, d, rfl⟩ : ∃ (n : Fin 16384) (d : Fin 3072), i = ix2 n d := ⟨i 0, i 1, by idx_ext⟩
  exact product_apply x0 x1 x2 x3 n d

end Cert.Reference4Ideal.Own

end
-- ==== Proof.ProjOutAb.lean ====
/-
  The projection out of the two scans, added to the layer's input under a gate: the kernel's array and the reference's.
-/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.ProjMath
public import Idealize.ShloMosaic.Lib.Pipeline.ValueKit

@[expose] public section

set_option maxRecDepth 16384

noncomputable section

namespace Cert.Kernel5Ideal.Own

open Idealize.ShloMosaic Idealize.ShloMosaic.TcCoe Idealize.ShloMosaic.StableHlo
open Idealize.ShloMosaic.Pipeline (Dat)
open Cert.Kernel5Ideal.Gen Cert.Proj

variable (m : (ℓ : Loc nD τ sig) → Buf (Elt Ideal) ℓ) (c : Dev nD)

/-- The weights' upper half at the region's entry. -/
theorem upper_in : V m c main_v1 = (extractStridedSlice S512x1024 ![0, 0]
    (m ((c.tc : Thread nD τ).loc main_arg4) : FVec Ideal S1024x1024 .f32) slices_S1024x1024_S512x1024_0_0 : FVec Ideal S512x1024 .f32) := by
  simp only [V, hostOps0]
  after_results_simp
  rfl

/-- The weights' lower half at the region's entry. -/
theorem lower_in : V m c main_v2 = (extractStridedSlice S512x1024 ![512, 0]
    (m ((c.tc : Thread nD τ).loc main_arg4) : FVec Ideal S1024x1024 .f32) slices_S1024x1024_S512x1024_512_0 : FVec Ideal S512x1024 .f32) := by
  simp only [V, hostOps0]
  after_results_simp
  rfl

/-- Where each window's block lies at a point. -/
theorem places : ∀ t : Fin cfg0.N,
    win0_0.index t = ![t.val, 0] ∧ win0_1.index t = ![t.val / 4, 0, 2] ∧ win0_2.index t = ![t.val, 0]
      ∧ win0_3.index t = ![t.val, 0] ∧ win0_4.index t = ![0, 0] ∧ win0_5.index t = ![0, 0] ∧ win0_6.index t = ![t.val, 0] :=
  (by decide +kernel : ∀ t : Fin grid0.N, _)

theorem in_rows (t : Fin cfg0.N) (r : Fin 512) (d : Fin 1024) (n : Fin 16384) (hn : n.val = t.val * 512 + r.val) :
    iblk m c 0 t (ix2 r d) = m ((c.tc : Thread nD τ).loc main_arg0) (ix2 n d) := by
  rw [← V_main_arg0 m c]
  blk_simp [iblk, places t]
  blk_ext [places t]

theorem in_gate (t : Fin cfg0.N) (d : Fin 1024) (n : Fin 16384) (hn : n.val / 512 = t.val) :
    iblk m c 1 t (ix3 (0 : Fin 1) (0 : Fin 1) d) = modAt (m ((c.tc : Thread nD τ).loc main_arg1)) 2048 n d := by
  unfold modAt
  rw [← V_main_arg1 m c]
  blk_simp [iblk, places t]
  blk_ext [places t]

theorem in_left (t : Fin cfg0.N) (r k : Fin 512) (n : Fin 16384) (hn : n.val = t.val * 512 + r.val) :
    iblk m c 2 t (ix2 r k) = m ((c.tc : Thread nD τ).loc main_arg2) (ix2 n k) := by
  rw [← V_main_arg2 m c]
  blk_simp [iblk, places t]
  blk_ext [places t]

theorem in_right (t : Fin cfg0.N) (r k : Fin 512) (n : Fin 16384) (hn : n.val = t.val * 512 + r.val) :
    iblk m c 3 t (ix2 r k) = m ((c.tc : Thread nD τ).loc main_arg3) (ix2 n k) := by
  rw [← V_main_arg3 m c]
  blk_simp [iblk, places t]
  blk_ext [places t]

theorem in_upper (t : Fin cfg0.N) (k : Fin 512) (d : Fin 1024) :
    iblk m c 4 t (ix2 k d) = m ((c.tc : Thread nD τ).loc main_arg4) (ix2 (⟨k.val, by omega⟩ : Fin 1024) d) := by
  have e : iblk m c 4 t (ix2 k d) = V m c main_v1 (ix2 k d) := by
    blk_simp [iblk, places t]
    blk_ext [places t]
  rw [e, upper_in]
  refine extractStridedSlice_apply _ _ _ _ _ ?_
  intro a
  match a with
  | ⟨0, _⟩ => exact (Nat.zero_add _).symm
  | ⟨1, _⟩ => exact (Nat.zero_add _).symm

theorem in_lower (t : Fin cfg0.N) (k : Fin 512) (d : Fin 1024) :
    iblk m c 5 t (ix2 k d) = m ((c.tc : Thread nD τ).loc main_arg4) (ix2 (⟨512 + k.val, by omega⟩ : Fin 1024) d) := by
  have e : iblk m c 5 t (ix2 k d) = V m c main_v2 (ix2 k d) := by
    blk_simp [iblk, places t]
    blk_ext [places t]
  rw [e, lower_in]
  refine extractStridedSlice_apply _ _ _ _ _ ?_
  intro a
  match a with
  | ⟨0, _⟩ => rfl
  | ⟨1, _⟩ => exact (Nat.zero_add _).symm

variable (x : FVec Ideal S512x1024 .f32) (g : FVec Ideal S1x1x1024 .f32) (ya yb : FVec Ideal S512x512 .bf16)
  (wa wb : FVec Ideal S512x1024 .bf16) (r : Fin 512) (d : Fin 1024)

/-- An entry of a block from its operands: the input and, under the gate, the two halves' products. -/
def blockAt : EReal := x (ix2 r d) + g (ix3 (0 : Fin 1) (0 : Fin 1) d) *
  ((∑ k : Fin 512, ya (ix2 r k) * wa (ix2 k d)) + ∑ k : Fin 512, yb (ix2 r k) * wb (ix2 k d))

/-- An entry of what the body leaves. -/
theorem block_apply : out0_6 (F := Ideal) x g ya yb wa wb (ix2 r d) = blockAt x g ya yb wa wb r d := by
  unfold blockAt
  unfold out0_6
  frame_out
  pointwise [k0_pay1]

/-- The result array after the run. -/
theorem final : (dats m 0 c).arrAt 6 cfg0.N = fun i : S16384x1024.Idx =>
    outAt (m ((c.tc : Thread nD τ).loc main_arg0)) (m ((c.tc : Thread nD τ).loc main_arg1))
      (joined (m ((c.tc : Thread nD τ).loc main_arg2)) (m ((c.tc : Thread nD τ).loc main_arg3)))
      (m ((c.tc : Thread nD τ).loc main_arg4)) (i 0) (i 1) := by
  refine Dat.arrAt_eq_of_covers (dats m 0 c) 6 _ (by decide +kernel) (fun t _ z => ?_)
  blk_simp
  rw [after0_6]
  obtain ⟨r, d, rfl⟩ : ∃ (r : Fin 512) (d : Fin 1024), z = ix2 r d := ⟨z 0, z 1, by idx_ext⟩
  rw [block_apply]
  have ht : t.val < 32 := t.isLt
  have key : ∀ (n : Fin 16384) (d' : Fin 1024), n.val = t.val * 512 + r.val → d'.val = d.val →
      blockAt (iblk m c 0 t) (iblk m c 1 t) (iblk m c 2 t) (iblk m c 3 t) (iblk m c 4 t) (iblk m c 5 t) r d = outAt
      (m ((c.tc : Thread nD τ).loc main_arg0)) (m ((c.tc : Thread nD τ).loc main_arg1))
      (joined (m ((c.tc : Thread nD τ).loc main_arg2)) (m ((c.tc : Thread nD τ).loc main_arg3)))
      (m ((c.tc : Thread nD τ).loc main_arg4)) n d' := by
    intro n d' hn hd
    obtain rfl : d' = d := Fin.ext hd
    unfold outAt
    rw [sum_halves]
    exact congrArg₂ (· + ·) (in_rows m c t r _ n hn) (congrArg₂ (· * ·) (in_gate m c t _ n (by omega))
      (congrArg₂ (· + ·) (Finset.sum_congr rfl fun k _ => congrArg₂ (· * ·) ((in_left m c t r k n hn).trans (joined_left _ _ n k).symm) (in_upper m c t k _))
        (Finset.sum_congr rfl fun k _ => congrArg₂ (· * ·) ((in_right m c t r k n hn).trans (joined_right _ _ n k).symm) (in_lower m c t k _))))
  refine key _ _ ?_ ?_
  · blk_simp [places t]
  · blk_simp [places t]

end Cert.Kernel5Ideal.Own

namespace Cert.Reference5Ideal.Own

open Idealize.ShloMosaic Idealize.ShloMosaic.TcCoe Cert.Reference5Ideal.Read Cert.Proj

variable [Cert.Reference5Ideal.Facts₀] [Cert.Reference5Ideal.Facts]
variable (x0 : FVec Ideal S16384x1024 .f32) (x1 : FVec Ideal S8x1x6144 .f32) (x2 x3 : FVec Ideal S16384x512 .bf16)
  (x4 : FVec Ideal S1024x1024 .f32)

/-- The two scans' outputs side by side. -/
theorem joined_apply (n : Fin 16384) (k : Fin 1024) : val_main_v0 (F := Ideal) x2 x3 (ix2 n k) = joined x2 x3 n k := by
  have hk := k.isLt
  unfold val_main_v0 joined
  by_cases h : k.val < 512
  · rw [dif_pos h]
    exact concatenate_pair_apply_left (s₁ := S16384x512) (s₂ := S16384x512) _ x2 x3 _ (ix2 n k) rfl (ix2 n (⟨k.val, h⟩ : Fin 512)) (fun b => match b with
      | ⟨0, _⟩ => rfl
      | ⟨1, _⟩ => rfl)
  · rw [dif_neg h]
    refine concatenate_pair_apply_right (s₁ := S16384x512) (s₂ := S16384x512) _ x2 x3 _ (ix2 n k) rfl rfl (ix2 n (⟨k.val - 512, by omega⟩ : Fin 512)) (fun b hb => match b with
      | ⟨0, _⟩ => rfl
      | ⟨1, _⟩ => absurd rfl hb) ?_
    show k.val - 512 + 512 = k.val
    omega

/-- The reference's result. -/
theorem value : val_main_v21 (F := Ideal) x0 x1 x2 x3 x4 = fun i : S16384x1024.Idx =>
    outAt x0 x1 (joined x2 x3) x4 (i 0) (i 1) := by
  funext i
  obtain ⟨n, d, rfl⟩ : ∃ (n : Fin 16384) (d : Fin 1024), i = ix2 n d := ⟨i 0, i 1, by idx_ext⟩
  have hn := n.isLt
  have hd := d.isLt
  simp only [val_main_v21_apply, val_main_v20_apply, val_main_v19_apply, val_main_v18_apply, val_main_v17_apply,
    val_main_v13_apply, val_main_v7_apply, val_main_v4_apply, val_main_v3_apply, val_main_v2_apply, val_main_v1_apply]
  unfold outAt modAt
  refine congrArg₂ (· + ·) (congrArg x0 ?_) (congrArg₂ (· * ·) (congrArg x1 ?_) (Finset.sum_congr rfl fun k _ =>
    congrArg₂ (· * ·) ((congrArg (val_main_v0 (F := Ideal) x2 x3) ?_).trans (joined_apply x2 x3 n k)) (congrArg x4 ?_)))
  all_goals
    funext a
    apply Fin.ext
    fin_cases a
    all_goals simp
    all_goals omega

end Cert.Reference5Ideal.Own

end
-- ==== Proof.ProjOutAttn.lean ====
/-
  The projection out of the attention, added to the layer's input under a gate: the kernel's array and the
  reference's.
-/
module

public import proofs.«01_k».proof.Proof.Gen.Kernel6Ideal.Value
public import proofs.«01_k».proof.Proof.Gen.Reference6Ideal.Run
public import proofs.«01_k».proof.Proof.Gen.Reference6Ideal.Read
public import proofs.«01_k».proof.Proof.ProjMath
public import Idealize.ShloMosaic.Lib.Pipeline.ValueKit

@[expose] public section

set_option maxRecDepth 16384

noncomputable section

namespace Cert.Kernel6Ideal.Own

open Idealize.ShloMosaic Idealize.ShloMosaic.TcCoe Idealize.ShloMosaic.StableHlo
open Idealize.ShloMosaic.Pipeline (Dat)
open Cert.Kernel6Ideal.Gen Cert.Proj

variable (m : (ℓ : Loc nD τ sig) → Buf (Elt Ideal) ℓ) (c : Dev nD)

/-- The weights at the region's entry are the argument's. -/
theorem weights_in : V m c main_v0 = (m ((c.tc : Thread nD τ).loc main_arg3) : FVec Ideal S1024x1024 .f32) := by
  simp only [V, hostOps0]
  after_results_simp
  rfl

/-- Where each window's block lies at a point. -/
theorem places : ∀ t : Fin cfg0.N,
    win0_0.index t = ![t.val, 0] ∧ win0_1.index t = ![t.val / 4, 0, 2] ∧ win0_2.index t = ![t.val, 0]
      ∧ win0_3.index t = ![0, 0] ∧ win0_4.index t = ![t.val, 0] :=
  (by decide +kernel : ∀ t : Fin grid0.N, _)

theorem in_rows (t : Fin cfg0.N) (r : Fin 512) (d : Fin 1024) (n : Fin 16384) (hn : n.val = t.val * 512 + r.val) :
    iblk m c 0 t (ix2 r d) = m ((c.tc : Thread nD τ).loc main_arg0) (ix2 n d) := by
  rw [← V_main_arg0 m c]
  blk_simp [iblk, places t]
  blk_ext [places t]

theorem in_gate (t : Fin cfg0.N) (d : Fin 1024) (n : Fin 16384) (hn : n.val / 512 = t.val) :
    iblk m c 1 t (ix3 (0 : Fin 1) (0 : Fin 1) d) = modAt (m ((c.tc : Thread nD τ).loc main_arg1)) 2048 n d := by
  unfold modAt
  rw [← V_main_arg1 m c]
  blk_simp [iblk, places t]
  blk_ext [places t]

theorem in_values (t : Fin cfg0.N) (r : Fin 512) (k : Fin 1024) (n : Fin 16384) (hn : n.val = t.val * 512 + r.val) :
    iblk m c 2 t (ix2 r k) = m ((c.tc : Thread nD τ).loc main_arg2) (ix2 n k) := by
  rw [← V_main_arg2 m c]
  blk_simp [iblk, places t]
  blk_ext [places t]

theorem in_weights (t : Fin cfg0.N) (k d : Fin 1024) :
    iblk m c 3 t (ix2 k d) = m ((c.tc : Thread nD τ).loc main_arg3) (ix2 k d) := by
  rw [← weights_in m c]
  blk_simp [iblk, places t]
  blk_ext [places t]

variable (x : FVec Ideal S512x1024 .f32) (g : FVec Ideal S1x1x1024 .f32) (y : FVec Ideal S512x1024 .bf16)
  (w : FVec Ideal S1024x1024 .bf16) (r : Fin 512) (d : Fin 1024)

/-- An entry of a block from its operands: the input and, under the gate, the product. -/
def blockAt : EReal := x (ix2 r d) + g (ix3 (0 : Fin 1) (0 : Fin 1) d) * ∑ k : Fin 1024, y (ix2 r k) * w (ix2 k d)

/-- An entry of what the body leaves. -/
theorem block_apply :
    out0_4 (F := Ideal) x g y w (ix2 r d) = blockAt x g y w r d := by
  unfold blockAt
  unfold out0_4
  frame_out
  pointwise [k0_pay1]

/-- The result array after the run. -/
theorem final : (dats m 0 c).arrAt 4 cfg0.N = fun i : S16384x1024.Idx =>
    outAt (m ((c.tc : Thread nD τ).loc main_arg0)) (m ((c.tc : Thread nD τ).loc main_arg1))
      (fun n k => m ((c.tc : Thread nD τ).loc main_arg2) (ix2 n k)) (m ((c.tc : Thread nD τ).loc main_arg3)) (i 0) (i 1) := by
  refine Dat.arrAt_eq_of_covers (dats m 0 c) 4 _ (by decide +kernel) (fun t _ z => ?_)
  blk_simp
  rw [after0_4]
  obtain ⟨r, d, rfl⟩ : ∃ (r : Fin 512) (d : Fin 1024), z = ix2 r d := ⟨z 0, z 1, by idx_ext⟩
  rw [block_apply]
  have ht : t.val < 32 := t.isLt
  have key : ∀ (n : Fin 16384) (d' : Fin 1024), n.val = t.val * 512 + r.val → d'.val = d.val →
      blockAt (iblk m c 0 t) (iblk m c 1 t) (iblk m c 2 t) (iblk m c 3 t) r d = outAt
      (m ((c.tc : Thread nD τ).loc main_arg0)) (m ((c.tc : Thread nD τ).loc main_arg1))
      (fun n k => m ((c.tc : Thread nD τ).loc main_arg2) (ix2 n k)) (m ((c.tc : Thread nD τ).loc main_arg3)) n d' := by
    intro n d' hn hd
    obtain rfl : d' = d := Fin.ext hd
    unfold outAt
    refine congrArg₂ (· + ·) (in_rows m c t r _ n hn) (congrArg₂ (· * ·) (in_gate m c t _ n (by omega)) ?_)
    exact Finset.sum_congr rfl fun k _ => congrArg₂ (· * ·) (in_values m c t r k n hn) (in_weights m c t k _)
  refine key _ _ ?_ ?_
  · blk_simp [places t]
  · blk_simp [places t]

end Cert.Kernel6Ideal.Own

namespace Cert.Reference6Ideal.Own

open Idealize.ShloMosaic Idealize.ShloMosaic.TcCoe Cert.Reference6Ideal.Read Cert.Proj

variable [Cert.Reference6Ideal.Facts₀] [Cert.Reference6Ideal.Facts]
variable (x0 : FVec Ideal S16384x1024 .f32) (x1 : FVec Ideal S8x1x6144 .f32) (x2 : FVec Ideal S16384x1024 .bf16)
  (x3 : FVec Ideal S1024x1024 .f32)

/-- The reference's result. -/
theorem value : val_main_v20 (F := Ideal) x0 x1 x2 x3 = fun i : S16384x1024.Idx =>
    outAt x0 x1 (fun n k => x2 (ix2 n k)) x3 (i 0) (i 1) := by
  funext i
  obtain ⟨n, d, rfl⟩ : ∃ (n : Fin 16384) (d : Fin 1024), i = ix2 n d := ⟨i 0, i 1, by idx_ext⟩
  have hn := n.isLt
  have hd := d.isLt
  simp only [val_main_v20_apply, val_main_v19_apply, val_main_v18_apply, val_main_v17_apply, val_main_v16_apply,
    val_main_v12_apply, val_main_v6_apply, val_main_v3_apply, val_main_v2_apply, val_main_v1_apply, val_main_v0_apply]
  unfold outAt modAt
  refine congrArg₂ (· + ·) (congrArg x0 ?_) (congrArg₂ (· * ·) (congrArg x1 ?_) (Finset.sum_congr rfl fun k _ =>
    congrArg₂ (· * ·) (congrArg x2 ?_) (congrArg x3 ?_)))
  all_goals
    funext a
    apply Fin.ext
    fin_cases a
    all_goals simp
    all_goals omega

end Cert.Reference6Ideal.Own

end
-- ==== Proof.ProjClaim.lean ====
/-
  The claims about the four projections: the references leave their arguments and have no semaphore, and at the ideal
  instance each program's arrays are its reference's. No input is excluded.
-/
module

public import proofs.«01_k».proof.Defs
public import proofs.«01_k».proof.Proof.ProjInAb
public import proofs.«01_k».proof.Proof.ProjInAttn
public import proofs.«01_k».proof.Proof.ProjOutAb
public import proofs.«01_k».proof.Proof.ProjOutAttn

@[expose] public section

noncomputable section

namespace Cert.Proj

open Idealize.ShloMosaic Idealize.SL.Sem

/-- The projection into the scans: the reference leaves its arguments, and it has no semaphore. -/
theorem frame_in_ab : Cert.quiescent_Reference3Ideal (hReference3Ideal := Cert.Reference3Ideal.Gen.facts) := by
  intro m g _
  have no_sem : ∀ s : SemLoc Cert.Reference3Ideal.sig, False := by decide
  exact (θ_run _ _ _).mono (fun r h => ⟨fun c => (h c).2.2, funext fun s => (no_sem s.2).elim⟩) (Cert.Reference3Ideal.Value.run m g)

/-- The projection into the scans: the program and the reference leave the same arrays. -/
theorem in_ab : Cert.algebraic_Kernel3Ideal_Reference3Ideal (hKernel3Ideal := Cert.Kernel3Ideal.Gen.facts)
    (hReference3Ideal := Cert.Reference3Ideal.Gen.facts) := by
  intro m g m' g' _ hargs
  letI := Cert.Kernel3Ideal.Gen.facts
  letI := Cert.Reference3Ideal.Gen.facts
  refine ⟨fun c => Cert.Reference3Ideal.Read.val_main_v35 (F := Ideal) (m ((c.tc : Thread _ _).loc Cert.Kernel3Ideal.main_arg0))
    (m ((c.tc : Thread _ _).loc Cert.Kernel3Ideal.main_arg1))
    (m ((c.tc : Thread _ _).loc Cert.Kernel3Ideal.main_arg2))
    (m ((c.tc : Thread _ _).loc Cert.Kernel3Ideal.main_arg3)),
    fun c => Cert.Reference3Ideal.Read.val_main_v36 (F := Ideal) (m ((c.tc : Thread _ _).loc Cert.Kernel3Ideal.main_arg0))
    (m ((c.tc : Thread _ _).loc Cert.Kernel3Ideal.main_arg1))
    (m ((c.tc : Thread _ _).loc Cert.Kernel3Ideal.main_arg2))
    (m ((c.tc : Thread _ _).loc Cert.Kernel3Ideal.main_arg3)), ?_, ?_⟩
  · exact (θ_run _ _ _).mono (fun r h c => ⟨(h c).1.trans ((Cert.Kernel3Ideal.Own.final_first m c).trans (Cert.Reference3Ideal.Own.value_first _ _ _ _).symm),
      (h c).2.1.trans ((Cert.Kernel3Ideal.Own.final_last m c).trans (Cert.Reference3Ideal.Own.value_last _ _ _ _).symm),
      (h c).2.2⟩) (Cert.Kernel3Ideal.Value.run_blocks m g)
  · refine (θ_run _ _ _).mono (fun r h c => ?_) (Cert.Reference3Ideal.Value.run m' g')
    obtain ⟨e0, e1, e2, e3⟩ := hargs c
    exact ⟨(h c).1.trans ((Cert.Reference3Ideal.Read.val_main_v35_eq _ _ _ _).trans (congr (congr (congr (congrArg (Cert.Reference3Ideal.Read.val_main_v35 (F := Ideal)) e0) e1) e2) e3)),
      (h c).2.1.trans ((Cert.Reference3Ideal.Read.val_main_v36_eq _ _ _ _).trans (congr (congr (congr (congrArg (Cert.Reference3Ideal.Read.val_main_v36 (F := Ideal)) e0) e1) e2) e3)),
      (h c).2.2⟩

/-- The projection into the attention: the reference leaves its arguments, and it has no semaphore. -/
theorem frame_in_attn : Cert.quiescent_Reference4Ideal (hReference4Ideal := Cert.Reference4Ideal.Gen.facts) := by
  intro m g _
  have no_sem : ∀ s : SemLoc Cert.Reference4Ideal.sig, False := by decide
  exact (θ_run _ _ _).mono (fun r h => ⟨fun c => (h c).2, funext fun s => (no_sem s.2).elim⟩) (Cert.Reference4Ideal.Value.run m g)

/-- The projection into the attention: the program and the reference leave the same arrays. -/
theorem in_attn : Cert.algebraic_Kernel4Ideal_Reference4Ideal (hKernel4Ideal := Cert.Kernel4Ideal.Gen.facts)
    (hReference4Ideal := Cert.Reference4Ideal.Gen.facts) := by
  intro m g m' g' _ hargs
  letI := Cert.Kernel4Ideal.Gen.facts
  letI := Cert.Reference4Ideal.Gen.facts
  refine ⟨fun c => Cert.Reference4Ideal.Read.val_main_v35 (F := Ideal) (m ((c.tc : Thread _ _).loc Cert.Kernel4Ideal.main_arg0))
    (m ((c.tc : Thread _ _).loc Cert.Kernel4Ideal.main_arg1))
    (m ((c.tc : Thread _ _).loc Cert.Kernel4Ideal.main_arg2))
    (m ((c.tc : Thread _ _).loc Cert.Kernel4Ideal.main_arg3)), ?_, ?_⟩
  · exact (θ_run _ _ _).mono (fun r h c => ⟨(h c).1.trans ((Cert.Kernel4Ideal.Own.final m c).trans (Cert.Reference4Ideal.Own.value _ _ _ _).symm),
      (h c).2⟩) (Cert.Kernel4Ideal.Value.run_blocks m g)
  · refine (θ_run _ _ _).mono (fun r h c => ?_) (Cert.Reference4Ideal.Value.run m' g')
    obtain ⟨e0, e1, e2, e3⟩ := hargs c
    exact ⟨(h c).1.trans ((Cert.Reference4Ideal.Read.val_main_v35_eq _ _ _ _).trans (congr (congr (congr (congrArg (Cert.Reference4Ideal.Read.val_main_v35 (F := Ideal)) e0) e1) e2) e3)),
      (h c).2⟩

/-- The projection out of the scans: the reference leaves its arguments, and it has no semaphore. -/
theorem frame_out_ab : Cert.quiescent_Reference5Ideal (hReference5Ideal := Cert.Reference5Ideal.Gen.facts) := by
  intro m g _
  have no_sem : ∀ s : SemLoc Cert.Reference5Ideal.sig, False := by decide
  exact (θ_run _ _ _).mono (fun r h => ⟨fun c => (h c).2, funext fun s => (no_sem s.2).elim⟩) (Cert.Reference5Ideal.Value.run m g)

/-- The projection out of the scans: the program and the reference leave the same arrays. -/
theorem out_ab : Cert.algebraic_Kernel5Ideal_Reference5Ideal (hKernel5Ideal := Cert.Kernel5Ideal.Gen.facts)
    (hReference5Ideal := Cert.Reference5Ideal.Gen.facts) := by
  intro m g m' g' _ hargs
  letI := Cert.Kernel5Ideal.Gen.facts
  letI := Cert.Reference5Ideal.Gen.facts
  refine ⟨fun c => Cert.Reference5Ideal.Read.val_main_v21 (F := Ideal) (m ((c.tc : Thread _ _).loc Cert.Kernel5Ideal.main_arg0))
    (m ((c.tc : Thread _ _).loc Cert.Kernel5Ideal.main_arg1))
    (m ((c.tc : Thread _ _).loc Cert.Kernel5Ideal.main_arg2))
    (m ((c.tc : Thread _ _).loc Cert.Kernel5Ideal.main_arg3))
    (m ((c.tc : Thread _ _).loc Cert.Kernel5Ideal.main_arg4)), ?_, ?_⟩
  · exact (θ_run _ _ _).mono (fun r h c => ⟨(h c).1.trans ((Cert.Kernel5Ideal.Own.final m c).trans (Cert.Reference5Ideal.Own.value _ _ _ _ _).symm),
      (h c).2⟩) (Cert.Kernel5Ideal.Value.run_blocks m g)
  · refine (θ_run _ _ _).mono (fun r h c => ?_) (Cert.Reference5Ideal.Value.run m' g')
    obtain ⟨e0, e1, e2, e3, e4⟩ := hargs c
    exact ⟨(h c).1.trans ((Cert.Reference5Ideal.Read.val_main_v21_eq _ _ _ _ _).trans (congr (congr (congr (congr (congrArg (Cert.Reference5Ideal.Read.val_main_v21 (F := Ideal)) e0) e1) e2) e3) e4)),
      (h c).2⟩

/-- The projection out of the attention: the reference leaves its arguments, and it has no semaphore. -/
theorem frame_out_attn : Cert.quiescent_Reference6Ideal (hReference6Ideal := Cert.Reference6Ideal.Gen.facts) := by
  intro m g _
  have no_sem : ∀ s : SemLoc Cert.Reference6Ideal.sig, False := by decide
  exact (θ_run _ _ _).mono (fun r h => ⟨fun c => (h c).2, funext fun s => (no_sem s.2).elim⟩) (Cert.Reference6Ideal.Value.run m g)

/-- The projection out of the attention: the program and the reference leave the same arrays. -/
theorem out_attn : Cert.algebraic_Kernel6Ideal_Reference6Ideal (hKernel6Ideal := Cert.Kernel6Ideal.Gen.facts)
    (hReference6Ideal := Cert.Reference6Ideal.Gen.facts) := by
  intro m g m' g' _ hargs
  letI := Cert.Kernel6Ideal.Gen.facts
  letI := Cert.Reference6Ideal.Gen.facts
  refine ⟨fun c => Cert.Reference6Ideal.Read.val_main_v20 (F := Ideal) (m ((c.tc : Thread _ _).loc Cert.Kernel6Ideal.main_arg0))
    (m ((c.tc : Thread _ _).loc Cert.Kernel6Ideal.main_arg1))
    (m ((c.tc : Thread _ _).loc Cert.Kernel6Ideal.main_arg2))
    (m ((c.tc : Thread _ _).loc Cert.Kernel6Ideal.main_arg3)), ?_, ?_⟩
  · exact (θ_run _ _ _).mono (fun r h c => ⟨(h c).1.trans ((Cert.Kernel6Ideal.Own.final m c).trans (Cert.Reference6Ideal.Own.value _ _ _ _).symm),
      (h c).2⟩) (Cert.Kernel6Ideal.Value.run_blocks m g)
  · refine (θ_run _ _ _).mono (fun r h c => ?_) (Cert.Reference6Ideal.Value.run m' g')
    obtain ⟨e0, e1, e2, e3⟩ := hargs c
    exact ⟨(h c).1.trans ((Cert.Reference6Ideal.Read.val_main_v20_eq _ _ _ _).trans (congr (congr (congr (congrArg (Cert.Reference6Ideal.Read.val_main_v20 (F := Ideal)) e0) e1) e2) e3)),
      (h c).2⟩

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.AttnPre
public import proofs.«01_k».proof.Proof.AttnHost
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.ExpClaim
public import proofs.«01_k».proof.Proof.EndsClaim
public import proofs.«01_k».proof.Proof.PrepClaim
public import proofs.«01_k».proof.Proof.ProjClaim
public import Idealize.ShloMosaic.Adequacy
public import Idealize.ShloMosaic.Init

@[expose] public section

noncomputable section

namespace Cert.Proof

open Idealize.ShloMosaic Idealize.SL.Sem Cert.Kernel

/-- The reference declares no semaphore. -/
theorem no_sem : ∀ s : SemLoc Cert.ReferenceIdeal.sig, False := by decide

/-- The reference leaves its arguments, and it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, funext fun s => (no_sem s.2).elim⟩) (Cert.ReferenceIdeal.Value.run m g)

/-- Both programs leave the reference's array, where the queries, the keys and the table are real. -/
theorem attention : Cert.algebraic_KernelIdeal_ReferenceIdeal_pre_finite (hKernelIdeal := Cert.KernelIdeal.Gen.facts)
    (hReferenceIdeal := Cert.ReferenceIdeal.Gen.facts) (hPre_finite := Cert.Attn.pre_facts) := by
  intro m g m' g' hpre hargs
  letI := Cert.KernelIdeal.Gen.facts
  letI := Cert.ReferenceIdeal.Gen.facts
  have hR := fun c => @Cert.Attn.fn_real Cert.Attn.pre_facts _ _ _ _ _ (congrFun (hpre c) (fun a => a.elim0))
  refine ⟨fun c => Cert.ReferenceIdeal.Read.val_main_v104 (F := Ideal)
    (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3)), ?_, ?_⟩
  · refine (θ_run _ _ _).mono (fun r h c => ⟨(h.1 c).1.trans ?_, (h.1 c).2⟩) (Cert.KernelIdeal.Own.run m g)
    refine (Cert.KernelIdeal.Own.result m g c).trans ((Cert.ReferenceIdeal.Own.value _ _ _ _).trans ?_).symm
    funext i
    exact (Cert.Attn.OUT_eq _ _ (hR c).1 (hR c).2 _ _ _ _ _).symm
  · refine (θ_run _ _ _).mono (fun r h c => ⟨(h c).1.trans ?_, (h c).2⟩) (Cert.ReferenceIdeal.Value.run m' g')
    refine (Cert.ReferenceIdeal.Read.val_main_v104_eq _).trans ?_
    obtain ⟨e0, e1, e2, e3⟩ := hargs c
    exact congr (congr (congr (congrArg (Cert.ReferenceIdeal.Read.val_main_v104 (F := Ideal)) e0) e1) e2) e3

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Attn.pre_facts, Cert.Pre_routed.Gen.facts,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ,
    Cert.Experts.frame_machine, Cert.Experts.frame_ideal,
    fun m ρ _ => Cert.Experts.frame_reference m ρ, fun m ρ _ => Cert.Experts.frame_reference m ρ,
    fun m ρ _ => Cert.Kernel3.Gen.frame m ρ, fun m ρ _ => Cert.Kernel3Ideal.Gen.frame m ρ, Cert.Proj.frame_in_ab,
    fun m ρ _ => Cert.Kernel4.Gen.frame m ρ, fun m ρ _ => Cert.Kernel4Ideal.Gen.frame m ρ, Cert.Proj.frame_in_attn,
    fun m ρ _ => Cert.Kernel5.Gen.frame m ρ, fun m ρ _ => Cert.Kernel5Ideal.Gen.frame m ρ, Cert.Proj.frame_out_ab,
    fun m ρ _ => Cert.Kernel6.Gen.frame m ρ, fun m ρ _ => Cert.Kernel6Ideal.Gen.frame m ρ, Cert.Proj.frame_out_attn,
    fun m ρ _ => Cert.Kernel7.Gen.frame m ρ, fun m ρ _ => Cert.Kernel7Ideal.Gen.frame m ρ, Cert.Ends.frame_modulation,
    fun m ρ _ => Cert.Kernel8.Gen.frame m ρ, fun m ρ _ => Cert.Kernel8Ideal.Gen.frame m ρ, Cert.Ends.frame_scan_end,
    fun m ρ _ => Cert.Kernel9.Gen.frame m ρ, fun m ρ _ => Cert.Kernel9Ideal.Gen.frame m ρ, Cert.Prep.frame_scan_prep,
    trivial, attention, trivial, Cert.Experts.experts, trivial, Cert.Proj.in_ab, trivial, Cert.Proj.in_attn,
    trivial, Cert.Proj.out_ab, trivial, Cert.Proj.out_attn, trivial, Cert.Ends.modulation, trivial, Cert.Ends.scan_end,
    trivial, Cert.Prep.scan_prep⟩

end Cert.Proof
